-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 [hPre_experts_in_range : Cert.Pre_experts_in_range.Facts] (m : (ℓ : Loc Cert.Kernel6.nD Cert.Kernel6.τ Cert.Kernel6.sig) → Buf (Elt Bits) ℓ) : Prop :=
  ∀ c : Dev Cert.Kernel6.nD,
    (Cert.Pre_experts_in_range.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5))) = (fun _ => 1#1)

def Pre_Kernel6Ideal [hPre_experts_in_range : Cert.Pre_experts_in_range.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_experts_in_range.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_experts_in_range [hPre_experts_in_range : Cert.Pre_experts_in_range.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_experts_in_range.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] [hPre_experts_in_range : Cert.Pre_experts_in_range.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] [hPre_experts_in_range : Cert.Pre_experts_in_range.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_experts_in_range [hReference6Ideal : Cert.Reference6Ideal.Facts] [hPre_experts_in_range : Cert.Pre_experts_in_range.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_experts_in_range m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v18)) (v1 : (c : Dev Cert.Kernel5Ideal.nD) → Buf (Elt Ideal) ((c.tc : Thread Cert.Kernel5Ideal.nD Cert.Kernel5Ideal.τ).loc Cert.Kernel5Ideal.main_v19)) (v2 : (c : Dev Cert.Kernel5Ideal.nD) → Buf (Elt Ideal) ((c.tc : Thread Cert.Kernel5Ideal.nD Cert.Kernel5Ideal.τ).loc Cert.Kernel5Ideal.main_v17_0)) (v3 : (c : Dev Cert.Kernel5Ideal.nD) → Buf (Elt Ideal) ((c.tc : Thread Cert.Kernel5Ideal.nD Cert.Kernel5Ideal.τ).loc Cert.Kernel5Ideal.main_v20)) (v4 : (c : Dev Cert.Kernel5Ideal.nD) → Buf (Elt Ideal) ((c.tc : Thread Cert.Kernel5Ideal.nD Cert.Kernel5Ideal.τ).loc Cert.Kernel5Ideal.main_v21)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18) = v0 c
          ∧ r.2.mem ((c.tc : Thread Cert.Kernel5Ideal.nD Cert.Kernel5Ideal.τ).loc Cert.Kernel5Ideal.main_v19) = v1 c
          ∧ r.2.mem ((c.tc : Thread Cert.Kernel5Ideal.nD Cert.Kernel5Ideal.τ).loc Cert.Kernel5Ideal.main_v17_0) = v2 c
          ∧ r.2.mem ((c.tc : Thread Cert.Kernel5Ideal.nD Cert.Kernel5Ideal.τ).loc Cert.Kernel5Ideal.main_v20) = v3 c
          ∧ r.2.mem ((c.tc : Thread Cert.Kernel5Ideal.nD Cert.Kernel5Ideal.τ).loc Cert.Kernel5Ideal.main_v21) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_v38) = v1 c
          ∧ r.2.mem ((c.tc : Thread Cert.Reference5Ideal.nD Cert.Reference5Ideal.τ).loc Cert.Reference5Ideal.main_v39) = v2 c
          ∧ r.2.mem ((c.tc : Thread Cert.Reference5Ideal.nD Cert.Reference5Ideal.τ).loc Cert.Reference5Ideal.main_v40) = v3 c
          ∧ r.2.mem ((c.tc : Thread Cert.Reference5Ideal.nD Cert.Reference5Ideal.τ).loc Cert.Reference5Ideal.main_v42) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] [hPre_experts_in_range : Cert.Pre_experts_in_range.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v25) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores : Cert.Pre_finite_scores.Facts) (hPre_experts_in_range : Cert.Pre_experts_in_range.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6) (hPre_experts_in_range := hPre_experts_in_range)
    ∧ quiescent_Kernel6Ideal (hKernel6Ideal := hKernel6Ideal) (hPre_experts_in_range := hPre_experts_in_range)
    ∧ quiescent_Reference6Ideal (hReference6Ideal := hReference6Ideal)
    ∧ quiescent_Reference6Ideal_pre_experts_in_range (hReference6Ideal := hReference6Ideal) (hPre_experts_in_range := hPre_experts_in_range)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal) (hPre_experts_in_range := hPre_experts_in_range)
-- ==== Pre_experts_in_range.lean ====
abbrev S77824x2048 : Shape := ⟨2, ![77824, 2048]⟩
abbrev S8x2048x4096 : Shape := ⟨3, ![8, 2048, 4096]⟩
abbrev S8x4096x2048 : Shape := ⟨3, ![8, 4096, 2048]⟩
abbrev S152 : Shape := ⟨1, ![152]⟩
abbrev S_ : Shape := ⟨0, ![]⟩

class Facts : Prop where
  bcast_S_S152 : S_.BroadcastsInDim S152 (![] : Fin 0 → Fin S152.rank)

variable [Facts]

def fn {F : FTy → Type} [FloatOps F] (main_arg0 : FVec F S77824x2048 .bf16) (main_arg1 : FVec F S8x2048x4096 .bf16) (main_arg2 : FVec F S8x2048x4096 .bf16) (main_arg3 : FVec F S8x4096x2048 .bf16) (main_arg4 : IVec S152 32) (main_arg5 : IVec S152 32) : IVec S152 1 :=
  let main_c : IVec S_ 32 := constantI S_ 32 0#32
  let main_v0 : IVec S152 32 := broadcastInDim S152 ![] bcast_S_S152 main_c
  let main_v1 : IVec S152 1 := cmpi .sge main_arg4 main_v0
  let main_c_0 : IVec S_ 32 := constantI S_ 32 8#32
  let main_v2 : IVec S152 32 := broadcastInDim S152 ![] bcast_S_S152 main_c_0
  let main_v3 : IVec S152 1 := cmpi .slt main_arg4 main_v2
  let main_v4 : IVec S152 1 := andi main_v1 main_v3
  main_v4
-- ==== Pre_finite_scores.lean ====
abbrev S16x2304x4x128 : Shape := ⟨4, ![16, 2304, 4, 128]⟩
abbrev S16x2304x4x64 : Shape := ⟨4, ![16, 2304, 4, 64]⟩
abbrev S16x2304x64 : Shape := ⟨3, ![16, 2304, 64]⟩
abbrev S16x2304x1x64 : Shape := ⟨4, ![16, 2304, 1, 64]⟩
abbrev S16x2304x4x384 : Shape := ⟨4, ![16, 2304, 4, 384]⟩
abbrev S_ : Shape := ⟨0, ![]⟩

class Facts : Prop where
  bcast_S16x2304x64_S16x2304x1x64_0_1_3 : S16x2304x64.BroadcastsInDim S16x2304x1x64 (![0, 1, 3] : Fin 3 → Fin S16x2304x1x64.rank)
  bcast_S16x2304x1x64_S16x2304x4x64_0_1_2_3 : S16x2304x1x64.BroadcastsInDim S16x2304x4x64 (![0, 1, 2, 3] : Fin 4 → Fin S16x2304x4x64.rank)
  concatenates_S16x2304x4x128_S16x2304x4x64_S16x2304x4x128_S16x2304x4x64_S16x2304x4x384_d3 : Shape.Concatenates [S16x2304x4x128, S16x2304x4x64, S16x2304x4x128, S16x2304x4x64] S16x2304x4x384 3
  bcast_S_S16x2304x4x384 : S_.BroadcastsInDim S16x2304x4x384 (![] : Fin 0 → Fin S16x2304x4x384.rank)

variable [Facts]

def fn {F : FTy → Type} [FloatOps F] (main_arg0 : FVec F S16x2304x4x128 .f32) (main_arg1 : FVec F S16x2304x4x64 .f32) (main_arg2 : FVec F S16x2304x4x128 .f32) (main_arg3 : FVec F S16x2304x64 .f32) (main_arg4 : FVec F S16x2304x4x128 .f32) : IVec S16x2304x4x384 1 :=
  let main_v0 : FVec F S16x2304x1x64 .f32 := broadcastInDim S16x2304x1x64 ![0, 1, 3] bcast_S16x2304x64_S16x2304x1x64_0_1_3 main_arg3
  let main_v1 : FVec F S16x2304x4x64 .f32 := broadcastInDim S16x2304x4x64 ![0, 1, 2, 3] bcast_S16x2304x1x64_S16x2304x4x64_0_1_2_3 main_v0
  let main_v2 : FVec F S16x2304x4x384 .f32 := concatenate S16x2304x4x384 3 [⟨S16x2304x4x128, main_arg0⟩, ⟨S16x2304x4x64, main_arg1⟩, ⟨S16x2304x4x128, main_arg2⟩, ⟨S16x2304x4x64, main_v1⟩] concatenates_S16x2304x4x128_S16x2304x4x64_S16x2304x4x128_S16x2304x4x64_S16x2304x4x384_d3
  let main_v3 : FVec F S16x2304x4x384 .f32 := Host.absf main_v2
  let main_cst : FVec F S_ .f32 := constant S_ .f32 0x7F800000#32
  let main_v4 : FVec F S16x2304x4x384 .f32 := broadcastInDim S16x2304x4x384 ![] bcast_S_S16x2304x4x384 main_cst
  let main_v5 : IVec S16x2304x4x384 1 := cmpf .olt main_v3 main_v4
  main_v5
-- ==== Kernel.lean ====
abbrev S16x2304x4x128 : Shape := ⟨4, ![16, 2304, 4, 128]⟩
abbrev S16x2304x4x64 : Shape := ⟨4, ![16, 2304, 4, 64]⟩
abbrev S16x2304x64 : Shape := ⟨3, ![16, 2304, 64]⟩
abbrev S_ : Shape := ⟨0, ![]⟩
abbrev S16x2304x4x256 : Shape := ⟨4, ![16, 2304, 4, 256]⟩
abbrev S16x2304x1024 : Shape := ⟨3, ![16, 2304, 1024]⟩
abbrev S16x2304x1x64 : Shape := ⟨4, ![16, 2304, 1, 64]⟩
abbrev S16x2304x4x1 : Shape := ⟨4, ![16, 2304, 4, 1]⟩
abbrev S16x2304x4x127 : Shape := ⟨4, ![16, 2304, 4, 127]⟩
abbrev S16x2304x512 : Shape := ⟨3, ![16, 2304, 512]⟩
abbrev S1x256x1024 : Shape := ⟨3, ![1, 256, 1024]⟩
abbrev S1x2304x1024 : Shape := ⟨3, ![1, 2304, 1024]⟩
abbrev S1x256x512 : Shape := ⟨3, ![1, 256, 512]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩
abbrev S1x2304x256 : Shape := ⟨3, ![1, 2304, 256]⟩
abbrev S2304x256 : Shape := ⟨2, ![2304, 256]⟩
abbrev S256x2304 : Shape := ⟨2, ![256, 2304]⟩

abbrev nBuf : Space → Nat
  | .hbm => 26
  | .vmem => 8
  | .smem => 0
  | _ => 0

abbrev bufTy : (tb : Table) → Fin (tcTables nBuf tb) → BufTy
  | .hbm, ⟨0, _⟩ => ⟨S16x2304x4x128, .f32⟩
  | .hbm, ⟨1, _⟩ => ⟨S16x2304x4x64, .f32⟩
  | .hbm, ⟨2, _⟩ => ⟨S16x2304x4x128, .f32⟩
  | .hbm, ⟨3, _⟩ => ⟨S16x2304x64, .f32⟩
  | .hbm, ⟨4, _⟩ => ⟨S16x2304x4x128, .f32⟩
  | .hbm, ⟨5, _⟩ => ⟨S_, .f32⟩
  | .hbm, ⟨6, _⟩ => ⟨S16x2304x4x64, .f32⟩
  | .hbm, ⟨7, _⟩ => ⟨S16x2304x4x256, .f32⟩
  | .hbm, ⟨8, _⟩ => ⟨S_, .f32⟩
  | .hbm, ⟨9, _⟩ => ⟨S16x2304x4x256, .f32⟩
  | .hbm, ⟨10, _⟩ => ⟨S16x2304x4x256, .f32⟩
  | .hbm, ⟨11, _⟩ => ⟨S16x2304x4x256, .bf16⟩
  | .hbm, ⟨12, _⟩ => ⟨S16x2304x1024, .bf16⟩
  | .hbm, ⟨13, _⟩ => ⟨S16x2304x1x64, .f32⟩
  | .hbm, ⟨14, _⟩ => ⟨S16x2304x4x64, .f32⟩
  | .hbm, ⟨15, _⟩ => ⟨S16x2304x4x256, .f32⟩
  | .hbm, ⟨16, _⟩ => ⟨S16x2304x4x256, .bf16⟩
  | .hbm, ⟨17, _⟩ => ⟨S16x2304x1024, .bf16⟩
  | .hbm, ⟨18, _⟩ => ⟨S_, .f32⟩
  | .hbm, ⟨19, _⟩ => ⟨S16x2304x4x1, .f32⟩
  | .hbm, ⟨20, _⟩ => ⟨S_, .f32⟩
  | .hbm, ⟨21, _⟩ => ⟨S16x2304x4x127, .f32⟩
  | .hbm, ⟨22, _⟩ => ⟨S16x2304x4x256, .f32⟩
  | .hbm, ⟨23, _⟩ => ⟨S16x2304x4x256, .bf16⟩
  | .hbm, ⟨24, _⟩ => ⟨S16x2304x1024, .bf16⟩
  | .hbm, ⟨25, _⟩ => ⟨S16x2304x512, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x2304x1024, .bf16⟩
  | .local _ .vmem, ⟨3, _⟩ => ⟨S1x2304x1024, .bf16⟩
  | .local _ .vmem, ⟨4, _⟩ => ⟨S1x2304x1024, .bf16⟩
  | .local _ .vmem, ⟨5, _⟩ => ⟨S1x2304x1024, .bf16⟩
  | .local _ .vmem, ⟨6, _⟩ => ⟨S1x256x512, .bf16⟩
  | .local _ .vmem, ⟨7, _⟩ => ⟨S1x256x512, .bf16⟩
  | _, _ => ⟨S16x2304x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 9], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi c0_i32_0 arg1
  let c0_i32_1 : BitVec 32 := 0#32
  ![arg0.toNat, v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2304x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S16x2304x4x128 : Shape := ⟨4, ![16, 2304, 4, 128]⟩
abbrev S16x2304x4x64 : Shape := ⟨4, ![16, 2304, 4, 64]⟩
abbrev S16x2304x64 : Shape := ⟨3, ![16, 2304, 64]⟩
abbrev S16x2304x4x192 : Shape := ⟨4, ![16, 2304, 4, 192]⟩
abbrev S16x2304x1x64 : Shape := ⟨4, ![16, 2304, 1, 64]⟩
abbrev S16x256x4x192 : Shape := ⟨4, ![16, 256, 4, 192]⟩
abbrev S16x256x4x128 : Shape := ⟨4, ![16, 256, 4, 128]⟩
abbrev S16x4x256x256 : Shape := ⟨4, ![16, 4, 256, 256]⟩
abbrev S_ : Shape := ⟨0, ![]⟩
abbrev S16x4x256 : Shape := ⟨3, ![16, 4, 256]⟩
abbrev S16x4x256x1 : Shape := ⟨4, ![16, 4, 256, 1]⟩
abbrev S16x4x128x256 : Shape := ⟨4, ![16, 4, 128, 256]⟩
abbrev S16x2048x4x192 : Shape := ⟨4, ![16, 2048, 4, 192]⟩
abbrev S16x4x2048x2304 : Shape := ⟨4, ![16, 4, 2048, 2304]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩
abbrev S16x2048x4x128 : Shape := ⟨4, ![16, 2048, 4, 128]⟩
abbrev S16x2304x512 : Shape := ⟨3, ![16, 2304, 512]⟩

abbrev nBuf : Space → Nat
  | .hbm => 56
  | .vmem => 0
  | .smem => 0
  | _ => 0

abbrev bufTy : (tb : Table) → Fin (tcTables nBuf tb) → BufTy
  | .hbm, ⟨0, _⟩ => ⟨S16x2304x4x128, .f32⟩
  | .hbm, ⟨1, _⟩ => ⟨S16x2304x4x64, .f32⟩
  | .hbm, ⟨2, _⟩ => ⟨S16x2304x4x128, .f32⟩
  | .hbm, ⟨3, _⟩ => ⟨S16x2304x64, .f32⟩
  | .hbm, ⟨4, _⟩ => ⟨S16x2304x4x128, .f32⟩
  | .hbm, ⟨5, _⟩ => ⟨S16x2304x4x192, .f32⟩
  | .hbm, ⟨6, _⟩ => ⟨S16x2304x1x64, .f32⟩
  | .hbm, ⟨7, _⟩ => ⟨S16x2304x4x64, .f32⟩
  | .hbm, ⟨8, _⟩ => ⟨S16x2304x4x192, .f32⟩
  | .hbm, ⟨9, _⟩ => ⟨S16x256x4x192, .f32⟩
  | .hbm, ⟨10, _⟩ => ⟨S16x256x4x192, .f32⟩
  | .hbm, ⟨11, _⟩ => ⟨S16x256x4x128, .f32⟩
  | .hbm, ⟨12, _⟩ => ⟨S16x4x256x256, .f32⟩
  | .hbm, ⟨13, _⟩ => ⟨S_, .f32⟩
  | .hbm, ⟨14, _⟩ => ⟨S16x4x256x256, .f32⟩
  | .hbm, ⟨15, _⟩ => ⟨S16x4x256x256, .f32⟩
  | .hbm, ⟨16, _⟩ => ⟨S_, .f32⟩
  | .hbm, ⟨17, _⟩ => ⟨S16x4x256, .f32⟩
  | .hbm, ⟨18, _⟩ => ⟨S_, .f32⟩
  | .hbm, ⟨19, _⟩ => ⟨S16x4x256, .f32⟩
  | .hbm, ⟨20, _⟩ => ⟨S16x4x256, .f32⟩
  | .hbm, ⟨21, _⟩ => ⟨S16x4x256x1, .f32⟩
  | .hbm, ⟨22, _⟩ => ⟨S16x4x256x256, .f32⟩
  | .hbm, ⟨23, _⟩ => ⟨S16x4x256x256, .f32⟩
  | .hbm, ⟨24, _⟩ => ⟨S16x4x256x256, .f32⟩
  | .hbm, ⟨25, _⟩ => ⟨S_, .f32⟩
  | .hbm, ⟨26, _⟩ => ⟨S16x4x256, .f32⟩
  | .hbm, ⟨27, _⟩ => ⟨S16x4x256x1, .f32⟩
  | .hbm, ⟨28, _⟩ => ⟨S16x4x256x256, .f32⟩
  | .hbm, ⟨29, _⟩ => ⟨S16x4x256x256, .f32⟩
  | .hbm, ⟨30, _⟩ => ⟨S16x4x128x256, .f32⟩
  | .hbm, ⟨31, _⟩ => ⟨S16x256x4x128, .f32⟩
  | .hbm, ⟨32, _⟩ => ⟨S16x2048x4x192, .f32⟩
  | .hbm, ⟨33, _⟩ => ⟨S16x4x2048x2304, .f32⟩
  | .hbm, ⟨34, _⟩ => ⟨S_, .f32⟩
  | .hbm, ⟨35, _⟩ => ⟨S16x4x2048x2304, .f32⟩
  | .hbm, ⟨36, _⟩ => ⟨S16x4x2048x2304, .f32⟩
  | .hbm, ⟨37, _⟩ => ⟨S_, .f32⟩
  | .hbm, ⟨38, _⟩ => ⟨S16x4x2048, .f32⟩
  | .hbm, ⟨39, _⟩ => ⟨S_, .f32⟩
  | .hbm, ⟨40, _⟩ => ⟨S16x4x2048, .f32⟩
  | .hbm, ⟨41, _⟩ => ⟨S16x4x2048, .f32⟩
  | .hbm, ⟨42, _⟩ => ⟨S16x4x2048x1, .f32⟩
  | .hbm, ⟨43, _⟩ => ⟨S16x4x2048x2304, .f32⟩
  | .hbm, ⟨44, _⟩ => ⟨S16x4x2048x2304, .f32⟩
  | .hbm, ⟨45, _⟩ => ⟨S16x4x2048x2304, .f32⟩
  | .hbm, ⟨46, _⟩ => ⟨S_, .f32⟩
  | .hbm, ⟨47, _⟩ => ⟨S16x4x2048, .f32⟩
  | .hbm, ⟨48, _⟩ => ⟨S16x4x2048x1, .f32⟩
  | .hbm, ⟨49, _⟩ => ⟨S16x4x2048x2304, .f32⟩
  | .hbm, ⟨50, _⟩ => ⟨S16x4x2048x2304, .f32⟩
  | .hbm, ⟨51, _⟩ => ⟨S16x4x128x2048, .f32⟩
  | .hbm, ⟨52, _⟩ => ⟨S16x2048x4x128, .f32⟩
  | .hbm, ⟨53, _⟩ => ⟨S16x2304x4x128, .f32⟩
  | .hbm, ⟨54, _⟩ => ⟨S16x2304x512, .f32⟩
  | .hbm, ⟨55, _⟩ => ⟨S16x2304x512, .bf16⟩
  | _, _ => ⟨S16x2304x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel2.lean ====
abbrev S16x2304x2048 : Shape := ⟨3, ![16, 2304, 2048]⟩
abbrev S2048 : Shape := ⟨1, ![2048]⟩
abbrev S17x6x2048 : Shape := ⟨3, ![17, 6, 2048]⟩
abbrev S2048x5632 : Shape := ⟨2, ![2048, 5632]⟩
abbrev S_ : Shape := ⟨0, ![]⟩
abbrev S7x6x2048 : Shape := ⟨3, ![7, 6, 2048]⟩
abbrev S24x6x2048 : Shape := ⟨3, ![24, 6, 2048]⟩
abbrev S144x2048 : Shape := ⟨2, ![144, 2048]⟩
abbrev S36864x2048 : Shape := ⟨2, ![36864, 2048]⟩
abbrev S1x2048 : Shape := ⟨2, ![1, 2048]⟩
abbrev S36864x5632 : Shape := ⟨2, ![36864, 5632]⟩
abbrev S1024x2048 : Shape := ⟨2, ![1024, 2048]⟩
abbrev S2048x512 : Shape := ⟨2, ![2048, 512]⟩
abbrev S1024x512 : Shape := ⟨2, ![1024, 512]⟩
abbrev S256x2048 : Shape := ⟨2, ![256, 2048]⟩
abbrev S256 : Shape := ⟨1, ![256]⟩
abbrev S256x1 : Shape := ⟨2, ![256, 1]⟩

abbrev nBuf : Space → Nat
  | .hbm => 14
  | .vmem => 11
  | .smem => 0
  | _ => 0

abbrev bufTy : (tb : Table) → Fin (tcTables nBuf tb) → BufTy
  | .hbm, ⟨0, _⟩ => ⟨S16x2304x2048, .f32⟩
  | .hbm, ⟨1, _⟩ => ⟨S2048, .f32⟩
  | .hbm, ⟨2, _⟩ => ⟨S17x6x2048, .f32⟩
  | .hbm, ⟨3, _⟩ => ⟨S2048x5632, .f32⟩
  | .hbm, ⟨4, _⟩ => ⟨S2048x5632, .f32⟩
  | .hbm, ⟨5, _⟩ => ⟨S_, .f32⟩
  | .hbm, ⟨6, _⟩ => ⟨S7x6x2048, .f32⟩
  | .hbm, ⟨7, _⟩ => ⟨S24x6x2048, .f32⟩
  | .hbm, ⟨8, _⟩ => ⟨S144x2048, .f32⟩
  | .hbm, ⟨9, _⟩ => ⟨S36864x2048, .f32⟩
  | .hbm, ⟨10, _⟩ => ⟨S2048x5632, .bf16⟩
  | .hbm, ⟨11, _⟩ => ⟨S2048x5632, .bf16⟩
  | .hbm, ⟨12, _⟩ => ⟨S1x2048, .f32⟩
  | .hbm, ⟨13, _⟩ => ⟨S36864x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S144x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .bf16⟩
  | .local _ .vmem, ⟨9, _⟩ => ⟨S1024x512, .bf16⟩
  | .local _ .vmem, ⟨10, _⟩ => ⟨S1024x2048, .bf16⟩
  | _, _ => ⟨S16x2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![36, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) (c0_i32_9 : BitVec 32) : Fin 2 → Nat :=
  let arg0 : BitVec 32 := BitVec.ofNat 32 (i 0).val
  let c4_i32 : BitVec 32 := 4#32
  let v15 : BitVec 32 := Scalar.muli arg0 c4_i32
  let v16 : BitVec 32 := Scalar.addi v15 c0_i32_9
  let c0_i32_10 : BitVec 32 := 0#32
  let v18 : BitVec 1 := Scalar.cmpi .sgt v16 c0_i32_10
  let v19 : BitVec 32 := Scalar.extui v18
  let c0_i32_11 : BitVec 32 := 0#32
  let v20 : BitVec 1 := Scalar.cmpi .slt v16 c0_i32_11
  let v21 : BitVec 32 := Scalar.extui v20
  let v22 : BitVec 32 := Scalar.subi v19 v21
  let c9_i32 : BitVec 32 := 9#32
  let c0_i32_12 : BitVec 32 := 0#32
  let v23 : BitVec 1 := Scalar.cmpi .sgt c9_i32 c0_i32_12
  let v24 : BitVec 32 := Scalar.extui v23
  let c0_i32_13 : BitVec 32 := 0#32
  let v25 : BitVec 1 := Scalar.cmpi .slt c9_i32 c0_i32_13
  let v26 : BitVec 32 := Scalar.extui v25
  let v27 : BitVec 32 := Scalar.subi v24 v26
  let v28 : BitVec 1 := Scalar.cmpi .ne v22 v27
  let v29 : BitVec 32 := Scalar.remsi v16 c9_i32
  let c0_i32_14 : BitVec 32 := 0#32
  let v30 : BitVec 1 := Scalar.cmpi .ne v29 c0_i32_14
  let v31 : BitVec 1 := Scalar.andi v28 v30
  let v17 : BitVec 32 := Scalar.divsi v16 c9_i32
  let c1_i32 : BitVec 32 := 1#32
  let v32 : BitVec 32 := Scalar.subi v17 c1_i32
  let v33 : BitVec 32 := Scalar.select v31 v32 v17
  let c9_i32_15 : BitVec 32 := 9#32
  let v34 : BitVec 32 := Scalar.muli v33 c9_i32_15
  let v35 : BitVec 32 := Scalar.subi v16 v34
  let c1_i32_16 : BitVec 32 := 1#32
  let v36 : BitVec 1 := Scalar.cmpi .slt v35 c1_i32_16
  let c16_i32 : BitVec 32 := 16#32
  let v37 : BitVec 32 := Scalar.select v36 c16_i32 v33
  let c6_i32 : BitVec 32 := 6#32
  let v54 : BitVec 32 := Scalar.muli v37 c6_i32
  let c3_i32 : BitVec 32 := 3#32
  let v55 : BitVec 32 := Scalar.addi v54 c3_i32
  let v56 : Index := Scalar.indexCast v55
  let c0_24 : Index := 0#32
  ![v56.toNat, 0]
def k0_off2 (i : grid0.Coords) (c0_i32_9 : BitVec 32) : Fin 2 → Nat :=
  let arg0 : BitVec 32 := BitVec.ofNat 32 (i 0).val
  let c4_i32 : BitVec 32 := 4#32
  let v15 : BitVec 32 := Scalar.muli arg0 c4_i32
  let v16 : BitVec 32 := Scalar.addi v15 c0_i32_9
  let c0_i32_10 : BitVec 32 := 0#32
  let v18 : BitVec 1 := Scalar.cmpi .sgt v16 c0_i32_10
  let v19 : BitVec 32 := Scalar.extui v18
  let c0_i32_11 : BitVec 32 := 0#32
  let v20 : BitVec 1 := Scalar.cmpi .slt v16 c0_i32_11
  let v21 : BitVec 32 := Scalar.extui v20
  let v22 : BitVec 32 := Scalar.subi v19 v21
  let c9_i32 : BitVec 32 := 9#32
  let c0_i32_12 : BitVec 32 := 0#32
  let v23 : BitVec 1 := Scalar.cmpi .sgt c9_i32 c0_i32_12
  let v24 : BitVec 32 := Scalar.extui v23
  let c0_i32_13 : BitVec 32 := 0#32
  let v25 : BitVec 1 := Scalar.cmpi .slt c9_i32 c0_i32_13
  let v26 : BitVec 32 := Scalar.extui v25
  let v27 : BitVec 32 := Scalar.subi v24 v26
  let v28 : BitVec 1 := Scalar.cmpi .ne v22 v27
  let v29 : BitVec 32 := Scalar.remsi v16 c9_i32
  let c0_i32_14 : BitVec 32 := 0#32
  let v30 : BitVec 1 := Scalar.cmpi .ne v29 c0_i32_14
  let v31 : BitVec 1 := Scalar.andi v28 v30
  let v17 : BitVec 32 := Scalar.divsi v16 c9_i32
  let c1_i32 : BitVec 32 := 1#32
  let v32 : BitVec 32 := Scalar.subi v17 c1_i32
  let v33 : BitVec 32 := Scalar.select v31 v32 v17
  let c9_i32_15 : BitVec 32 := 9#32
  let v34 : BitVec 32 := Scalar.muli v33 c9_i32_15
  let v35 : BitVec 32 := Scalar.subi v16 v34
  let c1_i32_16 : BitVec 32 := 1#32
  let v36 : BitVec 1 := Scalar.cmpi .slt v35 c1_i32_16
  let c16_i32 : BitVec 32 := 16#32
  let v37 : BitVec 32 := Scalar.select v36 c16_i32 v33
  let c6_i32_25 : BitVec 32 := 6#32
  let v59 : BitVec 32 := Scalar.muli v37 c6_i32_25
  let c3_i32_26 : BitVec 32 := 3#32
  let v60 : BitVec 32 := Scalar.addi v59 c3_i32_26
  let c1_i32_27 : BitVec 32 := 1#32
  let v61 : BitVec 32 := Scalar.addi v60 c1_i32_27
  let v62 : Index := Scalar.indexCast v61
  let c0_28 : Index := 0#32
  ![v62.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S144x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S16x2304x2048 : Shape := ⟨3, ![16, 2304, 2048]⟩
abbrev S2048 : Shape := ⟨1, ![2048]⟩
abbrev S17x6x2048 : Shape := ⟨3, ![17, 6, 2048]⟩
abbrev S2048x5632 : Shape := ⟨2, ![2048, 5632]⟩
abbrev S_ : Shape := ⟨0, ![]⟩
abbrev S16x2304 : Shape := ⟨2, ![16, 2304]⟩
abbrev S16x2304x1 : Shape := ⟨3, ![16, 2304, 1]⟩
abbrev S1x1x2048 : Shape := ⟨3, ![1, 1, 2048]⟩
abbrev S16x256x2048 : Shape := ⟨3, ![16, 256, 2048]⟩
abbrev S16x1x2048 : Shape := ⟨3, ![16, 1, 2048]⟩
abbrev S16x2048 : Shape := ⟨2, ![16, 2048]⟩
abbrev S16x2048x2048 : Shape := ⟨3, ![16, 2048, 2048]⟩
abbrev S36864x2048 : Shape := ⟨2, ![36864, 2048]⟩
abbrev S36864x5632 : Shape := ⟨2, ![36864, 5632]⟩

abbrev nBuf : Space → Nat
  | .hbm => 56
  | .vmem => 0
  | .smem => 0
  | _ => 0

abbrev bufTy : (tb : Table) → Fin (tcTables nBuf tb) → BufTy
  | .hbm, ⟨0, _⟩ => ⟨S16x2304x2048, .f32⟩
  | .hbm, ⟨1, _⟩ => ⟨S2048, .f32⟩
  | .hbm, ⟨2, _⟩ => ⟨S17x6x2048, .f32⟩
  | .hbm, ⟨3, _⟩ => ⟨S2048x5632, .f32⟩
  | .hbm, ⟨4, _⟩ => ⟨S2048x5632, .f32⟩
  | .hbm, ⟨5, _⟩ => ⟨S16x2304x2048, .f32⟩
  | .hbm, ⟨6, _⟩ => ⟨S_, .f32⟩
  | .hbm, ⟨7, _⟩ => ⟨S16x2304, .f32⟩
  | .hbm, ⟨8, _⟩ => ⟨S16x2304x1, .f32⟩
  | .hbm, ⟨9, _⟩ => ⟨S_, .f32⟩
  | .hbm, ⟨10, _⟩ => ⟨S16x2304x1, .f32⟩
  | .hbm, ⟨11, _⟩ => ⟨S16x2304x1, .f32⟩
  | .hbm, ⟨12, _⟩ => ⟨S_, .f32⟩
  | .hbm, ⟨13, _⟩ => ⟨S16x2304x1, .f32⟩
  | .hbm, ⟨14, _⟩ => ⟨S16x2304x1, .f32⟩
  | .hbm, ⟨15, _⟩ => ⟨S16x2304x1, .f32⟩
  | .hbm, ⟨16, _⟩ => ⟨S16x2304x2048, .f32⟩
  | .hbm, ⟨17, _⟩ => ⟨S16x2304x2048, .f32⟩
  | .hbm, ⟨18, _⟩ => ⟨S1x1x2048, .f32⟩
  | .hbm, ⟨19, _⟩ => ⟨S16x2304x2048, .f32⟩
  | .hbm, ⟨20, _⟩ => ⟨S16x2304x2048, .f32⟩
  | .hbm, ⟨21, _⟩ => ⟨S1x1x2048, .f32⟩
  | .hbm, ⟨22, _⟩ => ⟨S2048, .f32⟩
  | .hbm, ⟨23, _⟩ => ⟨S16x256x2048, .f32⟩
  | .hbm, ⟨24, _⟩ => ⟨S16x1x2048, .f32⟩
  | .hbm, ⟨25, _⟩ => ⟨S16x2048, .f32⟩
  | .hbm, ⟨26, _⟩ => ⟨S16x1x2048, .f32⟩
  | .hbm, ⟨27, _⟩ => ⟨S16x2048x2048, .f32⟩
  | .hbm, ⟨28, _⟩ => ⟨S16x2304x2048, .f32⟩
  | .hbm, ⟨29, _⟩ => ⟨S_, .f32⟩
  | .hbm, ⟨30, _⟩ => ⟨S16x2304x2048, .f32⟩
  | .hbm, ⟨31, _⟩ => ⟨S16x2304x2048, .f32⟩
  | .hbm, ⟨32, _⟩ => ⟨S16x2304x2048, .f32⟩
  | .hbm, ⟨33, _⟩ => ⟨S1x1x2048, .f32⟩
  | .hbm, ⟨34, _⟩ => ⟨S2048, .f32⟩
  | .hbm, ⟨35, _⟩ => ⟨S16x256x2048, .f32⟩
  | .hbm, ⟨36, _⟩ => ⟨S16x1x2048, .f32⟩
  | .hbm, ⟨37, _⟩ => ⟨S16x2048, .f32⟩
  | .hbm, ⟨38, _⟩ => ⟨S16x1x2048, .f32⟩
  | .hbm, ⟨39, _⟩ => ⟨S16x2048x2048, .f32⟩
  | .hbm, ⟨40, _⟩ => ⟨S16x2304x2048, .f32⟩
  | .hbm, ⟨41, _⟩ => ⟨S16x2304x2048, .f32⟩
  | .hbm, ⟨42, _⟩ => ⟨S36864x2048, .f32⟩
  | .hbm, ⟨43, _⟩ => ⟨S36864x5632, .f32⟩
  | .hbm, ⟨44, _⟩ => ⟨S36864x5632, .f32⟩
  | .hbm, ⟨45, _⟩ => ⟨S36864x5632, .f32⟩
  | .hbm, ⟨46, _⟩ => ⟨S36864x5632, .f32⟩
  | .hbm, ⟨47, _⟩ => ⟨S_, .f32⟩
  | .hbm, ⟨48, _⟩ => ⟨S36864x5632, .f32⟩
  | .hbm, ⟨49, _⟩ => ⟨S36864x5632, .f32⟩
  | .hbm, ⟨50, _⟩ => ⟨S_, .f32⟩
  | .hbm, ⟨51, _⟩ => ⟨S36864x5632, .f32⟩
  | .hbm, ⟨52, _⟩ => ⟨S36864x5632, .f32⟩
  | .hbm, ⟨53, _⟩ => ⟨S36864x5632, .f32⟩
  | .hbm, ⟨54, _⟩ => ⟨S36864x5632, .f32⟩
  | .hbm, ⟨55, _⟩ => ⟨S36864x5632, .bf16⟩
  | _, _ => ⟨S16x2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Kernel3.lean ====
abbrev S36864x5632 : Shape := ⟨2, ![36864, 5632]⟩
abbrev S5632x2048 : Shape := ⟨2, ![5632, 2048]⟩
abbrev S16x2304x2048 : Shape := ⟨3, ![16, 2304, 2048]⟩
abbrev S17x6x2048 : Shape := ⟨3, ![17, 6, 2048]⟩
abbrev S_ : Shape := ⟨0, ![]⟩
abbrev S7x6x2048 : Shape := ⟨3, ![7, 6, 2048]⟩
abbrev S24x6x2048 : Shape := ⟨3, ![24, 6, 2048]⟩
abbrev S144x2048 : Shape := ⟨2, ![144, 2048]⟩
abbrev S36864x2048 : Shape := ⟨2, ![36864, 2048]⟩
abbrev S1024x5632 : Shape := ⟨2, ![1024, 5632]⟩
abbrev S5632x512 : Shape := ⟨2, ![5632, 512]⟩
abbrev S1024x512 : Shape := ⟨2, ![1024, 512]⟩
abbrev S1x512 : Shape := ⟨2, ![1, 512]⟩
abbrev S256x512 : Shape := ⟨2, ![256, 512]⟩

abbrev nBuf : Space → Nat
  | .hbm => 12
  | .vmem => 9
  | .smem => 0
  | _ => 0

abbrev bufTy : (tb : Table) → Fin (tcTables nBuf tb) → BufTy
  | .hbm, ⟨0, _⟩ => ⟨S36864x5632, .f32⟩
  | .hbm, ⟨1, _⟩ => ⟨S5632x2048, .f32⟩
  | .hbm, ⟨2, _⟩ => ⟨S16x2304x2048, .f32⟩
  | .hbm, ⟨3, _⟩ => ⟨S17x6x2048, .f32⟩
  | .hbm, ⟨4, _⟩ => ⟨S_, .f32⟩
  | .hbm, ⟨5, _⟩ => ⟨S7x6x2048, .f32⟩
  | .hbm, ⟨6, _⟩ => ⟨S24x6x2048, .f32⟩
  | .hbm, ⟨7, _⟩ => ⟨S144x2048, .f32⟩
  | .hbm, ⟨8, _⟩ => ⟨S36864x5632, .bf16⟩
  | .hbm, ⟨9, _⟩ => ⟨S5632x2048, .bf16⟩
  | .hbm, ⟨10, _⟩ => ⟨S36864x2048, .f32⟩
  | .hbm, ⟨11, _⟩ => ⟨S36864x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S144x2048, .f32⟩
  | .local _ .vmem, ⟨7, _⟩ => ⟨S1024x512, .f32⟩
  | .local _ .vmem, ⟨8, _⟩ => ⟨S1024x512, .f32⟩
  | _, _ => ⟨S36864x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![36, 4], ![false, false]⟩

def k0_mult1 (i : grid0.Coords) : BitVec 32 :=
  let arg1 : BitVec 32 := BitVec.ofNat 32 (i 1).val
  let c512_i32 : BitVec 32 := 512#32
  let v30 : BitVec 32 := Scalar.muli arg1 c512_i32
  v30
def k0_off1 (i : grid0.Coords) (c0_i32 : BitVec 32) : Fin 2 → Nat :=
  let arg0 : BitVec 32 := BitVec.ofNat 32 (i 0).val
  let c4_i32 : BitVec 32 := 4#32
  let v5 : BitVec 32 := Scalar.muli arg0 c4_i32
  let v6 : BitVec 32 := Scalar.addi v5 c0_i32
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c9_i32 : BitVec 32 := 9#32
  let c0_i32_5 : BitVec 32 := 0#32
  let v13 : BitVec 1 := Scalar.cmpi .sgt c9_i32 c0_i32_5
  let v14 : BitVec 32 := Scalar.extui v13
  let c0_i32_6 : BitVec 32 := 0#32
  let v15 : BitVec 1 := Scalar.cmpi .slt c9_i32 c0_i32_6
  let v16 : BitVec 32 := Scalar.extui v15
  let v17 : BitVec 32 := Scalar.subi v14 v16
  let v18 : BitVec 1 := Scalar.cmpi .ne v12 v17
  let v19 : BitVec 32 := Scalar.remsi v6 c9_i32
  let c0_i32_7 : BitVec 32 := 0#32
  let v20 : BitVec 1 := Scalar.cmpi .ne v19 c0_i32_7
  let v21 : BitVec 1 := Scalar.andi v18 v20
  let v7 : BitVec 32 := Scalar.divsi v6 c9_i32
  let c1_i32 : BitVec 32 := 1#32
  let v22 : BitVec 32 := Scalar.subi v7 c1_i32
  let v23 : BitVec 32 := Scalar.select v21 v22 v7
  let c9_i32_8 : BitVec 32 := 9#32
  let v24 : BitVec 32 := Scalar.muli v23 c9_i32_8
  let v25 : BitVec 32 := Scalar.subi v6 v24
  let c1_i32_9 : BitVec 32 := 1#32
  let v26 : BitVec 1 := Scalar.cmpi .slt v25 c1_i32_9
  let c16_i32 : BitVec 32 := 16#32
  let v27 : BitVec 32 := Scalar.select v26 c16_i32 v23
  let c6_i32 : BitVec 32 := 6#32
  let v28 : BitVec 32 := Scalar.muli v27 c6_i32
  let c5_i32 : BitVec 32 := 5#32
  let v29 : BitVec 32 := Scalar.addi v28 c5_i32
  let v32 : Index := Scalar.indexCast v29
  let arg1 : BitVec 32 := BitVec.ofNat 32 (i 1).val
  let c512_i32 : BitVec 32 := 512#32
  let v30 : BitVec 32 := Scalar.muli arg1 c512_i32
  let v31 : BitVec 32 := v30
  let v33 : Index := Scalar.indexCast v31
  ![v32.toNat, v33.toNat]
def k0_mult2 (i : grid0.Coords) : BitVec 32 :=
  let arg1 : BitVec 32 := BitVec.ofNat 32 (i 1).val
  let c512_i32_28 : BitVec 32 := 512#32
  let v68 : BitVec 32 := Scalar.muli arg1 c512_i32_28
  v68
def k0_mult3 (i : grid0.Coords) : BitVec 32 :=
  let arg1 : BitVec 32 := BitVec.ofNat 32 (i 1).val
  let c512_i32_45 : BitVec 32 := 512#32
  let v106 : BitVec 32 := Scalar.muli arg1 c512_i32_45
  v106
def k0_mult4 (i : grid0.Coords) : BitVec 32 :=
  let arg1 : BitVec 32 := BitVec.ofNat 32 (i 1).val
  let c512_i32_62 : BitVec 32 := 512#32
  let v144 : BitVec 32 := Scalar.muli arg1 c512_i32_62
  v144
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S144x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S36864x5632 : Shape := ⟨2, ![36864, 5632]⟩
abbrev S5632x2048 : Shape := ⟨2, ![5632, 2048]⟩
abbrev S16x2304x2048 : Shape := ⟨3, ![16, 2304, 2048]⟩
abbrev S17x6x2048 : Shape := ⟨3, ![17, 6, 2048]⟩
abbrev S1x1x2048 : Shape := ⟨3, ![1, 1, 2048]⟩
abbrev S2048 : Shape := ⟨1, ![2048]⟩
abbrev S16x256x2048 : Shape := ⟨3, ![16, 256, 2048]⟩
abbrev S16x1x2048 : Shape := ⟨3, ![16, 1, 2048]⟩
abbrev S16x2048 : Shape := ⟨2, ![16, 2048]⟩
abbrev S16x2048x2048 : Shape := ⟨3, ![16, 2048, 2048]⟩
abbrev S36864x2048 : Shape := ⟨2, ![36864, 2048]⟩

abbrev nBuf : Space → Nat
  | .hbm => 17
  | .vmem => 0
  | .smem => 0
  | _ => 0

abbrev bufTy : (tb : Table) → Fin (tcTables nBuf tb) → BufTy
  | .hbm, ⟨0, _⟩ => ⟨S36864x5632, .f32⟩
  | .hbm, ⟨1, _⟩ => ⟨S5632x2048, .f32⟩
  | .hbm, ⟨2, _⟩ => ⟨S16x2304x2048, .f32⟩
  | .hbm, ⟨3, _⟩ => ⟨S17x6x2048, .f32⟩
  | .hbm, ⟨4, _⟩ => ⟨S1x1x2048, .f32⟩
  | .hbm, ⟨5, _⟩ => ⟨S2048, .f32⟩
  | .hbm, ⟨6, _⟩ => ⟨S16x256x2048, .f32⟩
  | .hbm, ⟨7, _⟩ => ⟨S16x1x2048, .f32⟩
  | .hbm, ⟨8, _⟩ => ⟨S16x2048, .f32⟩
  | .hbm, ⟨9, _⟩ => ⟨S16x1x2048, .f32⟩
  | .hbm, ⟨10, _⟩ => ⟨S16x2048x2048, .f32⟩
  | .hbm, ⟨11, _⟩ => ⟨S16x2304x2048, .f32⟩
  | .hbm, ⟨12, _⟩ => ⟨S36864x2048, .f32⟩
  | .hbm, ⟨13, _⟩ => ⟨S16x2304x2048, .f32⟩
  | .hbm, ⟨14, _⟩ => ⟨S16x2304x2048, .f32⟩
  | .hbm, ⟨15, _⟩ => ⟨S16x2304x2048, .f32⟩
  | .hbm, ⟨16, _⟩ => ⟨S36864x2048, .f32⟩
  | _, _ => ⟨S36864x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel4.lean ====
abbrev S16x2304x512 : Shape := ⟨3, ![16, 2304, 512]⟩
abbrev S2048x2048 : Shape := ⟨2, ![2048, 2048]⟩
abbrev S16x2304x2048 : Shape := ⟨3, ![16, 2304, 2048]⟩
abbrev S17x6x2048 : Shape := ⟨3, ![17, 6, 2048]⟩
abbrev S_ : Shape := ⟨0, ![]⟩
abbrev S7x6x2048 : Shape := ⟨3, ![7, 6, 2048]⟩
abbrev S24x6x2048 : Shape := ⟨3, ![24, 6, 2048]⟩
abbrev S144x2048 : Shape := ⟨2, ![144, 2048]⟩
abbrev S36864x512 : Shape := ⟨2, ![36864, 512]⟩
abbrev S36864x2048 : Shape := ⟨2, ![36864, 2048]⟩
abbrev S1024x512 : Shape := ⟨2, ![1024, 512]⟩
abbrev S2048x1024 : Shape := ⟨2, ![2048, 1024]⟩
abbrev S1024x1024 : Shape := ⟨2, ![1024, 1024]⟩
abbrev S1024x2048 : Shape := ⟨2, ![1024, 2048]⟩
abbrev S1x1024 : Shape := ⟨2, ![1, 1024]⟩
abbrev S256x1024 : Shape := ⟨2, ![256, 1024]⟩

abbrev nBuf : Space → Nat
  | .hbm => 22
  | .vmem => 15
  | .smem => 0
  | _ => 0

abbrev bufTy : (tb : Table) → Fin (tcTables nBuf tb) → BufTy
  | .hbm, ⟨0, _⟩ => ⟨S16x2304x512, .f32⟩
  | .hbm, ⟨1, _⟩ => ⟨S16x2304x512, .f32⟩
  | .hbm, ⟨2, _⟩ => ⟨S16x2304x512, .f32⟩
  | .hbm, ⟨3, _⟩ => ⟨S16x2304x512, .f32⟩
  | .hbm, ⟨4, _⟩ => ⟨S2048x2048, .f32⟩
  | .hbm, ⟨5, _⟩ => ⟨S16x2304x2048, .f32⟩
  | .hbm, ⟨6, _⟩ => ⟨S17x6x2048, .f32⟩
  | .hbm, ⟨7, _⟩ => ⟨S_, .f32⟩
  | .hbm, ⟨8, _⟩ => ⟨S7x6x2048, .f32⟩
  | .hbm, ⟨9, _⟩ => ⟨S24x6x2048, .f32⟩
  | .hbm, ⟨10, _⟩ => ⟨S144x2048, .f32⟩
  | .hbm, ⟨11, _⟩ => ⟨S36864x512, .f32⟩
  | .hbm, ⟨12, _⟩ => ⟨S36864x512, .bf16⟩
  | .hbm, ⟨13, _⟩ => ⟨S36864x512, .f32⟩
  | .hbm, ⟨14, _⟩ => ⟨S36864x512, .bf16⟩
  | .hbm, ⟨15, _⟩ => ⟨S36864x512, .f32⟩
  | .hbm, ⟨16, _⟩ => ⟨S36864x512, .bf16⟩
  | .hbm, ⟨17, _⟩ => ⟨S36864x512, .f32⟩
  | .hbm, ⟨18, _⟩ => ⟨S36864x512, .bf16⟩
  | .hbm, ⟨19, _⟩ => ⟨S2048x2048, .bf16⟩
  | .hbm, ⟨20, _⟩ => ⟨S36864x2048, .f32⟩
  | .hbm, ⟨21, _⟩ => ⟨S36864x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .f32⟩
  | .local _ .vmem, ⟨11, _⟩ => ⟨S1024x1024, .f32⟩
  | .local _ .vmem, ⟨12, _⟩ => ⟨S144x2048, .f32⟩
  | .local _ .vmem, ⟨13, _⟩ => ⟨S1024x1024, .f32⟩
  | .local _ .vmem, ⟨14, _⟩ => ⟨S1024x1024, .f32⟩
  | _, _ => ⟨S16x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![36, 2], ![false, false]⟩

def k0_mult1 (i : grid0.Coords) : BitVec 32 :=
  let arg1 : BitVec 32 := BitVec.ofNat 32 (i 1).val
  let c1024_i32 : BitVec 32 := 1024#32
  let v37 : BitVec 32 := Scalar.muli arg1 c1024_i32
  v37
def k0_off1 (i : grid0.Coords) (c0_i32 : BitVec 32) : Fin 2 → Nat :=
  let arg0 : BitVec 32 := BitVec.ofNat 32 (i 0).val
  let c4_i32 : BitVec 32 := 4#32
  let v12 : BitVec 32 := Scalar.muli arg0 c4_i32
  let v13 : BitVec 32 := Scalar.addi v12 c0_i32
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c9_i32 : BitVec 32 := 9#32
  let c0_i32_11 : BitVec 32 := 0#32
  let v20 : BitVec 1 := Scalar.cmpi .sgt c9_i32 c0_i32_11
  let v21 : BitVec 32 := Scalar.extui v20
  let c0_i32_12 : BitVec 32 := 0#32
  let v22 : BitVec 1 := Scalar.cmpi .slt c9_i32 c0_i32_12
  let v23 : BitVec 32 := Scalar.extui v22
  let v24 : BitVec 32 := Scalar.subi v21 v23
  let v25 : BitVec 1 := Scalar.cmpi .ne v19 v24
  let v26 : BitVec 32 := Scalar.remsi v13 c9_i32
  let c0_i32_13 : BitVec 32 := 0#32
  let v27 : BitVec 1 := Scalar.cmpi .ne v26 c0_i32_13
  let v28 : BitVec 1 := Scalar.andi v25 v27
  let v14 : BitVec 32 := Scalar.divsi v13 c9_i32
  let c1_i32 : BitVec 32 := 1#32
  let v29 : BitVec 32 := Scalar.subi v14 c1_i32
  let v30 : BitVec 32 := Scalar.select v28 v29 v14
  let c9_i32_14 : BitVec 32 := 9#32
  let v31 : BitVec 32 := Scalar.muli v30 c9_i32_14
  let v32 : BitVec 32 := Scalar.subi v13 v31
  let c1_i32_15 : BitVec 32 := 1#32
  let v33 : BitVec 1 := Scalar.cmpi .slt v32 c1_i32_15
  let c16_i32 : BitVec 32 := 16#32
  let v34 : BitVec 32 := Scalar.select v33 c16_i32 v30
  let c6_i32 : BitVec 32 := 6#32
  let v35 : BitVec 32 := Scalar.muli v34 c6_i32
  let c2_i32 : BitVec 32 := 2#32
  let v36 : BitVec 32 := Scalar.addi v35 c2_i32
  let v39 : Index := Scalar.indexCast v36
  let arg1 : BitVec 32 := BitVec.ofNat 32 (i 1).val
  let c1024_i32 : BitVec 32 := 1024#32
  let v37 : BitVec 32 := Scalar.muli arg1 c1024_i32
  let v38 : BitVec 32 := v37
  let v40 : Index := Scalar.indexCast v38
  ![v39.toNat, v40.toNat]
def k0_mult2 (i : grid0.Coords) : BitVec 32 :=
  let arg1 : BitVec 32 := BitVec.ofNat 32 (i 1).val
  let c1024_i32_34 : BitVec 32 := 1024#32
  let v75 : BitVec 32 := Scalar.muli arg1 c1024_i32_34
  v75
def k0_mult3 (i : grid0.Coords) : BitVec 32 :=
  let arg1 : BitVec 32 := BitVec.ofNat 32 (i 1).val
  let c1024_i32_52 : BitVec 32 := 1024#32
  let v113 : BitVec 32 := Scalar.muli arg1 c1024_i32_52
  v113
def k0_mult4 (i : grid0.Coords) : BitVec 32 :=
  let arg1 : BitVec 32 := BitVec.ofNat 32 (i 1).val
  let c1024_i32_69 : BitVec 32 := 1024#32
  let v151 : BitVec 32 := Scalar.muli arg1 c1024_i32_69
  v151
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S144x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S16x2304x512 : Shape := ⟨3, ![16, 2304, 512]⟩
abbrev S2048x2048 : Shape := ⟨2, ![2048, 2048]⟩
abbrev S16x2304x2048 : Shape := ⟨3, ![16, 2304, 2048]⟩
abbrev S17x6x2048 : Shape := ⟨3, ![17, 6, 2048]⟩
abbrev S1x1x2048 : Shape := ⟨3, ![1, 1, 2048]⟩
abbrev S2048 : Shape := ⟨1, ![2048]⟩
abbrev S16x256x2048 : Shape := ⟨3, ![16, 256, 2048]⟩
abbrev S16x1x2048 : Shape := ⟨3, ![16, 1, 2048]⟩
abbrev S16x2048 : Shape := ⟨2, ![16, 2048]⟩
abbrev S16x2048x2048 : Shape := ⟨3, ![16, 2048, 2048]⟩
abbrev S36864x2048 : Shape := ⟨2, ![36864, 2048]⟩

abbrev nBuf : Space → Nat
  | .hbm => 20
  | .vmem => 0
  | .smem => 0
  | _ => 0

abbrev bufTy : (tb : Table) → Fin (tcTables nBuf tb) → BufTy
  | .hbm, ⟨0, _⟩ => ⟨S16x2304x512, .f32⟩
  | .hbm, ⟨1, _⟩ => ⟨S16x2304x512, .f32⟩
  | .hbm, ⟨2, _⟩ => ⟨S16x2304x512, .f32⟩
  | .hbm, ⟨3, _⟩ => ⟨S16x2304x512, .f32⟩
  | .hbm, ⟨4, _⟩ => ⟨S2048x2048, .f32⟩
  | .hbm, ⟨5, _⟩ => ⟨S16x2304x2048, .f32⟩
  | .hbm, ⟨6, _⟩ => ⟨S17x6x2048, .f32⟩
  | .hbm, ⟨7, _⟩ => ⟨S1x1x2048, .f32⟩
  | .hbm, ⟨8, _⟩ => ⟨S2048, .f32⟩
  | .hbm, ⟨9, _⟩ => ⟨S16x256x2048, .f32⟩
  | .hbm, ⟨10, _⟩ => ⟨S16x1x2048, .f32⟩
  | .hbm, ⟨11, _⟩ => ⟨S16x2048, .f32⟩
  | .hbm, ⟨12, _⟩ => ⟨S16x1x2048, .f32⟩
  | .hbm, ⟨13, _⟩ => ⟨S16x2048x2048, .f32⟩
  | .hbm, ⟨14, _⟩ => ⟨S16x2304x2048, .f32⟩
  | .hbm, ⟨15, _⟩ => ⟨S16x2304x2048, .f32⟩
  | .hbm, ⟨16, _⟩ => ⟨S16x2304x2048, .f32⟩
  | .hbm, ⟨17, _⟩ => ⟨S16x2304x2048, .f32⟩
  | .hbm, ⟨18, _⟩ => ⟨S16x2304x2048, .f32⟩
  | .hbm, ⟨19, _⟩ => ⟨S36864x2048, .f32⟩
  | _, _ => ⟨S16x2304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Kernel5.lean ====
abbrev S16x2304x2048 : Shape := ⟨3, ![16, 2304, 2048]⟩
abbrev S2048 : Shape := ⟨1, ![2048]⟩
abbrev S17x6x2048 : Shape := ⟨3, ![17, 6, 2048]⟩
abbrev S2048x4816 : Shape := ⟨2, ![2048, 4816]⟩
abbrev S_ : Shape := ⟨0, ![]⟩
abbrev S7x6x2048 : Shape := ⟨3, ![7, 6, 2048]⟩
abbrev S24x6x2048 : Shape := ⟨3, ![24, 6, 2048]⟩
abbrev S144x2048 : Shape := ⟨2, ![144, 2048]⟩
abbrev S36864x2048 : Shape := ⟨2, ![36864, 2048]⟩
abbrev S2048x2048 : Shape := ⟨2, ![2048, 2048]⟩
abbrev S2048x1024 : Shape := ⟨2, ![2048, 1024]⟩
abbrev S2048x704 : Shape := ⟨2, ![2048, 704]⟩
abbrev S2048x320 : Shape := ⟨2, ![2048, 320]⟩
abbrev S2048x3072 : Shape := ⟨2, ![2048, 3072]⟩
abbrev S2048x16 : Shape := ⟨2, ![2048, 16]⟩
abbrev S2048x112 : Shape := ⟨2, ![2048, 112]⟩
abbrev S2048x128 : Shape := ⟨2, ![2048, 128]⟩
abbrev S2048x5120 : Shape := ⟨2, ![2048, 5120]⟩
abbrev S1x2048 : Shape := ⟨2, ![1, 2048]⟩
abbrev S36864x3072 : Shape := ⟨2, ![36864, 3072]⟩
abbrev S36864x128 : Shape := ⟨2, ![36864, 128]⟩
abbrev S1024x2048 : Shape := ⟨2, ![1024, 2048]⟩
abbrev S1024x1024 : Shape := ⟨2, ![1024, 1024]⟩
abbrev S1024x128 : Shape := ⟨2, ![1024, 128]⟩
abbrev S256x2048 : Shape := ⟨2, ![256, 2048]⟩
abbrev S256 : Shape := ⟨1, ![256]⟩
abbrev S256x1 : Shape := ⟨2, ![256, 1]⟩
abbrev S36864x704 : Shape := ⟨2, ![36864, 704]⟩
abbrev S36864x1024 : Shape := ⟨2, ![36864, 1024]⟩
abbrev S36864x16 : Shape := ⟨2, ![36864, 16]⟩

abbrev nBuf : Space → Nat
  | .hbm => 31
  | .vmem => 14
  | .smem => 0
  | _ => 0

abbrev bufTy : (tb : Table) → Fin (tcTables nBuf tb) → BufTy
  | .hbm, ⟨0, _⟩ => ⟨S16x2304x2048, .f32⟩
  | .hbm, ⟨1, _⟩ => ⟨S2048, .f32⟩
  | .hbm, ⟨2, _⟩ => ⟨S17x6x2048, .f32⟩
  | .hbm, ⟨3, _⟩ => ⟨S2048x4816, .f32⟩
  | .hbm, ⟨4, _⟩ => ⟨S_, .f32⟩
  | .hbm, ⟨5, _⟩ => ⟨S7x6x2048, .f32⟩
  | .hbm, ⟨6, _⟩ => ⟨S24x6x2048, .f32⟩
  | .hbm, ⟨7, _⟩ => ⟨S144x2048, .f32⟩
  | .hbm, ⟨8, _⟩ => ⟨S36864x2048, .f32⟩
  | .hbm, ⟨9, _⟩ => ⟨S2048x2048, .f32⟩
  | .hbm, ⟨10, _⟩ => ⟨S2048x1024, .f32⟩
  | .hbm, ⟨11, _⟩ => ⟨S2048x1024, .f32⟩
  | .hbm, ⟨12, _⟩ => ⟨S2048x704, .f32⟩
  | .hbm, ⟨13, _⟩ => ⟨S_, .f32⟩
  | .hbm, ⟨14, _⟩ => ⟨S2048x320, .f32⟩
  | .hbm, ⟨15, _⟩ => ⟨S2048x3072, .f32⟩
  | .hbm, ⟨16, _⟩ => ⟨S2048x16, .f32⟩
  | .hbm, ⟨17, _⟩ => ⟨S_, .f32⟩
  | .hbm, ⟨18, _⟩ => ⟨S2048x112, .f32⟩
  | .hbm, ⟨19, _⟩ => ⟨S2048x128, .f32⟩
  | .hbm, ⟨20, _⟩ => ⟨S2048x5120, .f32⟩
  | .hbm, ⟨21, _⟩ => ⟨S2048x5120, .bf16⟩
  | .hbm, ⟨22, _⟩ => ⟨S2048x128, .bf16⟩
  | .hbm, ⟨23, _⟩ => ⟨S1x2048, .f32⟩
  | .hbm, ⟨24, _⟩ => ⟨S36864x2048, .f32⟩
  | .hbm, ⟨25, _⟩ => ⟨S36864x3072, .bf16⟩
  | .hbm, ⟨26, _⟩ => ⟨S36864x128, .f32⟩
  | .hbm, ⟨27, _⟩ => ⟨S36864x704, .bf16⟩
  | .hbm, ⟨28, _⟩ => ⟨S36864x1024, .bf16⟩
  | .hbm, ⟨29, _⟩ => ⟨S36864x16, .f32⟩
  | .hbm, ⟨30, _⟩ => ⟨S36864x1024, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S144x2048, .f32⟩
  | .local _ .vmem, ⟨4, _⟩ => ⟨S2048x1024, .bf16⟩
  | .local _ .vmem, ⟨5, _⟩ => ⟨S2048x1024, .bf16⟩
  | .local _ .vmem, ⟨6, _⟩ => ⟨S2048x128, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x128, .f32⟩
  | .local _ .vmem, ⟨12, _⟩ => ⟨S1024x128, .f32⟩
  | .local _ .vmem, ⟨13, _⟩ => ⟨S1024x2048, .bf16⟩
  | _, _ => ⟨S16x2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev main_v17_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![36, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) (c0_i32_7 : BitVec 32) : Fin 2 → Nat :=
  let arg0 : BitVec 32 := BitVec.ofNat 32 (i 0).val
  let c4_i32 : BitVec 32 := 4#32
  let v13 : BitVec 32 := Scalar.muli arg0 c4_i32
  let v14 : BitVec 32 := Scalar.addi v13 c0_i32_7
  let c0_i32_8 : BitVec 32 := 0#32
  let v16 : BitVec 1 := Scalar.cmpi .sgt v14 c0_i32_8
  let v17 : BitVec 32 := Scalar.extui v16
  let c0_i32_9 : BitVec 32 := 0#32
  let v18 : BitVec 1 := Scalar.cmpi .slt v14 c0_i32_9
  let v19 : BitVec 32 := Scalar.extui v18
  let v20 : BitVec 32 := Scalar.subi v17 v19
  let c9_i32 : BitVec 32 := 9#32
  let c0_i32_10 : BitVec 32 := 0#32
  let v21 : BitVec 1 := Scalar.cmpi .sgt c9_i32 c0_i32_10
  let v22 : BitVec 32 := Scalar.extui v21
  let c0_i32_11 : BitVec 32 := 0#32
  let v23 : BitVec 1 := Scalar.cmpi .slt c9_i32 c0_i32_11
  let v24 : BitVec 32 := Scalar.extui v23
  let v25 : BitVec 32 := Scalar.subi v22 v24
  let v26 : BitVec 1 := Scalar.cmpi .ne v20 v25
  let v27 : BitVec 32 := Scalar.remsi v14 c9_i32
  let c0_i32_12 : BitVec 32 := 0#32
  let v28 : BitVec 1 := Scalar.cmpi .ne v27 c0_i32_12
  let v29 : BitVec 1 := Scalar.andi v26 v28
  let v15 : BitVec 32 := Scalar.divsi v14 c9_i32
  let c1_i32 : BitVec 32 := 1#32
  let v30 : BitVec 32 := Scalar.subi v15 c1_i32
  let v31 : BitVec 32 := Scalar.select v29 v30 v15
  let c9_i32_13 : BitVec 32 := 9#32
  let v32 : BitVec 32 := Scalar.muli v31 c9_i32_13
  let v33 : BitVec 32 := Scalar.subi v14 v32
  let c1_i32_14 : BitVec 32 := 1#32
  let v34 : BitVec 1 := Scalar.cmpi .slt v33 c1_i32_14
  let c16_i32 : BitVec 32 := 16#32
  let v35 : BitVec 32 := Scalar.select v34 c16_i32 v31
  let c6_i32 : BitVec 32 := 6#32
  let v52 : BitVec 32 := Scalar.muli v35 c6_i32
  let c0_i32_22 : BitVec 32 := 0#32
  let v53 : BitVec 32 := Scalar.addi v52 c0_i32_22
  let v54 : Index := Scalar.indexCast v53
  let c0_23 : Index := 0#32
  ![v54.toNat, 0]
def k0_off2 (i : grid0.Coords) (c0_i32_7 : BitVec 32) : Fin 2 → Nat :=
  let arg0 : BitVec 32 := BitVec.ofNat 32 (i 0).val
  let c4_i32 : BitVec 32 := 4#32
  let v13 : BitVec 32 := Scalar.muli arg0 c4_i32
  let v14 : BitVec 32 := Scalar.addi v13 c0_i32_7
  let c0_i32_8 : BitVec 32 := 0#32
  let v16 : BitVec 1 := Scalar.cmpi .sgt v14 c0_i32_8
  let v17 : BitVec 32 := Scalar.extui v16
  let c0_i32_9 : BitVec 32 := 0#32
  let v18 : BitVec 1 := Scalar.cmpi .slt v14 c0_i32_9
  let v19 : BitVec 32 := Scalar.extui v18
  let v20 : BitVec 32 := Scalar.subi v17 v19
  let c9_i32 : BitVec 32 := 9#32
  let c0_i32_10 : BitVec 32 := 0#32
  let v21 : BitVec 1 := Scalar.cmpi .sgt c9_i32 c0_i32_10
  let v22 : BitVec 32 := Scalar.extui v21
  let c0_i32_11 : BitVec 32 := 0#32
  let v23 : BitVec 1 := Scalar.cmpi .slt c9_i32 c0_i32_11
  let v24 : BitVec 32 := Scalar.extui v23
  let v25 : BitVec 32 := Scalar.subi v22 v24
  let v26 : BitVec 1 := Scalar.cmpi .ne v20 v25
  let v27 : BitVec 32 := Scalar.remsi v14 c9_i32
  let c0_i32_12 : BitVec 32 := 0#32
  let v28 : BitVec 1 := Scalar.cmpi .ne v27 c0_i32_12
  let v29 : BitVec 1 := Scalar.andi v26 v28
  let v15 : BitVec 32 := Scalar.divsi v14 c9_i32
  let c1_i32 : BitVec 32 := 1#32
  let v30 : BitVec 32 := Scalar.subi v15 c1_i32
  let v31 : BitVec 32 := Scalar.select v29 v30 v15
  let c9_i32_13 : BitVec 32 := 9#32
  let v32 : BitVec 32 := Scalar.muli v31 c9_i32_13
  let v33 : BitVec 32 := Scalar.subi v14 v32
  let c1_i32_14 : BitVec 32 := 1#32
  let v34 : BitVec 1 := Scalar.cmpi .slt v33 c1_i32_14
  let c16_i32 : BitVec 32 := 16#32
  let v35 : BitVec 32 := Scalar.select v34 c16_i32 v31
  let c6_i32_24 : BitVec 32 := 6#32
  let v57 : BitVec 32 := Scalar.muli v35 c6_i32_24
  let c0_i32_25 : BitVec 32 := 0#32
  let v58 : BitVec 32 := Scalar.addi v57 c0_i32_25
  let c1_i32_26 : BitVec 32 := 1#32
  let v59 : BitVec 32 := Scalar.addi v58 c1_i32_26
  let v60 : Index := Scalar.indexCast v59
  let c0_27 : Index := 0#32
  ![v60.toNat, 0]
def k0_cond2 (i : grid0.Coords) : BitVec 1 :=
  let arg1 : BitVec 32 := BitVec.ofNat 32 (i 1).val
  let c2_i32 : BitVec 32 := 2#32
  let v7 : BitVec 1 := Scalar.cmpi .slt arg1 c2_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c2_i32_5 : BitVec 32 := 2#32
  let v10 : BitVec 1 := Scalar.cmpi .sge arg1 c2_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  ![arg0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S144x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference5Ideal.lean ====
abbrev S16x2304x2048 : Shape := ⟨3, ![16, 2304, 2048]⟩
abbrev S2048 : Shape := ⟨1, ![2048]⟩
abbrev S17x6x2048 : Shape := ⟨3, ![17, 6, 2048]⟩
abbrev S2048x4816 : Shape := ⟨2, ![2048, 4816]⟩
abbrev S_ : Shape := ⟨0, ![]⟩
abbrev S16x2304 : Shape := ⟨2, ![16, 2304]⟩
abbrev S16x2304x1 : Shape := ⟨3, ![16, 2304, 1]⟩
abbrev S1x1x2048 : Shape := ⟨3, ![1, 1, 2048]⟩
abbrev S16x256x2048 : Shape := ⟨3, ![16, 256, 2048]⟩
abbrev S16x1x2048 : Shape := ⟨3, ![16, 1, 2048]⟩
abbrev S16x2048 : Shape := ⟨2, ![16, 2048]⟩
abbrev S16x2048x2048 : Shape := ⟨3, ![16, 2048, 2048]⟩
abbrev S36864x2048 : Shape := ⟨2, ![36864, 2048]⟩
abbrev S36864x4816 : Shape := ⟨2, ![36864, 4816]⟩
abbrev S36864x704 : Shape := ⟨2, ![36864, 704]⟩
abbrev S36864x1024 : Shape := ⟨2, ![36864, 1024]⟩
abbrev S36864x16 : Shape := ⟨2, ![36864, 16]⟩

abbrev nBuf : Space → Nat
  | .hbm => 51
  | .vmem => 0
  | .smem => 0
  | _ => 0

abbrev bufTy : (tb : Table) → Fin (tcTables nBuf tb) → BufTy
  | .hbm, ⟨0, _⟩ => ⟨S16x2304x2048, .f32⟩
  | .hbm, ⟨1, _⟩ => ⟨S2048, .f32⟩
  | .hbm, ⟨2, _⟩ => ⟨S17x6x2048, .f32⟩
  | .hbm, ⟨3, _⟩ => ⟨S2048x4816, .f32⟩
  | .hbm, ⟨4, _⟩ => ⟨S16x2304x2048, .f32⟩
  | .hbm, ⟨5, _⟩ => ⟨S_, .f32⟩
  | .hbm, ⟨6, _⟩ => ⟨S16x2304, .f32⟩
  | .hbm, ⟨7, _⟩ => ⟨S16x2304x1, .f32⟩
  | .hbm, ⟨8, _⟩ => ⟨S_, .f32⟩
  | .hbm, ⟨9, _⟩ => ⟨S16x2304x1, .f32⟩
  | .hbm, ⟨10, _⟩ => ⟨S16x2304x1, .f32⟩
  | .hbm, ⟨11, _⟩ => ⟨S_, .f32⟩
  | .hbm, ⟨12, _⟩ => ⟨S16x2304x1, .f32⟩
  | .hbm, ⟨13, _⟩ => ⟨S16x2304x1, .f32⟩
  | .hbm, ⟨14, _⟩ => ⟨S16x2304x1, .f32⟩
  | .hbm, ⟨15, _⟩ => ⟨S16x2304x2048, .f32⟩
  | .hbm, ⟨16, _⟩ => ⟨S16x2304x2048, .f32⟩
  | .hbm, ⟨17, _⟩ => ⟨S1x1x2048, .f32⟩
  | .hbm, ⟨18, _⟩ => ⟨S16x2304x2048, .f32⟩
  | .hbm, ⟨19, _⟩ => ⟨S16x2304x2048, .f32⟩
  | .hbm, ⟨20, _⟩ => ⟨S1x1x2048, .f32⟩
  | .hbm, ⟨21, _⟩ => ⟨S2048, .f32⟩
  | .hbm, ⟨22, _⟩ => ⟨S16x256x2048, .f32⟩
  | .hbm, ⟨23, _⟩ => ⟨S16x1x2048, .f32⟩
  | .hbm, ⟨24, _⟩ => ⟨S16x2048, .f32⟩
  | .hbm, ⟨25, _⟩ => ⟨S16x1x2048, .f32⟩
  | .hbm, ⟨26, _⟩ => ⟨S16x2048x2048, .f32⟩
  | .hbm, ⟨27, _⟩ => ⟨S16x2304x2048, .f32⟩
  | .hbm, ⟨28, _⟩ => ⟨S_, .f32⟩
  | .hbm, ⟨29, _⟩ => ⟨S16x2304x2048, .f32⟩
  | .hbm, ⟨30, _⟩ => ⟨S16x2304x2048, .f32⟩
  | .hbm, ⟨31, _⟩ => ⟨S16x2304x2048, .f32⟩
  | .hbm, ⟨32, _⟩ => ⟨S1x1x2048, .f32⟩
  | .hbm, ⟨33, _⟩ => ⟨S2048, .f32⟩
  | .hbm, ⟨34, _⟩ => ⟨S16x256x2048, .f32⟩
  | .hbm, ⟨35, _⟩ => ⟨S16x1x2048, .f32⟩
  | .hbm, ⟨36, _⟩ => ⟨S16x2048, .f32⟩
  | .hbm, ⟨37, _⟩ => ⟨S16x1x2048, .f32⟩
  | .hbm, ⟨38, _⟩ => ⟨S16x2048x2048, .f32⟩
  | .hbm, ⟨39, _⟩ => ⟨S16x2304x2048, .f32⟩
  | .hbm, ⟨40, _⟩ => ⟨S16x2304x2048, .f32⟩
  | .hbm, ⟨41, _⟩ => ⟨S36864x2048, .f32⟩
  | .hbm, ⟨42, _⟩ => ⟨S36864x4816, .f32⟩
  | .hbm, ⟨43, _⟩ => ⟨S36864x704, .f32⟩
  | .hbm, ⟨44, _⟩ => ⟨S36864x704, .bf16⟩
  | .hbm, ⟨45, _⟩ => ⟨S36864x1024, .f32⟩
  | .hbm, ⟨46, _⟩ => ⟨S36864x1024, .bf16⟩
  | .hbm, ⟨47, _⟩ => ⟨S36864x2048, .f32⟩
  | .hbm, ⟨48, _⟩ => ⟨S36864x16, .f32⟩
  | .hbm, ⟨49, _⟩ => ⟨S36864x1024, .f32⟩
  | .hbm, ⟨50, _⟩ => ⟨S36864x1024, .bf16⟩
  | _, _ => ⟨S16x2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩

abbrev nD : Nat := 1
abbrev τ : Topo := Topo.v7x

variable {F : FTy → Type} [FloatOps F]
-- ==== Kernel6.lean ====
abbrev S77824x2048 : Shape := ⟨2, ![77824, 2048]⟩
abbrev S8x2048x4096 : Shape := ⟨3, ![8, 2048, 4096]⟩
abbrev S8x4096x2048 : Shape := ⟨3, ![8, 4096, 2048]⟩
abbrev S152 : Shape := ⟨1, ![152]⟩
abbrev S512x2048 : Shape := ⟨2, ![512, 2048]⟩
abbrev S1x2048x1024 : Shape := ⟨3, ![1, 2048, 1024]⟩
abbrev S1 : Shape := ⟨1, ![1]⟩
abbrev S1x1024x2048 : Shape := ⟨3, ![1, 1024, 2048]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 5
  | .vmem => 10
  | .smem => 2
  | _ => 0

abbrev bufTy : (tb : Table) → Fin (tcTables nBuf tb) → BufTy
  | .hbm, ⟨0, _⟩ => ⟨S77824x2048, .bf16⟩
  | .hbm, ⟨1, _⟩ => ⟨S8x2048x4096, .bf16⟩
  | .hbm, ⟨2, _⟩ => ⟨S8x2048x4096, .bf16⟩
  | .hbm, ⟨3, _⟩ => ⟨S8x4096x2048, .bf16⟩
  | .hbm, ⟨4, _⟩ => ⟨S77824x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S512x2048, .f32⟩
  | .local _ .vmem, ⟨9, _⟩ => ⟨S512x2048, .f32⟩
  | .local _ .smem, ⟨0, _⟩ => ⟨S152, .i32⟩
  | .local _ .smem, ⟨1, _⟩ => ⟨S152, .i32⟩
  | _, _ => ⟨S77824x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg4 : Ref sig .tc := ⟨.smem, 0, rfl⟩
abbrev main_arg5 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![152, 4], ![false, false]⟩

abbrev pre0 : Pipeline.Prefetch sig := ⟨2, ![main_arg4.idx, main_arg5.idx], fun | 0 => main_arg4.names | 1 => main_arg5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (v4 : BitVec 32) : BitVec 1 :=
  let c1_i32 : BitVec 32 := 1#32
  let v5 : BitVec 1 := Scalar.cmpi .eq v4 c1_i32
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference6Ideal.lean ====
abbrev S77824x2048 : Shape := ⟨2, ![77824, 2048]⟩
abbrev S8x2048x4096 : Shape := ⟨3, ![8, 2048, 4096]⟩
abbrev S8x4096x2048 : Shape := ⟨3, ![8, 4096, 2048]⟩
abbrev S152 : Shape := ⟨1, ![152]⟩
abbrev S77824x8x4096 : Shape := ⟨3, ![77824, 8, 4096]⟩
abbrev S_ : Shape := ⟨0, ![]⟩
abbrev S8x77824x2048 : Shape := ⟨3, ![8, 77824, 2048]⟩
abbrev S1x152 : Shape := ⟨2, ![1, 152]⟩
abbrev S8 : Shape := ⟨1, ![8]⟩
abbrev S8x1 : Shape := ⟨2, ![8, 1]⟩
abbrev S8x152 : Shape := ⟨2, ![8, 152]⟩
abbrev S8x152x1 : Shape := ⟨3, ![8, 152, 1]⟩
abbrev S8x152x512 : Shape := ⟨3, ![8, 152, 512]⟩
abbrev S8x77824 : Shape := ⟨2, ![8, 77824]⟩
abbrev S8x77824x1 : Shape := ⟨3, ![8, 77824, 1]⟩

abbrev nBuf : Space → Nat
  | .hbm => 46
  | .vmem => 0
  | .smem => 0
  | _ => 0

abbrev bufTy : (tb : Table) → Fin (tcTables nBuf tb) → BufTy
  | .hbm, ⟨0, _⟩ => ⟨S77824x2048, .bf16⟩
  | .hbm, ⟨1, _⟩ => ⟨S8x2048x4096, .bf16⟩
  | .hbm, ⟨2, _⟩ => ⟨S8x2048x4096, .bf16⟩
  | .hbm, ⟨3, _⟩ => ⟨S8x4096x2048, .bf16⟩
  | .hbm, ⟨4, _⟩ => ⟨S152, .i32⟩
  | .hbm, ⟨5, _⟩ => ⟨S152, .i32⟩
  | .hbm, ⟨6, _⟩ => ⟨S77824x2048, .f32⟩
  | .hbm, ⟨7, _⟩ => ⟨S8x2048x4096, .f32⟩
  | .hbm, ⟨8, _⟩ => ⟨S8x2048x4096, .f32⟩
  | .hbm, ⟨9, _⟩ => ⟨S8x4096x2048, .f32⟩
  | .hbm, ⟨10, _⟩ => ⟨S77824x8x4096, .f32⟩
  | .hbm, ⟨11, _⟩ => ⟨S77824x8x4096, .f32⟩
  | .hbm, ⟨12, _⟩ => ⟨S77824x8x4096, .f32⟩
  | .hbm, ⟨13, _⟩ => ⟨S77824x8x4096, .f32⟩
  | .hbm, ⟨14, _⟩ => ⟨S_, .f32⟩
  | .hbm, ⟨15, _⟩ => ⟨S77824x8x4096, .f32⟩
  | .hbm, ⟨16, _⟩ => ⟨S77824x8x4096, .f32⟩
  | .hbm, ⟨17, _⟩ => ⟨S_, .f32⟩
  | .hbm, ⟨18, _⟩ => ⟨S77824x8x4096, .f32⟩
  | .hbm, ⟨19, _⟩ => ⟨S77824x8x4096, .f32⟩
  | .hbm, ⟨20, _⟩ => ⟨S77824x8x4096, .f32⟩
  | .hbm, ⟨21, _⟩ => ⟨S77824x8x4096, .f32⟩
  | .hbm, ⟨22, _⟩ => ⟨S8x77824x2048, .f32⟩
  | .hbm, ⟨23, _⟩ => ⟨S1x152, .i32⟩
  | .hbm, ⟨24, _⟩ => ⟨S8, .i32⟩
  | .hbm, ⟨25, _⟩ => ⟨S8x1, .i32⟩
  | .hbm, ⟨26, _⟩ => ⟨S8x152, .i32⟩
  | .hbm, ⟨27, _⟩ => ⟨S8x152, .i32⟩
  | .hbm, ⟨28, _⟩ => ⟨S8x152, .i1⟩
  | .hbm, ⟨29, _⟩ => ⟨S_, .i32⟩
  | .hbm, ⟨30, _⟩ => ⟨S152, .i32⟩
  | .hbm, ⟨31, _⟩ => ⟨S152, .i1⟩
  | .hbm, ⟨32, _⟩ => ⟨S1x152, .i1⟩
  | .hbm, ⟨33, _⟩ => ⟨S8x152, .i1⟩
  | .hbm, ⟨34, _⟩ => ⟨S8x152, .i1⟩
  | .hbm, ⟨35, _⟩ => ⟨S8x152x1, .i1⟩
  | .hbm, ⟨36, _⟩ => ⟨S8x152x512, .i1⟩
  | .hbm, ⟨37, _⟩ => ⟨S8x77824, .i1⟩
  | .hbm, ⟨38, _⟩ => ⟨S8x77824x1, .i1⟩
  | .hbm, ⟨39, _⟩ => ⟨S_, .f32⟩
  | .hbm, ⟨40, _⟩ => ⟨S_, .f32⟩
  | .hbm, ⟨41, _⟩ => ⟨S8x77824x2048, .i1⟩
  | .hbm, ⟨42, _⟩ => ⟨S8x77824x2048, .f32⟩
  | .hbm, ⟨43, _⟩ => ⟨S8x77824x2048, .f32⟩
  | .hbm, ⟨44, _⟩ => ⟨S_, .f32⟩
  | .hbm, ⟨45, _⟩ => ⟨S77824x2048, .f32⟩
  | _, _ => ⟨S77824x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v24 : Ref sig .tc := ⟨.hbm, 43, rfl⟩
abbrev main_cst_0 : Ref sig .tc := ⟨.hbm, 44, rfl⟩
abbrev main_v25 : Ref sig .tc := ⟨.hbm, 45, rfl⟩

abbrev nD : Nat := 1
abbrev τ : Topo := Topo.v7x

variable {F : FTy → Type} [FloatOps F]
-- ==== Proof.Softmax.lean ====
/- One row of an attention over the extended reals: the weights' quotient taken after the weighted
   sum of the values, or before it. Nothing here mentions a program. -/
module

public import Idealize.ShloMosaic.PureOps.Ideal
public import Idealize.ShloMosaic.PureOps.Ideal.Laws
public import Idealize.ShloMosaic.Lib.Pointwise.Reduce

@[expose] public section

noncomputable section

namespace Cert.Attend

open Idealize.ShloMosaic
open scoped BigOperators

/-- A nonnegative real factor goes through a finite sum of extended reals. -/
theorem sum_mul_coe {ι : Type*} (S : Finset ι) (f : ι → EReal) {c : ℝ} (hc : 0 ≤ c) :
    (∑ k ∈ S, f k) * (c : EReal) = ∑ k ∈ S, f k * (c : EReal) := by
  classical
  induction S using Finset.induction_on with
  | empty => simp
  | insert a S ha ih =>
    rw [Finset.sum_insert ha, Finset.sum_insert ha, ← ih]
    exact EReal.right_distrib_of_nonneg_of_ne_top (by exact_mod_cast hc) (EReal.coe_ne_top c) _ _

/-- A finite sum of reals is real. -/
theorem sum_coe {ι : Type*} (S : Finset ι) (f : ι → ℝ) :
    ∑ k ∈ S, (f k : EReal) = ((∑ k ∈ S, f k : ℝ) : EReal) := by
  classical
  induction S using Finset.induction_on with
  | empty => simp
  | insert a S ha ih => rw [Finset.sum_insert ha, Finset.sum_insert ha, ih, EReal.coe_add]

/-- The maximum of a nonempty finite family of reals, folded from `⊥`, is real. -/
theorem fold_max_real {ι : Type*} [Fintype ι] [Nonempty ι] (f : ι → ℝ) :
    ∃ M : ℝ, (Finset.univ : Finset ι).fold max (⊥ : EReal) (fun k => (f k : EReal)) = (M : EReal) := by
  classical
  have key : ∀ S : Finset ι, S.fold max (⊥ : EReal) (fun k => (f k : EReal)) = ⊥ ∧ S = ∅ ∨
      ∃ M : ℝ, S.fold max (⊥ : EReal) (fun k => (f k : EReal)) = (M : EReal) := by
    intro S
    induction S using Finset.induction_on with
    | empty => exact .inl ⟨rfl, rfl⟩
    | insert a S ha ih =>
      right
      rw [Finset.fold_insert ha]
      rcases ih with ⟨h, -⟩ | ⟨M, h⟩
      · exact ⟨f a, by rw [h]; exact max_eq_left bot_le⟩
      · exact ⟨max (f a) M, by rw [h]; exact (EReal.coe_strictMono.monotone.map_max).symm⟩
  rcases key Finset.univ with ⟨-, h⟩ | h
  · exact absurd h (Finset.univ_nonempty).ne_empty
  · exact h

/-- The weight of key `k` before normalisation: the exponential of its score less the largest score. -/
def weight {n : ℕ} (s : Fin n → EReal) (k : Fin n) : EReal :=
  Ideal.exp (s k - (Finset.univ : Finset (Fin n)).fold max (⊥ : EReal) s)

/-- The softmax of the scores `s`, applied to the values `v`. -/
def attend {n : ℕ} (s v : Fin n → EReal) : EReal :=
  ∑ k : Fin n, v k * Ideal.div (weight s k) (∑ j : Fin n, weight s j)

/-- With finite scores, dividing the weighted sum of the values by the sum of the weights is the
    softmax applied to the values, whatever the values are. -/
theorem div_sum_eq_attend {n : ℕ} (hn : 0 < n) (s v : Fin n → EReal) (hs : ∀ k, ∃ r : ℝ, s k = (r : EReal)) :
    Ideal.div (∑ k : Fin n, weight s k * v k) (∑ k : Fin n, weight s k) = attend s v := by
  haveI : Nonempty (Fin n) := ⟨⟨0, hn⟩⟩
  choose r hr using hs
  obtain rfl : s = fun k => (r k : EReal) := funext hr
  obtain ⟨M, hM⟩ := fold_max_real r
  have hw : ∀ k, weight (fun k => (r k : EReal)) k = ((Real.exp (r k - M) : ℝ) : EReal) := fun k => by
    unfold weight; rw [hM, ← EReal.coe_sub]; rfl
  have hd : ∑ j : Fin n, weight (fun k => (r k : EReal)) j = ((∑ j : Fin n, Real.exp (r j - M) : ℝ) : EReal) := by
    rw [← sum_coe]; exact Finset.sum_congr rfl fun k _ => hw k
  have hpos : 0 < ∑ j : Fin n, Real.exp (r j - M) :=
    Finset.sum_pos (fun k _ => Real.exp_pos _) Finset.univ_nonempty
  unfold attend
  rw [hd, Ideal.div_coe hpos.ne', sum_mul_coe _ _ (by positivity)]
  refine Finset.sum_congr rfl fun k _ => ?_
  rw [Ideal.div_coe hpos.ne', mul_comm (weight _ k) (v k), mul_assoc]

/-- The f32 pattern of minus infinity. -/
theorem ofBits_neg_inf_f32 : Ideal.ofBits .f32 0xFF800000#32 = ⊥ := by
  simp [Ideal.ofBits, Ideal.ieee]

/-- The larger of an array and one that is minus infinity at an index is the array's element there. -/
theorem max_of_bot {s : Shape} (c x : s.Idx → EReal) (i : s.Idx) (hc : c i = ⊥) :
    maximumf (F := Ideal) (φ := .f32) c x i = x i := by
  show FloatOps.maximumf (F := Ideal) (φ := .f32) (c i) (x i) = _
  rw [hc, Ideal.maximumf_eq_max]
  exact max_eq_right bot_le

/-- One output of one query row as the kernel computes it: the weighted sum of `x` over the weighted sum of `y`. -/
def ratio {n : ℕ} (s x y : Fin n → EReal) : EReal :=
  Ideal.div (∑ j : Fin n, weight s j * x j) (∑ j : Fin n, weight s j * y j)

end Cert.Attend

end
-- ==== Proof.Heads.lean ====
/- What one head's store of the attention's body computes, at an index, over any block contents. -/
module

public import proofs.«01_k».proof.Proof.Gen.KernelIdeal.Skeleton
public import proofs.«01_k».proof.Proof.Softmax
public import Idealize.ShloMosaic.Lib.Pointwise

@[expose] public section

set_option maxRecDepth 16384

noncomputable section

namespace Cert.Attend

open Idealize.ShloMosaic
open Cert.KernelIdeal Cert.KernelIdeal.Gen

/-- One head of one query row, as the body computes it from the head's packed columns: `q` the lanes of the
    query rows, `k` the packed keys, `v` the packed values, whose lane 128 is summed along as the denominator. -/
def head {n D : ℕ} (q : (⟨3, ![1, 256, D]⟩ : Shape).Idx → EReal) (k : (⟨3, ![1, n, D]⟩ : Shape).Idx → EReal)
    (v : (⟨3, ![1, n, 256]⟩ : Shape).Idx → EReal) (r : Fin 256) (e : Fin 128) : EReal :=
  ratio (fun i => ∑ d : Fin D, q (ix3 0 r d) * k (ix3 0 i d)) (fun j => v (ix3 0 j ⟨e.val, by omega⟩))
    (fun j => v (ix3 0 j 128))

/-- bf16's negative infinity is the least extended real. -/
theorem ofBits_neg_inf_bf16 : Ideal.ofBits .bf16 0xFF80#16 = ⊥ := by
  simp [Ideal.ofBits, Ideal.ieee]

/-- Head 0's store over 256 keys. -/
theorem head0_256 (q : Vec Ideal S1x256x256 .bf16) (k v : Vec Ideal S1x256x256 .bf16) (z : Fin 1) (r : Fin 256) (e : Fin 128) :
    k0_pay12 (k0_pay8 q k) v (ix3 z r e) = head (n := 256) (D := 256) q k v r e := by
  pointwise [k0_pay12, k0_pay8, head, ratio, weight, ofBits_neg_inf_bf16]

/-- Head 1's store over 256 keys. -/
theorem head1_256 (q : Vec Ideal S1x256x256 .bf16) (k v : Vec Ideal S1x256x256 .bf16) (z : Fin 1) (r : Fin 256) (e : Fin 128) :
    k0_pay13 (k0_pay5 q k) (k0_pay9 q k) v (ix3 z r e) = head (n := 256) (D := 256) q k v r e := by
  pointwise [k0_pay13, k0_pay5, k0_pay9, head, ratio, weight, ofBits_neg_inf_bf16]

/-- Head 2's store over 256 keys. -/
theorem head2_256 (q : Vec Ideal S1x256x256 .bf16) (k v : Vec Ideal S1x256x256 .bf16) (z : Fin 1) (r : Fin 256) (e : Fin 128) :
    k0_pay1 (k0_pay10 (k0_pay6 q k)) (k0_pay14 v) (constant S256x256 .f32 0x00000000#32) (ix3 z r e) = head (n := 256) (D := 256) q k v r e := by
  pointwise [k0_pay1, k0_pay10, k0_pay6, k0_pay14, head, ratio, weight, ofBits_neg_inf_bf16]

/-- Head 3's store over 256 keys. -/
theorem head3_256 (q : Vec Ideal S1x256x256 .bf16) (k v : Vec Ideal S1x256x256 .bf16) (z : Fin 1) (r : Fin 256) (e : Fin 128) :
    k0_pay2 (k0_pay11 (k0_pay7 q k)) v (ix3 z r e) = head (n := 256) (D := 256) q k v r e := by
  pointwise [k0_pay2, k0_pay11, k0_pay7, head, ratio, weight, ofBits_neg_inf_bf16]

/-- Head 0's store over 2304 keys. -/
theorem head0_2304 (q : Vec Ideal S1x256x256 .bf16) (k v : Vec Ideal S1x2304x256 .bf16) (z : Fin 1) (r : Fin 256) (e : Fin 128) :
    k0_pay22 (k0_pay18 q k) v (ix3 z r e) = head (n := 2304) (D := 256) q k v r e := by
  pointwise [k0_pay22, k0_pay18, head, ratio, weight, ofBits_neg_inf_bf16]

/-- Head 1's store over 2304 keys. -/
theorem head1_2304 (q : Vec Ideal S1x256x256 .bf16) (k v : Vec Ideal S1x2304x256 .bf16) (z : Fin 1) (r : Fin 256) (e : Fin 128) :
    k0_pay23 (k0_pay15 q k) (k0_pay19 q k) v (ix3 z r e) = head (n := 2304) (D := 256) q k v r e := by
  pointwise [k0_pay23, k0_pay15, k0_pay19, head, ratio, weight, ofBits_neg_inf_bf16]

/-- Head 2's store over 2304 keys. -/
theorem head2_2304 (q : Vec Ideal S1x256x256 .bf16) (k v : Vec Ideal S1x2304x256 .bf16) (z : Fin 1) (r : Fin 256) (e : Fin 128) :
    k0_pay3 (k0_pay20 (k0_pay16 q k)) (k0_pay24 v) (constant S256x256 .f32 0x00000000#32) (ix3 z r e) = head (n := 2304) (D := 256) q k v r e := by
  pointwise [k0_pay3, k0_pay20, k0_pay16, k0_pay24, head, ratio, weight, ofBits_neg_inf_bf16]

/-- Head 3's store over 2304 keys. -/
theorem head3_2304 (q : Vec Ideal S1x256x256 .bf16) (k v : Vec Ideal S1x2304x256 .bf16) (z : Fin 1) (r : Fin 256) (e : Fin 128) :
    k0_pay4 (k0_pay21 (k0_pay17 q k)) v (ix3 z r e) = head (n := 2304) (D := 256) q k v r e := by
  pointwise [k0_pay4, k0_pay21, k0_pay17, head, ratio, weight, ofBits_neg_inf_bf16]

end Cert.Attend

end
-- ==== Proof.KernelArray.lean ====
/- The kernel's result array after the run, at an index, from the packed arrays its region reads. -/
module

public import proofs.«01_k».proof.Proof.Gen.KernelIdeal.Value
public import proofs.«01_k».proof.Proof.Heads
public import Idealize.ShloMosaic.Lib.Pipeline.ValueKit

@[expose] public section

set_option maxRecDepth 16384

noncomputable section

namespace Cert.Attend

open Idealize.ShloMosaic Idealize.ShloMosaic.TcCoe Idealize.SL.Sem
open Cert.KernelIdeal Cert.KernelIdeal.Gen

variable (m : (ℓ : Loc nD τ sig) → Buf (Elt Ideal) ℓ)

/-- The block indices of the four windows at a grid point. -/
theorem idx : ∀ t : Fin grid0.N,
    win0_0.index t = ![t.val / 9, t.val % 9, 0] ∧ win0_1.index t = ![t.val / 9, 0, 0]
    ∧ win0_2.index t = ![t.val / 9, 0, 0] ∧ win0_3.index t = ![t.val / 9, t.val % 9, 0] := by decide +kernel

/-- One element of the result over the first `n` keys: batch `b`, token `r`, head `h`, lane `e` of the head's value. -/
def cell (n : ℕ) (hn : n ≤ 2304) (q k v : S16x2304x1024.Idx → EReal) (b : Fin 16) (r : Fin 2304) (h : Fin 4)
    (e : Fin 128) : EReal :=
  ratio (n := n)
    (fun i => ∑ d : Fin 256, q (ix3 b r ⟨h.val * 256 + d.val, by omega⟩) * k (ix3 b ⟨i.val, by omega⟩ ⟨h.val * 256 + d.val, by omega⟩))
    (fun j => v (ix3 b ⟨j.val, by omega⟩ ⟨h.val * 256 + e.val, by omega⟩))
    (fun j => v (ix3 b ⟨j.val, by omega⟩ ⟨h.val * 256 + 128, by omega⟩))

/-- The kernel's whole result: the first 256 tokens attend to themselves, the others to every token. -/
def result (q k v : S16x2304x1024.Idx → EReal) : S16x2304x512.Idx → EReal := fun i =>
  if (i 1).val < 256 then
    cell 256 (by decide) q k v (i 0) (i 1) ⟨(i 2).val / 128, by have := (i 2).isLt; change _ < 512 at this; omega⟩
      ⟨(i 2).val % 128, by omega⟩
  else
    cell 2304 (by decide) q k v (i 0) (i 1) ⟨(i 2).val / 128, by have := (i 2).isLt; change _ < 512 at this; omega⟩
      ⟨(i 2).val % 128, by omega⟩

/-- A head's store is the result's cell where its blocks are the arrays' blocks of that batch, row and head. -/
theorem head_eq_cell {n : ℕ} (hn : n ≤ 2304) (Q K V : S16x2304x1024.Idx → EReal) (q : S1x256x256.Idx → EReal)
    (k v : (⟨3, ![1, n, 256]⟩ : Shape).Idx → EReal) (b : Fin 16) (r : Fin 2304) (h : Fin 4) (e : Fin 128) (r' : Fin 256)
    (hq : ∀ d : Fin 256, q (ix3 0 r' d) = Q (ix3 b r ⟨h.val * 256 + d.val, by omega⟩))
    (hk : ∀ (i : Fin n) (d : Fin 256), k (ix3 0 i d) = K (ix3 b ⟨i.val, by omega⟩ ⟨h.val * 256 + d.val, by omega⟩))
    (hv : ∀ (i : Fin n) (d : Fin 256), v (ix3 0 i d) = V (ix3 b ⟨i.val, by omega⟩ ⟨h.val * 256 + d.val, by omega⟩)) :
    head q k v r' e = cell n hn Q K V b r h e := by
  unfold head cell
  simp only [hq, hk, hv]
  rfl

/-- The result at a context token. -/
theorem result_ctx (Q K V : S16x2304x1024.Idx → EReal) (i : S16x2304x512.Idx) (b : Fin 16) (r : Fin 2304) (h : Fin 4)
    (e : Fin 128) (h0 : (i 0).val = b.val) (h1 : (i 1).val = r.val) (h2 : (i 2).val = h.val * 128 + e.val)
    (hr : r.val < 256) : result Q K V i = cell 256 (by decide) Q K V b r h e := by
  obtain ⟨i0, i1, i2, rfl⟩ : ∃ (i0 : Fin 16) (i1 : Fin 2304) (i2 : Fin 512), i = ix3 i0 i1 i2 :=
    ⟨i 0, i 1, i 2, eq_ix3 i⟩
  have e0 : i0 = b := Fin.ext h0
  have e1 : i1 = r := Fin.ext h1
  have h2' : i2.val = h.val * 128 + e.val := h2
  subst e0 e1
  refine (if_pos (show i1.val < 256 from hr)).trans ?_
  have e3 : (⟨i2.val / 128, by omega⟩ : Fin 4) = h := Fin.ext (by simp only []; omega)
  have e4 : (⟨i2.val % 128, by omega⟩ : Fin 128) = e := Fin.ext (by simp only []; omega)
  exact congrArg₂ _ e3 e4

/-- The result at a latent token. -/
theorem result_lat (Q K V : S16x2304x1024.Idx → EReal) (i : S16x2304x512.Idx) (b : Fin 16) (r : Fin 2304) (h : Fin 4)
    (e : Fin 128) (h0 : (i 0).val = b.val) (h1 : (i 1).val = r.val) (h2 : (i 2).val = h.val * 128 + e.val)
    (hr : ¬ r.val < 256) : result Q K V i = cell 2304 (by decide) Q K V b r h e := by
  obtain ⟨i0, i1, i2, rfl⟩ : ∃ (i0 : Fin 16) (i1 : Fin 2304) (i2 : Fin 512), i = ix3 i0 i1 i2 :=
    ⟨i 0, i 1, i 2, eq_ix3 i⟩
  have e0 : i0 = b := Fin.ext h0
  have e1 : i1 = r := Fin.ext h1
  have h2' : i2.val = h.val * 128 + e.val := h2
  subst e0 e1
  refine (if_neg (show ¬ i1.val < 256 from hr)).trans ?_
  have e3 : (⟨i2.val / 128, by omega⟩ : Fin 4) = h := Fin.ext (by simp only []; omega)
  have e4 : (⟨i2.val % 128, by omega⟩ : Fin 128) = e := Fin.ext (by simp only []; omega)
  exact congrArg₂ _ e3 e4

/-- Window 0's block at a point, read in the array it is a block of. -/
theorem read0_at (c : Dev nD) (t : Fin grid0.N) (X : Buf (Elt Ideal) ((c.tc : Thread nD τ).loc main_v5)) (z : Fin 1)
    (r : Fin 256) (d : Fin 1024) (b : Fin 16) (R : Fin 2304)
    (hb : b.val = t.val / 9) (hR : R.val = t.val % 9 * 256 + r.val) :
    ((cfg0.win 0).blk t).view.read (Elt Ideal) X (ix3 z r d) = X (ix3 b R d) := by
  obtain ⟨e0, -⟩ := idx t
  blk_ext [e0]

/-- Window 1's block at a point, read in the array it is a block of. -/
theorem read1_at (c : Dev nD) (t : Fin grid0.N) (X : Buf (Elt Ideal) ((c.tc : Thread nD τ).loc main_v10)) (z : Fin 1)
    (r : Fin 2304) (d : Fin 1024) (b : Fin 16) (hb : b.val = t.val / 9) :
    ((cfg0.win 1).blk t).view.read (Elt Ideal) X (ix3 z r d) = X (ix3 b r d) := by
  obtain ⟨-, e1, -⟩ := idx t
  blk_ext [e1]

/-- Window 2's block at a point, read in the array it is a block of. -/
theorem read2_at (c : Dev nD) (t : Fin grid0.N) (X : Buf (Elt Ideal) ((c.tc : Thread nD τ).loc main_v15)) (z : Fin 1)
    (r : Fin 2304) (d : Fin 1024) (b : Fin 16) (hb : b.val = t.val / 9) :
    ((cfg0.win 2).blk t).view.read (Elt Ideal) X (ix3 z r d) = X (ix3 b r d) := by
  obtain ⟨-, -, e2, -⟩ := idx t
  blk_ext [e2]

/-- Window 0's block at a point, in the packed queries. -/
theorem iblk0_at (c : Dev nD) (t : Fin grid0.N) (z : Fin 1) (r : Fin 256) (d : Fin 1024) (b : Fin 16) (R : Fin 2304)
    (hb : b.val = t.val / 9) (hR : R.val = t.val % 9 * 256 + r.val) :
    iblk m c 0 t (ix3 z r d) = V m c main_v5 (ix3 b R d) := read0_at c t (V m c main_v5) z r d b R hb hR

/-- Window 1's block at a point, in the packed keys. -/
theorem iblk1_at (c : Dev nD) (t : Fin grid0.N) (z : Fin 1) (r : Fin 2304) (d : Fin 1024) (b : Fin 16)
    (hb : b.val = t.val / 9) : iblk m c 1 t (ix3 z r d) = V m c main_v10 (ix3 b r d) :=
  read1_at c t (V m c main_v10) z r d b hb

/-- Window 2's block at a point, in the packed values. -/
theorem iblk2_at (c : Dev nD) (t : Fin grid0.N) (z : Fin 1) (r : Fin 2304) (d : Fin 1024) (b : Fin 16)
    (hb : b.val = t.val / 9) : iblk m c 2 t (ix3 z r d) = V m c main_v15 (ix3 b r d) :=
  read2_at c t (V m c main_v15) z r d b hb

end Cert.Attend

end
-- ==== Proof.KernelResult.lean ====
/- The kernel's result array after the run is `result` of the three packed arrays. -/
module

public import proofs.«01_k».proof.Proof.KernelArray

@[expose] public section

set_option maxRecDepth 16384

noncomputable section

namespace Cert.Attend

open Idealize.ShloMosaic Idealize.ShloMosaic.TcCoe Idealize.SL.Sem
open Cert.KernelIdeal Cert.KernelIdeal.Gen

variable (m : (ℓ : Loc nD τ sig) → Buf (Elt Ideal) ℓ)

/-- The block that a point leaves over 256 keys, at an index of the array. -/
theorem out_256 (c : Dev nD) (t : Fin grid0.N) (h : t.val % 9 = 0) (y : S1x256x512.Idx) (i : S16x2304x512.Idx)
    (g0 : (i 0).val = t.val / 9 + (y 0).val) (g1 : (i 1).val = t.val % 9 * 256 + (y 1).val) (g2 : (i 2).val = (y 2).val) :
    outsAt0 m c t.val t.isLt y = result (V m c main_v5) (V m c main_v10) (V m c main_v15) i := by
  have ht : t.val < 144 := t.isLt
  have b0 := iblk0_at m c t
  have b1 := iblk1_at m c t
  have b2 := iblk2_at m c t
  rw [outsAt0_A m c t h (by omega)]
  frame_out
  generalize iblk m c 0 t = q at b0 ⊢
  generalize iblk m c 1 t = k at b1 ⊢
  generalize iblk m c 2 t = v at b2 ⊢
  generalize V m c main_v5 = Q at b0 ⊢
  generalize V m c main_v10 = K at b1 ⊢
  generalize V m c main_v15 = W at b2 ⊢
  canon_tiles x h
  all_goals idx_vars x
  · refine (head3_256 _ _ _ _ _ _).trans ((head_eq_cell (by decide) Q K W _ _ _ ⟨t.val / 9, by omega⟩
      ⟨t.val % 9 * 256 + x1.val, by omega⟩ 3 x2 x1 (fun d => ?_) (fun i d => ?_) (fun i d => ?_)).trans
      (result_ctx Q K W i _ _ _ _ ?_ ?_ ?_ ?_).symm)
    · pointwise
      exact b0 _ _ _ _ _ rfl rfl
    · pointwise
      exact b1 _ _ _ _ rfl
    · pointwise
      exact b2 _ _ _ _ rfl
    · simp only []; omega
    · simp only []; omega
    · rw [g2, h2]; rfl
    · simp only []; omega
  · refine (head2_256 _ _ _ _ _ _).trans ((head_eq_cell (by decide) Q K W _ _ _ ⟨t.val / 9, by omega⟩
      ⟨t.val % 9 * 256 + x1.val, by omega⟩ 2 x2 x1 (fun d => ?_) (fun i d => ?_) (fun i d => ?_)).trans
      (result_ctx Q K W i _ _ _ _ ?_ ?_ ?_ ?_).symm)
    · pointwise
      exact b0 _ _ _ _ _ rfl rfl
    · pointwise
      exact b1 _ _ _ _ rfl
    · pointwise
      exact b2 _ _ _ _ rfl
    · simp only []; omega
    · simp only []; omega
    · rw [g2, h2]; rfl
    · simp only []; omega
  · refine (head1_256 _ _ _ _ _ _).trans ((head_eq_cell (by decide) Q K W _ _ _ ⟨t.val / 9, by omega⟩
      ⟨t.val % 9 * 256 + x1.val, by omega⟩ 1 x2 x1 (fun d => ?_) (fun i d => ?_) (fun i d => ?_)).trans
      (result_ctx Q K W i _ _ _ _ ?_ ?_ ?_ ?_).symm)
    · pointwise
      exact b0 _ _ _ _ _ rfl rfl
    · pointwise
      exact b1 _ _ _ _ rfl
    · pointwise
      exact b2 _ _ _ _ rfl
    · simp only []; omega
    · simp only []; omega
    · rw [g2, h2]; rfl
    · simp only []; omega
  · refine (head0_256 _ _ _ _ _ _).trans ((head_eq_cell (by decide) Q K W _ _ _ ⟨t.val / 9, by omega⟩
      ⟨t.val % 9 * 256 + x1.val, by omega⟩ 0 x2 x1 (fun d => ?_) (fun i d => ?_) (fun i d => ?_)).trans
      (result_ctx Q K W i _ _ _ _ ?_ ?_ ?_ ?_).symm)
    · pointwise
      exact b0 _ _ _ _ _ rfl rfl
    · pointwise
      exact b1 _ _ _ _ rfl
    · pointwise
      exact b2 _ _ _ _ rfl
    · simp only []; omega
    · simp only []; omega
    · rw [g2, h2]; exact (Nat.zero_add _).symm
    · simp only []; omega

/-- The block that a point leaves over 2304 keys, at an index of the array. -/
theorem out_2304 (c : Dev nD) (t : Fin grid0.N) (h : ¬ t.val % 9 = 0) (y : S1x256x512.Idx) (i : S16x2304x512.Idx)
    (g0 : (i 0).val = t.val / 9 + (y 0).val) (g1 : (i 1).val = t.val % 9 * 256 + (y 1).val) (g2 : (i 2).val = (y 2).val) :
    outsAt0 m c t.val t.isLt y = result (V m c main_v5) (V m c main_v10) (V m c main_v15) i := by
  have ht : t.val < 144 := t.isLt
  have b0 := iblk0_at m c t
  have b1 := iblk1_at m c t
  have b2 := iblk2_at m c t
  rw [outsAt0_B m c t h (by omega)]
  frame_out
  generalize iblk m c 0 t = q at b0 ⊢
  generalize iblk m c 1 t = k at b1 ⊢
  generalize iblk m c 2 t = v at b2 ⊢
  generalize V m c main_v5 = Q at b0 ⊢
  generalize V m c main_v10 = K at b1 ⊢
  generalize V m c main_v15 = W at b2 ⊢
  canon_tiles x h
  all_goals idx_vars x
  · refine (head3_2304 _ _ _ _ _ _).trans ((head_eq_cell (by decide) Q K W _ _ _ ⟨t.val / 9, by omega⟩
      ⟨t.val % 9 * 256 + x1.val, by omega⟩ 3 x2 x1 (fun d => ?_) (fun i d => ?_) (fun i d => ?_)).trans
      (result_lat Q K W i _ _ _ _ ?_ ?_ ?_ ?_).symm)
    · pointwise
      exact b0 _ _ _ _ _ rfl rfl
    · pointwise
      exact b1 _ _ _ _ rfl
    · pointwise
      exact b2 _ _ _ _ rfl
    · simp only []; omega
    · simp only []; omega
    · rw [g2, h2]; rfl
    · simp only []; omega
  · refine (head2_2304 _ _ _ _ _ _).trans ((head_eq_cell (by decide) Q K W _ _ _ ⟨t.val / 9, by omega⟩
      ⟨t.val % 9 * 256 + x1.val, by omega⟩ 2 x2 x1 (fun d => ?_) (fun i d => ?_) (fun i d => ?_)).trans
      (result_lat Q K W i _ _ _ _ ?_ ?_ ?_ ?_).symm)
    · pointwise
      exact b0 _ _ _ _ _ rfl rfl
    · pointwise
      exact b1 _ _ _ _ rfl
    · pointwise
      exact b2 _ _ _ _ rfl
    · simp only []; omega
    · simp only []; omega
    · rw [g2, h2]; rfl
    · simp only []; omega
  · refine (head1_2304 _ _ _ _ _ _).trans ((head_eq_cell (by decide) Q K W _ _ _ ⟨t.val / 9, by omega⟩
      ⟨t.val % 9 * 256 + x1.val, by omega⟩ 1 x2 x1 (fun d => ?_) (fun i d => ?_) (fun i d => ?_)).trans
      (result_lat Q K W i _ _ _ _ ?_ ?_ ?_ ?_).symm)
    · pointwise
      exact b0 _ _ _ _ _ rfl rfl
    · pointwise
      exact b1 _ _ _ _ rfl
    · pointwise
      exact b2 _ _ _ _ rfl
    · simp only []; omega
    · simp only []; omega
    · rw [g2, h2]; rfl
    · simp only []; omega
  · refine (head0_2304 _ _ _ _ _ _).trans ((head_eq_cell (by decide) Q K W _ _ _ ⟨t.val / 9, by omega⟩
      ⟨t.val % 9 * 256 + x1.val, by omega⟩ 0 x2 x1 (fun d => ?_) (fun i d => ?_) (fun i d => ?_)).trans
      (result_lat Q K W i _ _ _ _ ?_ ?_ ?_ ?_).symm)
    · pointwise
      exact b0 _ _ _ _ _ rfl rfl
    · pointwise
      exact b1 _ _ _ _ rfl
    · pointwise
      exact b2 _ _ _ _ rfl
    · simp only []; omega
    · simp only []; omega
    · rw [g2, h2]; exact (Nat.zero_add _).symm
    · simp only []; omega

/-- The kernel's result array after the run is `result` of the three packed arrays. -/
theorem arr_eq (c : Dev nD) :
    (dats m 0 c).arrAt 3 (cfgs 0).N = result (V m c main_v5) (V m c main_v10) (V m c main_v15) := by
  refine (dats m 0 c).arrAt_eq_of_covers 3 _ (by decide +kernel) fun t hf y => ?_
  obtain ⟨-, -, -, e3⟩ := idx t
  have f0 : (((((cfgs 0).win 3).blk t).view.emb y) 0 : ℕ) = t.val / 9 + (y 0).val := by blk_simp [e3]
  have f1 : (((((cfgs 0).win 3).blk t).view.emb y) 1 : ℕ) = t.val % 9 * 256 + (y 1).val := by blk_simp [e3]
  have f2 : (((((cfgs 0).win 3).blk t).view.emb y) 2 : ℕ) = (y 2).val := by blk_simp [e3]
  blk_simp
  rw [after0_3]
  by_cases h : t.val % 9 = 0
  · exact out_256 m c t h y _ f0 f1 f2
  · exact out_2304 m c t h y _ f0 f1 f2

end Cert.Attend

end
-- ==== Proof.Packs.lean ====
/- The three packed arrays of the kernel as functions of its arguments, and their entries. -/
module

public import proofs.«01_k».proof.Proof.Gen.KernelIdeal.Frame
public import Idealize.ShloMosaic.Lib.Pointwise
public import Idealize.ShloMosaic.Lib.Claim

@[expose] public section

set_option maxRecDepth 16384

noncomputable section

namespace Cert.Attend

open Idealize.ShloMosaic Idealize.ShloMosaic.TcCoe Idealize.SL.Sem
open Cert.KernelIdeal Cert.KernelIdeal.Gen

variable (m : (ℓ : Loc nD τ sig) → Buf (Elt Ideal) ℓ)

/-- The packed values, of the values. -/
def packV (a : S16x2304x4x128.Idx → EReal) : S16x2304x1024.Idx → EReal :=
  shapeCast S16x2304x1024 (truncf (F := Ideal) (φ := .f32) .bf16 (concatenate S16x2304x4x256 3
      [⟨S16x2304x4x128, a⟩,
       ⟨S16x2304x4x1, broadcastInDim S16x2304x4x1 ![] bcast_S_S16x2304x4x1 (constant (F := Ideal) S_ .f32 0x3F800000#32)⟩,
       ⟨S16x2304x4x127, broadcastInDim S16x2304x4x127 ![] bcast_S_S16x2304x4x127 (constant (F := Ideal) S_ .f32 0x00000000#32)⟩]
      concatenates_S16x2304x4x128_S16x2304x4x1_S16x2304x4x127_S16x2304x4x256_d3) bitsLt_bf16_f32)
      shapeCasts_S16x2304x4x256_S16x2304x1024

/-- The packed queries, of the queries' two parts. -/
def packQ (a : S16x2304x4x128.Idx → EReal) (a' : S16x2304x4x64.Idx → EReal) :
    S16x2304x1024.Idx → EReal :=
  shapeCast S16x2304x1024 (truncf (F := Ideal) (φ := .f32) .bf16 (mulf (F := Ideal) (φ := .f32)
      (concatenate S16x2304x4x256 3
      [⟨S16x2304x4x128, a⟩, ⟨S16x2304x4x64, a'⟩,
       ⟨S16x2304x4x64, broadcastInDim S16x2304x4x64 ![] bcast_S_S16x2304x4x64 (constant (F := Ideal) S_ .f32 0x00000000#32)⟩]
      concatenates_S16x2304x4x128_S16x2304x4x64_S16x2304x4x64_S16x2304x4x256_d3)
      (broadcastInDim S16x2304x4x256 ![] bcast_S_S16x2304x4x256 (constant (F := Ideal) S_ .f32 0x3D93CD3A#32))) bitsLt_bf16_f32)
      shapeCasts_S16x2304x4x256_S16x2304x1024

/-- The packed keys, of the keys' two parts, the second shared by the heads. -/
def packK (a : S16x2304x4x128.Idx → EReal) (a' : S16x2304x64.Idx → EReal) :
    S16x2304x1024.Idx → EReal :=
  shapeCast S16x2304x1024 (truncf (F := Ideal) (φ := .f32) .bf16 (concatenate S16x2304x4x256 3
      [⟨S16x2304x4x128, a⟩,
       ⟨S16x2304x4x64, broadcastInDim S16x2304x4x64 ![0, 1, 2, 3] bcast_S16x2304x1x64_S16x2304x4x64_0_1_2_3 (broadcastInDim S16x2304x1x64 ![0, 1, 3] bcast_S16x2304x64_S16x2304x1x64_0_1_3 a')⟩,
       ⟨S16x2304x4x64, broadcastInDim S16x2304x4x64 ![] bcast_S_S16x2304x4x64 (constant (F := Ideal) S_ .f32 0x00000000#32)⟩]
      concatenates_S16x2304x4x128_S16x2304x4x64_S16x2304x4x64_S16x2304x4x256_d3) bitsLt_bf16_f32)
      shapeCasts_S16x2304x4x256_S16x2304x1024

/-- An entry of four heads laid side by side is the head's own entry. -/
theorem flat_at (x : S16x2304x4x256.Idx → EReal) (b : Fin 16) (r : Fin 2304) (h : Fin 4) (d : Fin 256) :
    shapeCast S16x2304x1024 x shapeCasts_S16x2304x4x256_S16x2304x1024
      (ix3 b r ⟨h.val * 256 + d.val, by omega⟩) = x (ix4 b r h d) := by
  pointwise

/-- A packed value in its first 128 lanes. -/
theorem packV_at (a : S16x2304x4x128.Idx → EReal) (b : Fin 16) (r : Fin 2304) (h : Fin 4) (e : Fin 128) :
    packV a (ix3 b r ⟨h.val * 256 + e.val, by omega⟩) = a (ix4 b r h e) := by
  refine (flat_at _ b r h ⟨e.val, by omega⟩).trans ?_
  pointwise

/-- Lane 128 of a packed value is one. -/
theorem packV_one (a : S16x2304x4x128.Idx → EReal) (b : Fin 16) (r : Fin 2304) (h : Fin 4) :
    packV a (ix3 b r ⟨h.val * 256 + 128, by omega⟩) = (1 : EReal) := by
  refine (flat_at _ b r h ⟨128, by omega⟩).trans ?_
  pointwise

/-- The factor of the scores. -/
def factor : EReal := Ideal.ofBits .f32 0x3D93CD3A#32

/-- A packed query in its first 128 lanes. -/
theorem packQ_lo (a : S16x2304x4x128.Idx → EReal) (a' : S16x2304x4x64.Idx → EReal)
    (b : Fin 16) (r : Fin 2304) (h : Fin 4) (d : Fin 128) :
    packQ a a' (ix3 b r ⟨h.val * 256 + d.val, by omega⟩) = a (ix4 b r h d) * factor := by
  refine (flat_at _ b r h ⟨d.val, by omega⟩).trans ?_
  pointwise [factor]

/-- A packed query in its next 64 lanes. -/
theorem packQ_mid (a : S16x2304x4x128.Idx → EReal) (a' : S16x2304x4x64.Idx → EReal)
    (b : Fin 16) (r : Fin 2304) (h : Fin 4) (d : Fin 64) :
    packQ a a' (ix3 b r ⟨h.val * 256 + (128 + d.val), by omega⟩) = a' (ix4 b r h d) * factor := by
  refine (flat_at _ b r h ⟨128 + d.val, by omega⟩).trans ?_
  pointwise [factor]

/-- The last 64 lanes of a packed query are zero. -/
theorem packQ_hi (a : S16x2304x4x128.Idx → EReal) (a' : S16x2304x4x64.Idx → EReal)
    (b : Fin 16) (r : Fin 2304) (h : Fin 4) (d : Fin 64) :
    packQ a a' (ix3 b r ⟨h.val * 256 + (192 + d.val), by omega⟩) = (0 : EReal) := by
  refine (flat_at _ b r h ⟨192 + d.val, by omega⟩).trans ?_
  pointwise
  rw [dif_neg (by omega), dif_neg (by omega), zero_mul]

/-- A packed key in its first 128 lanes. -/
theorem packK_lo (a : S16x2304x4x128.Idx → EReal) (a' : S16x2304x64.Idx → EReal)
    (b : Fin 16) (r : Fin 2304) (h : Fin 4) (d : Fin 128) :
    packK a a' (ix3 b r ⟨h.val * 256 + d.val, by omega⟩) = a (ix4 b r h d) := by
  refine (flat_at _ b r h ⟨d.val, by omega⟩).trans ?_
  pointwise

/-- A packed key in its next 64 lanes, the same for every head. -/
theorem packK_mid (a : S16x2304x4x128.Idx → EReal) (a' : S16x2304x64.Idx → EReal)
    (b : Fin 16) (r : Fin 2304) (h : Fin 4) (d : Fin 64) :
    packK a a' (ix3 b r ⟨h.val * 256 + (128 + d.val), by omega⟩) = a' (ix3 b r d) := by
  refine (flat_at _ b r h ⟨128 + d.val, by omega⟩).trans ?_
  pointwise

end Cert.Attend
end
-- ==== Proof.Packed.lean ====
/- The three packed arrays that the kernel's region reads, in the arguments. -/
module

public import proofs.«01_k».proof.Proof.Gen.KernelIdeal.Frame
public import Idealize.ShloMosaic.Lib.Pointwise
public import Idealize.ShloMosaic.Lib.Claim
public import proofs.«01_k».proof.Proof.Packs

@[expose] public section

set_option maxRecDepth 16384

noncomputable section

namespace Cert.Attend

open Idealize.ShloMosaic Idealize.ShloMosaic.TcCoe Idealize.SL.Sem
open Cert.KernelIdeal Cert.KernelIdeal.Gen

variable (m : (ℓ : Loc nD τ sig) → Buf (Elt Ideal) ℓ)

set_option maxHeartbeats 4000000 in
/-- The queries the region reads. -/
theorem V_q (c : Dev nD) :
    V m c main_v5 = packQ (m ((c.tc : Thread nD τ).loc main_arg0) : S16x2304x4x128.Idx → EReal) (m ((c.tc : Thread nD τ).loc main_arg1) : S16x2304x4x64.Idx → EReal) := by
  simp only [V, StableHlo.after_cons, StableHlo.after_nil]
  after_results_simp
  rfl

set_option maxHeartbeats 4000000 in
/-- The keys the region reads. -/
theorem V_k (c : Dev nD) :
    V m c main_v10 = packK (m ((c.tc : Thread nD τ).loc main_arg2) : S16x2304x4x128.Idx → EReal) (m ((c.tc : Thread nD τ).loc main_arg3) : S16x2304x64.Idx → EReal) := by
  simp only [V, StableHlo.after_cons, StableHlo.after_nil]
  after_results_simp
  rfl

set_option maxHeartbeats 4000000 in
/-- The values the region reads. -/
theorem V_v (c : Dev nD) :
    V m c main_v15 = packV (m ((c.tc : Thread nD τ).loc main_arg4) : S16x2304x4x128.Idx → EReal) := by
  simp only [V, StableHlo.after_cons, StableHlo.after_nil]
  after_results_simp
  rfl

end Cert.Attend
end
-- ==== Proof.Cells.lean ====
/- One element of the kernel's result is the softmax attention of the unpacked arrays. -/
module

public import proofs.«01_k».proof.Proof.Gen.KernelIdeal.Frame
public import Idealize.ShloMosaic.Lib.Pointwise
public import Idealize.ShloMosaic.Lib.Claim
public import proofs.«01_k».proof.Proof.Packs
public import proofs.«01_k».proof.Proof.KernelArray

@[expose] public section

set_option maxRecDepth 16384

noncomputable section

namespace Cert.Attend

open Idealize.ShloMosaic Idealize.ShloMosaic.TcCoe Idealize.SL.Sem
open scoped BigOperators
open Cert.KernelIdeal Cert.KernelIdeal.Gen

/-- The factor of the scores is a nonnegative real. -/
theorem factor_real : ∃ c : ℝ, 0 ≤ c ∧ factor = (c : EReal) := by
  refine ⟨9686330 * (2 : ℝ) ^ (-27 : ℤ), by positivity, ?_⟩
  unfold factor
  simp [Ideal.ofBits, Ideal.ieee]

/-- The score of key token `j` for query token `r`: the products of both parts, times the factor. -/
def score (qn : S16x2304x4x128.Idx → EReal) (qr : S16x2304x4x64.Idx → EReal) (kn : S16x2304x4x128.Idx → EReal)
    (kr : S16x2304x64.Idx → EReal) (b : Fin 16) (h : Fin 4) (r j : Fin 2304) : EReal :=
  ((∑ d : Fin 128, qn (ix4 b r h d) * kn (ix4 b j h d)) + ∑ d : Fin 64, qr (ix4 b r h d) * kr (ix3 b j d)) * factor

/-- A sum over 256 lanes, cut into the first 128, the next 64 and the last 64. -/
theorem sum_lanes (f : Fin 256 → EReal) :
    ∑ d, f d = ((∑ d : Fin 128, f ⟨d.val, by omega⟩) + ∑ d : Fin 64, f ⟨128 + d.val, by omega⟩)
      + ∑ d : Fin 64, f ⟨192 + d.val, by omega⟩ := by
  refine (Fin.sum_univ_add (a := 192) (b := 64) f).trans ?_
  refine congrArg₂ (· + ·) ?_ rfl
  exact (Fin.sum_univ_add (a := 128) (b := 64) fun d : Fin 192 => f ⟨d.val, by omega⟩)

/-- The packed product of a query and a key is their score. -/
theorem packed_score (qn : S16x2304x4x128.Idx → EReal) (qr : S16x2304x4x64.Idx → EReal)
    (kn : S16x2304x4x128.Idx → EReal) (kr : S16x2304x64.Idx → EReal) (b : Fin 16) (h : Fin 4) (r j : Fin 2304) :
    (∑ d : Fin 256, packQ qn qr (ix3 b r ⟨h.val * 256 + d.val, by omega⟩)
      * packK kn kr (ix3 b j ⟨h.val * 256 + d.val, by omega⟩)) = score qn qr kn kr b h r j := by
  obtain ⟨c, hc, hf⟩ := factor_real
  rw [sum_lanes]
  simp only [packQ_lo, packQ_mid, packQ_hi, packK_lo, packK_mid, zero_mul, Finset.sum_const_zero, add_zero]
  unfold score
  rw [hf, EReal.right_distrib_of_nonneg_of_ne_top (by exact_mod_cast hc) (EReal.coe_ne_top c),
    sum_mul_coe _ _ hc, sum_mul_coe _ _ hc]
  simp only [mul_right_comm]

/-- The score of a finite query and a finite key is finite. -/
theorem score_real (qn : S16x2304x4x128.Idx → EReal) (qr : S16x2304x4x64.Idx → EReal)
    (kn : S16x2304x4x128.Idx → EReal) (kr : S16x2304x64.Idx → EReal)
    (hqn : ∀ i, ∃ x : ℝ, qn i = x) (hqr : ∀ i, ∃ x : ℝ, qr i = x) (hkn : ∀ i, ∃ x : ℝ, kn i = x)
    (hkr : ∀ i, ∃ x : ℝ, kr i = x) (b : Fin 16) (h : Fin 4) (r j : Fin 2304) :
    ∃ x : ℝ, score qn qr kn kr b h r j = x := by
  choose qn' hqn using hqn
  choose qr' hqr using hqr
  choose kn' hkn using hkn
  choose kr' hkr using hkr
  obtain ⟨c, -, hf⟩ := factor_real
  unfold score
  simp only [hqn, hqr, hkn, hkr, hf, ← EReal.coe_mul, sum_coe, ← EReal.coe_add]
  exact ⟨_, rfl⟩

/-- With finite queries and keys, one element of the kernel's result is the attention of its row and head. -/
theorem cell_eq (n : ℕ) (hn : n ≤ 2304) (hn0 : 0 < n) (qn : S16x2304x4x128.Idx → EReal) (qr : S16x2304x4x64.Idx → EReal)
    (kn : S16x2304x4x128.Idx → EReal) (kr : S16x2304x64.Idx → EReal) (v : S16x2304x4x128.Idx → EReal)
    (hqn : ∀ i, ∃ x : ℝ, qn i = x) (hqr : ∀ i, ∃ x : ℝ, qr i = x) (hkn : ∀ i, ∃ x : ℝ, kn i = x)
    (hkr : ∀ i, ∃ x : ℝ, kr i = x) (b : Fin 16) (h : Fin 4) (r : Fin 2304) (e : Fin 128) :
    cell n hn (packQ qn qr) (packK kn kr) (packV v) b r h e
      = attend (fun j : Fin n => score qn qr kn kr b h r ⟨j.val, by omega⟩)
          (fun j : Fin n => v (ix4 b ⟨j.val, by omega⟩ h e)) := by
  unfold cell ratio
  simp only [packed_score, packV_at, packV_one, mul_one]
  exact div_sum_eq_attend hn0 _ _ fun k => score_real qn qr kn kr hqn hqr hkn hkr b h r _

end Cert.Attend
end
-- ==== Proof.RefLat.lean ====
/- The reference's result at an index is the softmax attention of its arguments. -/
module

public import proofs.«01_k».proof.Proof.Gen.ReferenceIdeal.Run
public import proofs.«01_k».proof.Proof.Softmax
public import Idealize.ShloMosaic.Lib.Pointwise
public import Idealize.ShloMosaic.Lib.Claim
public import Idealize.ShloMosaic.Lib.Tactic.CleanTypes

@[expose] public section

set_option maxRecDepth 16384

noncomputable section

namespace Cert.Attend

open Idealize.ShloMosaic Idealize.ShloMosaic.TcCoe Idealize.SL.Sem
open scoped BigOperators
open Cert.ReferenceIdeal Cert.ReferenceIdeal.Gen Cert.ReferenceIdeal.Value

variable (m : (ℓ : Loc nD τ sig) → Buf (Elt Ideal) ℓ)

/-- The reference's scores of the latent tokens. -/
def scores_lat (q : S16x2048x4x192.Idx → EReal) (k : S16x2304x4x192.Idx → EReal) : S16x4x2048x2304.Idx → EReal :=
  mulf (F := Ideal) (φ := .f32) (Host.dotGeneral (F := Ideal) dot_S16x2048x4x192_S16x2304x4x192_S16x4x2048x2304_3_3_1_1_02_02 none (φ₁ := .f32) (φ₂ := .f32) q k)
    (broadcastInDim S16x4x2048x2304 ![] bcast_S_S16x4x2048x2304 (constant (F := Ideal) S_ .f32 0x3D93CD3A#32))

/-- The largest score of each row. -/
def top_lat (s : S16x4x2048x2304.Idx → EReal) : S16x4x2048.Idx → EReal :=
  Host.reduce (FloatOps.maximumf (F := Ideal) (φ := .f32)) s (constant (F := Ideal) S_ .f32 0xFF800000#32) reducesTo_S16x4x2048x2304_S16x4x2048_d3 h_S_

/-- The largest score of each row, and minus infinity if that is larger. -/
def most_lat (s : S16x4x2048x2304.Idx → EReal) : S16x4x2048.Idx → EReal :=
  maximumf (F := Ideal) (φ := .f32) (broadcastInDim S16x4x2048 ![] bcast_S_S16x4x2048 (constant (F := Ideal) S_ .f32 0xFF800000#32)) (top_lat s)

/-- The exponentials of the scores less the row's largest. -/
def exps_lat (s : S16x4x2048x2304.Idx → EReal) (x : S16x4x2048.Idx → EReal) : S16x4x2048x2304.Idx → EReal :=
  Host.exp (F := Ideal) (φ := .f32) (subf (F := Ideal) (φ := .f32) s (broadcastInDim S16x4x2048x2304 ![0, 1, 2, 3] bcast_S16x4x2048x1_S16x4x2048x2304_0_1_2_3 (broadcastInDim S16x4x2048x1 ![0, 1, 2] bcast_S16x4x2048_S16x4x2048x1_0_1_2 x)))

/-- The exponentials over the row's sum of them. -/
def shares_lat (w : S16x4x2048x2304.Idx → EReal) : S16x4x2048x2304.Idx → EReal :=
  Host.divf (F := Ideal) (φ := .f32) w (broadcastInDim S16x4x2048x2304 ![0, 1, 2, 3] bcast_S16x4x2048x1_S16x4x2048x2304_0_1_2_3 (broadcastInDim S16x4x2048x1 ![0, 1, 2] bcast_S16x4x2048_S16x4x2048x1_0_1_2
    (Host.reduceAdd (F := Ideal) (φ := .f32) w (constant (F := Ideal) S_ .f32 0x00000000#32) reducesTo_S16x4x2048x2304_S16x4x2048_d3 h_S_)))

/-- The weighted values, the tokens moved to the front. -/
def mixed_lat (p : S16x4x2048x2304.Idx → EReal) (v : S16x2304x4x128.Idx → EReal) : S16x2048x4x128.Idx → EReal :=
  transpose S16x2048x4x128 [0, 3, 1, 2] (Host.dotGeneral (F := Ideal) dot_S16x2304x4x128_S16x4x2048x2304_S16x4x128x2048_1_3_3_2_02_01 none (φ₁ := .f32) (φ₂ := .f32) v p) transposes_S16x4x128x2048_S16x2048x4x128_0_3_1_2

set_option maxHeartbeats 1000000 in
/-- A score. -/
theorem scores_lat_at (q : S16x2048x4x192.Idx → EReal) (k : S16x2304x4x192.Idx → EReal) (b : Fin 16) (h : Fin 4) (r : Fin 2048) (j : Fin 2304) :
    scores_lat q k (ix4 b h r j) = (∑ d : Fin 192, q (ix4 b r h d) * k (ix4 b j h d)) * Ideal.ofBits .f32 0x3D93CD3A#32 := by
  pointwise [scores_lat]

/-- The fold of a row's scores. -/
theorem top_lat_at (s : S16x4x2048x2304.Idx → EReal) (b : Fin 16) (h : Fin 4) (r : Fin 2048) :
    top_lat s (ix3 b h r) = (Finset.univ : Finset (Fin 2304)).fold max (⊥ : EReal) (fun j => s (ix4 b h r j)) := by
  pointwise [top_lat]
  rw [ofBits_neg_inf_f32]

/-- The largest score of a row. -/
theorem most_lat_at (s : S16x4x2048x2304.Idx → EReal) (b : Fin 16) (h : Fin 4) (r : Fin 2048) :
    most_lat s (ix3 b h r) = (Finset.univ : Finset (Fin 2304)).fold max (⊥ : EReal) (fun j => s (ix4 b h r j)) := by
  refine (max_of_bot _ _ _ ?_).trans (top_lat_at s b h r)
  pointwise
  rw [ofBits_neg_inf_f32]

/-- A row's number laid along the row. -/
theorem spread_lat (x : S16x4x2048.Idx → EReal) (b : Fin 16) (h : Fin 4) (r : Fin 2048) (j : Fin 2304) :
    broadcastInDim S16x4x2048x2304 ![0, 1, 2, 3] bcast_S16x4x2048x1_S16x4x2048x2304_0_1_2_3 (broadcastInDim S16x4x2048x1 ![0, 1, 2] bcast_S16x4x2048_S16x4x2048x1_0_1_2 x) (ix4 b h r j)
      = x (ix3 b h r) := by
  pointwise

set_option maxHeartbeats 1000000 in
/-- The exponential of a score less the row's largest. -/
theorem exps_lat_at (s : S16x4x2048x2304.Idx → EReal) (x : S16x4x2048.Idx → EReal) (b : Fin 16) (h : Fin 4) (r : Fin 2048) (j : Fin 2304) :
    exps_lat s x (ix4 b h r j) = Ideal.exp (s (ix4 b h r j) - x (ix3 b h r)) := by
  unfold exps_lat
  show Ideal.exp (s (ix4 b h r j) - broadcastInDim S16x4x2048x2304 ![0, 1, 2, 3] bcast_S16x4x2048x1_S16x4x2048x2304_0_1_2_3 (broadcastInDim S16x4x2048x1 ![0, 1, 2] bcast_S16x4x2048_S16x4x2048x1_0_1_2 x) (ix4 b h r j)) = _
  rw [spread_lat]

set_option maxHeartbeats 1000000 in
/-- A share of a row. -/
theorem shares_lat_at (w : S16x4x2048x2304.Idx → EReal) (b : Fin 16) (h : Fin 4) (r : Fin 2048) (j : Fin 2304) :
    shares_lat w (ix4 b h r j) = Ideal.div (w (ix4 b h r j)) (∑ i : Fin 2304, w (ix4 b h r i)) := by
  pointwise [shares_lat]

set_option maxHeartbeats 1000000 in
/-- One element of the weighted values. -/
theorem mixed_lat_at (p : S16x4x2048x2304.Idx → EReal) (v : S16x2304x4x128.Idx → EReal) (b : Fin 16) (h : Fin 4) (r : Fin 2048) (e : Fin 128) :
    mixed_lat p v (ix4 b r h e) = ∑ j : Fin 2304, v (ix4 b j h e) * p (ix4 b h r j) := by
  pointwise [mixed_lat]

/-- The reference's attention of the tokens, of its queries, keys and values. -/
def whole_lat (q : S16x2048x4x192.Idx → EReal) (k : S16x2304x4x192.Idx → EReal) (v : S16x2304x4x128.Idx → EReal) :
    S16x2048x4x128.Idx → EReal :=
  mixed_lat (shares_lat (exps_lat (scores_lat q k) (most_lat (scores_lat q k)))) v

/-- One element of it is the softmax of the row's scores, applied to the values. -/
theorem whole_lat_at (q : S16x2048x4x192.Idx → EReal) (k : S16x2304x4x192.Idx → EReal) (v : S16x2304x4x128.Idx → EReal)
    (b : Fin 16) (h : Fin 4) (r : Fin 2048) (e : Fin 128) :
    whole_lat q k v (ix4 b r h e)
      = attend (fun j : Fin 2304 => (∑ d : Fin 192, q (ix4 b r h d) * k (ix4 b j h d)) * Ideal.ofBits .f32 0x3D93CD3A#32)
          (fun j : Fin 2304 => v (ix4 b j h e)) := by
  unfold whole_lat attend weight
  simp only [mixed_lat_at, shares_lat_at, exps_lat_at, most_lat_at, scores_lat_at]

end Cert.Attend
end
-- ==== Proof.RefCtx.lean ====
/- The reference's result at an index is the softmax attention of its arguments. -/
module

public import proofs.«01_k».proof.Proof.Gen.ReferenceIdeal.Run
public import proofs.«01_k».proof.Proof.Softmax
public import Idealize.ShloMosaic.Lib.Pointwise
public import Idealize.ShloMosaic.Lib.Claim
public import Idealize.ShloMosaic.Lib.Tactic.CleanTypes

@[expose] public section

set_option maxRecDepth 16384

noncomputable section

namespace Cert.Attend

open Idealize.ShloMosaic Idealize.ShloMosaic.TcCoe Idealize.SL.Sem
open scoped BigOperators
open Cert.ReferenceIdeal Cert.ReferenceIdeal.Gen Cert.ReferenceIdeal.Value

variable (m : (ℓ : Loc nD τ sig) → Buf (Elt Ideal) ℓ)

/-- The reference's scores of the context tokens. -/
def scores_ctx (q : S16x256x4x192.Idx → EReal) (k : S16x256x4x192.Idx → EReal) : S16x4x256x256.Idx → EReal :=
  mulf (F := Ideal) (φ := .f32) (Host.dotGeneral (F := Ideal) dot_S16x256x4x192_S16x256x4x192_S16x4x256x256_3_3_1_1_02_02 none (φ₁ := .f32) (φ₂ := .f32) q k)
    (broadcastInDim S16x4x256x256 ![] bcast_S_S16x4x256x256 (constant (F := Ideal) S_ .f32 0x3D93CD3A#32))

/-- The largest score of each row. -/
def top_ctx (s : S16x4x256x256.Idx → EReal) : S16x4x256.Idx → EReal :=
  Host.reduce (FloatOps.maximumf (F := Ideal) (φ := .f32)) s (constant (F := Ideal) S_ .f32 0xFF800000#32) reducesTo_S16x4x256x256_S16x4x256_d3 h_S_

/-- The largest score of each row, and minus infinity if that is larger. -/
def most_ctx (s : S16x4x256x256.Idx → EReal) : S16x4x256.Idx → EReal :=
  maximumf (F := Ideal) (φ := .f32) (broadcastInDim S16x4x256 ![] bcast_S_S16x4x256 (constant (F := Ideal) S_ .f32 0xFF800000#32)) (top_ctx s)

/-- The exponentials of the scores less the row's largest. -/
def exps_ctx (s : S16x4x256x256.Idx → EReal) (x : S16x4x256.Idx → EReal) : S16x4x256x256.Idx → EReal :=
  Host.exp (F := Ideal) (φ := .f32) (subf (F := Ideal) (φ := .f32) s (broadcastInDim S16x4x256x256 ![0, 1, 2, 3] bcast_S16x4x256x1_S16x4x256x256_0_1_2_3 (broadcastInDim S16x4x256x1 ![0, 1, 2] bcast_S16x4x256_S16x4x256x1_0_1_2 x)))

/-- The exponentials over the row's sum of them. -/
def shares_ctx (w : S16x4x256x256.Idx → EReal) : S16x4x256x256.Idx → EReal :=
  Host.divf (F := Ideal) (φ := .f32) w (broadcastInDim S16x4x256x256 ![0, 1, 2, 3] bcast_S16x4x256x1_S16x4x256x256_0_1_2_3 (broadcastInDim S16x4x256x1 ![0, 1, 2] bcast_S16x4x256_S16x4x256x1_0_1_2
    (Host.reduceAdd (F := Ideal) (φ := .f32) w (constant (F := Ideal) S_ .f32 0x00000000#32) reducesTo_S16x4x256x256_S16x4x256_d3 h_S_)))

/-- The weighted values, the tokens moved to the front. -/
def mixed_ctx (p : S16x4x256x256.Idx → EReal) (v : S16x256x4x128.Idx → EReal) : S16x256x4x128.Idx → EReal :=
  transpose S16x256x4x128 [0, 3, 1, 2] (Host.dotGeneral (F := Ideal) dot_S16x256x4x128_S16x4x256x256_S16x4x128x256_1_3_3_2_02_01 none (φ₁ := .f32) (φ₂ := .f32) v p) transposes_S16x4x128x256_S16x256x4x128_0_3_1_2

set_option maxHeartbeats 1000000 in
/-- A score. -/
theorem scores_ctx_at (q : S16x256x4x192.Idx → EReal) (k : S16x256x4x192.Idx → EReal) (b : Fin 16) (h : Fin 4) (r : Fin 256) (j : Fin 256) :
    scores_ctx q k (ix4 b h r j) = (∑ d : Fin 192, q (ix4 b r h d) * k (ix4 b j h d)) * Ideal.ofBits .f32 0x3D93CD3A#32 := by
  pointwise [scores_ctx]

/-- The fold of a row's scores. -/
theorem top_ctx_at (s : S16x4x256x256.Idx → EReal) (b : Fin 16) (h : Fin 4) (r : Fin 256) :
    top_ctx s (ix3 b h r) = (Finset.univ : Finset (Fin 256)).fold max (⊥ : EReal) (fun j => s (ix4 b h r j)) := by
  pointwise [top_ctx]
  rw [ofBits_neg_inf_f32]

/-- The largest score of a row. -/
theorem most_ctx_at (s : S16x4x256x256.Idx → EReal) (b : Fin 16) (h : Fin 4) (r : Fin 256) :
    most_ctx s (ix3 b h r) = (Finset.univ : Finset (Fin 256)).fold max (⊥ : EReal) (fun j => s (ix4 b h r j)) := by
  refine (max_of_bot _ _ _ ?_).trans (top_ctx_at s b h r)
  pointwise
  rw [ofBits_neg_inf_f32]

/-- A row's number laid along the row. -/
theorem spread_ctx (x : S16x4x256.Idx → EReal) (b : Fin 16) (h : Fin 4) (r : Fin 256) (j : Fin 256) :
    broadcastInDim S16x4x256x256 ![0, 1, 2, 3] bcast_S16x4x256x1_S16x4x256x256_0_1_2_3 (broadcastInDim S16x4x256x1 ![0, 1, 2] bcast_S16x4x256_S16x4x256x1_0_1_2 x) (ix4 b h r j)
      = x (ix3 b h r) := by
  pointwise

set_option maxHeartbeats 1000000 in
/-- The exponential of a score less the row's largest. -/
theorem exps_ctx_at (s : S16x4x256x256.Idx → EReal) (x : S16x4x256.Idx → EReal) (b : Fin 16) (h : Fin 4) (r : Fin 256) (j : Fin 256) :
    exps_ctx s x (ix4 b h r j) = Ideal.exp (s (ix4 b h r j) - x (ix3 b h r)) := by
  unfold exps_ctx
  show Ideal.exp (s (ix4 b h r j) - broadcastInDim S16x4x256x256 ![0, 1, 2, 3] bcast_S16x4x256x1_S16x4x256x256_0_1_2_3 (broadcastInDim S16x4x256x1 ![0, 1, 2] bcast_S16x4x256_S16x4x256x1_0_1_2 x) (ix4 b h r j)) = _
  rw [spread_ctx]

set_option maxHeartbeats 1000000 in
/-- A share of a row. -/
theorem shares_ctx_at (w : S16x4x256x256.Idx → EReal) (b : Fin 16) (h : Fin 4) (r : Fin 256) (j : Fin 256) :
    shares_ctx w (ix4 b h r j) = Ideal.div (w (ix4 b h r j)) (∑ i : Fin 256, w (ix4 b h r i)) := by
  pointwise [shares_ctx]

set_option maxHeartbeats 1000000 in
/-- One element of the weighted values. -/
theorem mixed_ctx_at (p : S16x4x256x256.Idx → EReal) (v : S16x256x4x128.Idx → EReal) (b : Fin 16) (h : Fin 4) (r : Fin 256) (e : Fin 128) :
    mixed_ctx p v (ix4 b r h e) = ∑ j : Fin 256, v (ix4 b j h e) * p (ix4 b h r j) := by
  pointwise [mixed_ctx]

/-- The reference's attention of the tokens, of its queries, keys and values. -/
def whole_ctx (q : S16x256x4x192.Idx → EReal) (k : S16x256x4x192.Idx → EReal) (v : S16x256x4x128.Idx → EReal) :
    S16x256x4x128.Idx → EReal :=
  mixed_ctx (shares_ctx (exps_ctx (scores_ctx q k) (most_ctx (scores_ctx q k)))) v

/-- One element of it is the softmax of the row's scores, applied to the values. -/
theorem whole_ctx_at (q : S16x256x4x192.Idx → EReal) (k : S16x256x4x192.Idx → EReal) (v : S16x256x4x128.Idx → EReal)
    (b : Fin 16) (h : Fin 4) (r : Fin 256) (e : Fin 128) :
    whole_ctx q k v (ix4 b r h e)
      = attend (fun j : Fin 256 => (∑ d : Fin 192, q (ix4 b r h d) * k (ix4 b j h d)) * Ideal.ofBits .f32 0x3D93CD3A#32)
          (fun j : Fin 256 => v (ix4 b j h e)) := by
  unfold whole_ctx attend weight
  simp only [mixed_ctx_at, shares_ctx_at, exps_ctx_at, most_ctx_at, scores_ctx_at]

end Cert.Attend
end
-- ==== Proof.RefValue.lean ====
/- The reference's result at an index is the softmax attention of its arguments. -/
module

public import proofs.«01_k».proof.Proof.Gen.ReferenceIdeal.Run
public import proofs.«01_k».proof.Proof.RefLat
public import proofs.«01_k».proof.Proof.RefCtx
public import Idealize.ShloMosaic.Lib.Pointwise
public import Idealize.ShloMosaic.Lib.Claim
public import Idealize.ShloMosaic.Lib.Tactic.CleanTypes

@[expose] public section

set_option maxRecDepth 16384

noncomputable section

namespace Cert.Attend

open Idealize.ShloMosaic Idealize.ShloMosaic.TcCoe Idealize.SL.Sem
open scoped BigOperators
open Cert.ReferenceIdeal Cert.ReferenceIdeal.Gen Cert.ReferenceIdeal.Value

variable (m : (ℓ : Loc nD τ sig) → Buf (Elt Ideal) ℓ)

/-- Queries or keys with their two parts side by side. -/
def both (x : S16x2304x4x128.Idx → EReal) (y : S16x2304x4x64.Idx → EReal) : S16x2304x4x192.Idx → EReal :=
  concatenate S16x2304x4x192 3 [⟨S16x2304x4x128, x⟩, ⟨S16x2304x4x64, y⟩] concatenates_S16x2304x4x128_S16x2304x4x64_S16x2304x4x192_d3

/-- The shared part of the keys, repeated for every head. -/
def repeated (y : S16x2304x64.Idx → EReal) : S16x2304x4x64.Idx → EReal :=
  broadcastInDim S16x2304x4x64 ![0, 1, 2, 3] bcast_S16x2304x1x64_S16x2304x4x64_0_1_2_3 (broadcastInDim S16x2304x1x64 ![0, 1, 3] bcast_S16x2304x64_S16x2304x1x64_0_1_3 y)

/-- The first 256 tokens. -/
def front192 (x : S16x2304x4x192.Idx → EReal) : S16x256x4x192.Idx → EReal :=
  extractStridedSlice S16x256x4x192 ![0, 0, 0, 0] x slices_S16x2304x4x192_S16x256x4x192_0_0_0_0

/-- The first 256 tokens of the values. -/
def front128 (x : S16x2304x4x128.Idx → EReal) : S16x256x4x128.Idx → EReal :=
  extractStridedSlice S16x256x4x128 ![0, 0, 0, 0] x slices_S16x2304x4x128_S16x256x4x128_0_0_0_0

/-- The tokens after the first 256. -/
def back192 (x : S16x2304x4x192.Idx → EReal) : S16x2048x4x192.Idx → EReal :=
  extractStridedSlice S16x2048x4x192 ![0, 256, 0, 0] x slices_S16x2304x4x192_S16x2048x4x192_0_256_0_0

/-- The context tokens' rows, then the latent tokens' rows. -/
def stacked (x : S16x256x4x128.Idx → EReal) (y : S16x2048x4x128.Idx → EReal) : S16x2304x4x128.Idx → EReal :=
  concatenate S16x2304x4x128 1 [⟨S16x256x4x128, x⟩, ⟨S16x2048x4x128, y⟩] concatenates_S16x256x4x128_S16x2048x4x128_S16x2304x4x128_d1

/-- The reference's result, of the two attentions. -/
def joined (x : S16x256x4x128.Idx → EReal) (y : S16x2048x4x128.Idx → EReal) : S16x2304x512.Idx → EReal :=
  truncf (F := Ideal) (φ := .f32) .bf16 (shapeCast S16x2304x512 (stacked x y) shapeCasts_S16x2304x4x128_S16x2304x512) bitsLt_bf16_f32

/-- The reference's result is the context tokens' attention and the latent tokens' attention, one after the other. -/
theorem res_eq (c : Dev nD) :
    (res_main_v42 m c : S16x2304x512.Idx → EReal)
      = joined (whole_ctx (front192 (both (m ((c.tc : Thread nD τ).loc main_arg0) : S16x2304x4x128.Idx → EReal) (m ((c.tc : Thread nD τ).loc main_arg1) : S16x2304x4x64.Idx → EReal))) (front192 (both (m ((c.tc : Thread nD τ).loc main_arg2) : S16x2304x4x128.Idx → EReal) (repeated (m ((c.tc : Thread nD τ).loc main_arg3) : S16x2304x64.Idx → EReal)))) (front128 (m ((c.tc : Thread nD τ).loc main_arg4) : S16x2304x4x128.Idx → EReal)))
          (whole_lat (back192 (both (m ((c.tc : Thread nD τ).loc main_arg0) : S16x2304x4x128.Idx → EReal) (m ((c.tc : Thread nD τ).loc main_arg1) : S16x2304x4x64.Idx → EReal))) (both (m ((c.tc : Thread nD τ).loc main_arg2) : S16x2304x4x128.Idx → EReal) (repeated (m ((c.tc : Thread nD τ).loc main_arg3) : S16x2304x64.Idx → EReal))) (m ((c.tc : Thread nD τ).loc main_arg4) : S16x2304x4x128.Idx → EReal)) := by
  unfold res_main_v42
  rfl

/-- An entry of four heads laid side by side is the head's own entry. -/
theorem sides_at (x : S16x2304x4x128.Idx → EReal) (b : Fin 16) (r : Fin 2304) (h : Fin 4) (e : Fin 128) :
    shapeCast S16x2304x512 x shapeCasts_S16x2304x4x128_S16x2304x512 (ix3 b r ⟨h.val * 128 + e.val, by omega⟩)
      = x (ix4 b r h e) := by
  pointwise

/-- The rounding changes nothing over the extended reals. -/
theorem joined_eq (x : S16x256x4x128.Idx → EReal) (y : S16x2048x4x128.Idx → EReal) (i : S16x2304x512.Idx) :
    joined x y i = shapeCast S16x2304x512 (stacked x y) shapeCasts_S16x2304x4x128_S16x2304x512 i := by
  unfold joined
  generalize shapeCast S16x2304x512 (stacked x y) shapeCasts_S16x2304x4x128_S16x2304x512 = z
  rfl

/-- The result at a context token. -/
theorem joined_ctx (x : S16x256x4x128.Idx → EReal) (y : S16x2048x4x128.Idx → EReal) (b : Fin 16) (r : Fin 256) (h : Fin 4) (e : Fin 128) :
    joined x y (ix3 b ⟨r.val, by omega⟩ ⟨h.val * 128 + e.val, by omega⟩) = x (ix4 b r h e) := by
  refine (joined_eq x y _).trans ?_
  refine (sides_at (stacked x y) b ⟨r.val, by omega⟩ h e).trans ?_
  unfold stacked
  pointwise

/-- The result at a latent token. -/
theorem joined_lat (x : S16x256x4x128.Idx → EReal) (y : S16x2048x4x128.Idx → EReal) (b : Fin 16) (r : Fin 2048) (h : Fin 4) (e : Fin 128) :
    joined x y (ix3 b ⟨256 + r.val, by omega⟩ ⟨h.val * 128 + e.val, by omega⟩) = y (ix4 b r h e) := by
  refine (joined_eq x y _).trans ?_
  refine (sides_at (stacked x y) b ⟨256 + r.val, by omega⟩ h e).trans ?_
  unfold stacked
  pointwise

/-- A sum over the 192 lanes, cut into the first 128 and the last 64. -/
theorem sum_both (x x' : S16x2304x4x128.Idx → EReal) (y : S16x2304x4x64.Idx → EReal) (y' : S16x2304x64.Idx → EReal)
    (b : Fin 16) (h : Fin 4) (r j : Fin 2304) :
    (∑ d : Fin 192, both x y (ix4 b r h d) * both x' (repeated y') (ix4 b j h d))
      = (∑ d : Fin 128, x (ix4 b r h d) * x' (ix4 b j h d)) + ∑ d : Fin 64, y (ix4 b r h d) * y' (ix3 b j d) := by
  refine (Fin.sum_univ_add (a := 128) (b := 64) fun d : Fin 192 => both x y (ix4 b r h d) * both x' (repeated y') (ix4 b j h d)).trans ?_
  refine congrArg₂ (· + ·) (Finset.sum_congr rfl fun d _ => congrArg₂ (· * ·) ?_ ?_) (Finset.sum_congr rfl fun d _ => congrArg₂ (· * ·) ?_ ?_)
  · show both x y (ix4 b r h ⟨d.val, by omega⟩) = _
    pointwise [both]
  · show both x' (repeated y') (ix4 b j h ⟨d.val, by omega⟩) = _
    pointwise [both, repeated]
  · show both x y (ix4 b r h ⟨128 + d.val, by omega⟩) = _
    pointwise [both]
  · show both x' (repeated y') (ix4 b j h ⟨128 + d.val, by omega⟩) = _
    pointwise [both, repeated]

/-- One of the first 256 tokens. -/
theorem front192_at (x : S16x2304x4x192.Idx → EReal) (b : Fin 16) (r : Fin 256) (h : Fin 4) (d : Fin 192) :
    front192 x (ix4 b r h d) = x (ix4 b ⟨r.val, by omega⟩ h d) := by
  pointwise [front192]

/-- One of the first 256 tokens of the values. -/
theorem front128_at (x : S16x2304x4x128.Idx → EReal) (b : Fin 16) (r : Fin 256) (h : Fin 4) (d : Fin 128) :
    front128 x (ix4 b r h d) = x (ix4 b ⟨r.val, by omega⟩ h d) := by
  pointwise [front128]

/-- One of the later tokens. -/
theorem back192_at (x : S16x2304x4x192.Idx → EReal) (b : Fin 16) (r : Fin 2048) (h : Fin 4) (d : Fin 192) :
    back192 x (ix4 b r h d) = x (ix4 b ⟨256 + r.val, by omega⟩ h d) := by
  pointwise [back192]

end Cert.Attend
end
-- ==== Proof.Attend.lean ====
/- The kernel's result and the reference's result are one array; the precondition makes queries and keys finite. -/
module

public import proofs.«01_k».proof.Proof.Gen.KernelIdeal.Frame
public import Idealize.ShloMosaic.Lib.Pointwise
public import Idealize.ShloMosaic.Lib.Claim
public import proofs.«01_k».proof.Proof.Packs
public import proofs.«01_k».proof.Proof.Cells
public import proofs.«01_k».proof.Proof.RefValue
public import proofs.«01_k».proof.Pre_finite_scores

@[expose] public section

set_option maxRecDepth 16384

noncomputable section

namespace Cert.Attend

open Idealize.ShloMosaic Idealize.ShloMosaic.TcCoe Idealize.SL.Sem
open scoped BigOperators
open Cert.KernelIdeal Cert.KernelIdeal.Gen

/-- With finite queries and keys, the kernel's array of the packed arguments is the reference's array of the arguments. -/
theorem result_eq_joined (qn : S16x2304x4x128.Idx → EReal) (qr : S16x2304x4x64.Idx → EReal)
    (kn : S16x2304x4x128.Idx → EReal) (kr : S16x2304x64.Idx → EReal) (v : S16x2304x4x128.Idx → EReal)
    (hqn : ∀ i, ∃ x : ℝ, qn i = x) (hqr : ∀ i, ∃ x : ℝ, qr i = x) (hkn : ∀ i, ∃ x : ℝ, kn i = x)
    (hkr : ∀ i, ∃ x : ℝ, kr i = x) :
    result (packQ qn qr) (packK kn kr) (packV v)
      = joined (whole_ctx (front192 (both qn qr)) (front192 (both kn (repeated kr))) (front128 v))
          (whole_lat (back192 (both qn qr)) (both kn (repeated kr)) v) := by
  funext i
  obtain ⟨b, r, l, rfl⟩ : ∃ (b : Fin 16) (r : Fin 2304) (l : Fin 512), i = ix3 b r l := ⟨i 0, i 1, i 2, eq_ix3 i⟩
  obtain ⟨h, e, rfl⟩ : ∃ (h : Fin 4) (e : Fin 128), l = ⟨h.val * 128 + e.val, by omega⟩ :=
    ⟨⟨l.val / 128, by omega⟩, ⟨l.val % 128, by omega⟩, Fin.ext (show l.val = l.val / 128 * 128 + l.val % 128 by omega)⟩
  by_cases hr : r.val < 256
  · rw [result_ctx _ _ _ _ b r h e rfl rfl rfl hr, cell_eq _ _ (by decide) _ _ _ _ _ hqn hqr hkn hkr]
    obtain ⟨r', hr'⟩ : ∃ r' : Fin 256, r.val = r'.val := ⟨⟨r.val, hr⟩, rfl⟩
    have er : r = (⟨r'.val, by omega⟩ : Fin 2304) := Fin.ext hr'
    rw [er]
    rw [joined_ctx, whole_ctx_at]
    simp only [front192_at, front128_at, sum_both]
    rfl
  · rw [result_lat _ _ _ _ b r h e rfl rfl rfl hr, cell_eq _ _ (by decide) _ _ _ _ _ hqn hqr hkn hkr]
    obtain ⟨r', hr'⟩ : ∃ r' : Fin 2048, r.val = 256 + r'.val :=
      ⟨⟨r.val - 256, by omega⟩, show r.val = 256 + (r.val - 256) by omega⟩
    have er : r = (⟨256 + r'.val, by omega⟩ : Fin 2304) := Fin.ext hr'
    rw [er]
    rw [joined_lat, whole_lat_at]
    simp only [back192_at, sum_both]
    rfl

end Cert.Attend
end
-- ==== Proof.Finite.lean ====
/- What the precondition says of the queries and keys. -/
module

public import proofs.«01_k».proof.Proof.Gen.KernelIdeal.Frame
public import Idealize.ShloMosaic.Lib.Pointwise
public import Idealize.ShloMosaic.Lib.Claim
public import proofs.«01_k».proof.Pre_finite_scores

@[expose] public section

set_option maxRecDepth 16384

noncomputable section

namespace Cert.Attend

open Idealize.ShloMosaic Idealize.ShloMosaic.TcCoe Idealize.SL.Sem
open scoped BigOperators
open Cert.Pre_finite_scores

/-- The shape relations of the precondition. -/
theorem pre_facts : Cert.Pre_finite_scores.Facts := ⟨by decide, by decide, by decide, by decide⟩

/-- The f32 pattern of infinity. -/
theorem ofBits_inf_f32 : Ideal.ofBits .f32 0x7F800000#32 = ⊤ := by
  simp [Ideal.ofBits, Ideal.ieee]

/-- An extended real whose absolute value is less than infinity is real. -/
theorem real_of_abs (x : EReal) (h : BitVec.ofBool (decide (max x (-x) < Ideal.ofBits .f32 0x7F800000#32)) = 1#1) :
    ∃ y : ℝ, x = y := by
  rw [ofBits_inf_f32] at h
  have h' : max x (-x) < ⊤ := by
    by_contra hn
    rw [decide_eq_false hn] at h
    exact absurd h (by decide)
  induction x using EReal.rec with
  | bot => exact absurd h' (by simp)
  | top => exact absurd h' (by simp)
  | coe y => exact ⟨y, rfl⟩

variable [Cert.Pre_finite_scores.Facts]

section
variable (a0 : S16x2304x4x128.Idx → EReal) (a1 : S16x2304x4x64.Idx → EReal) (a2 : S16x2304x4x128.Idx → EReal)
  (a3 : S16x2304x64.Idx → EReal) (a4 : S16x2304x4x128.Idx → EReal)
  (hp : ∀ i, Cert.Pre_finite_scores.fn (F := Ideal) a0 a1 a2 a3 a4 i = 1#1)
include hp

/-- The first part of a query is finite. -/
theorem pre0 (i : S16x2304x4x128.Idx) : ∃ y : ℝ, a0 i = y := by
  obtain ⟨b, r, h, d, rfl⟩ : ∃ (b : Fin 16) (r : Fin 2304) (h : Fin 4) (d : Fin 128), i = ix4 b r h d :=
    ⟨i 0, i 1, i 2, i 3, eq_ix4 i⟩
  have := hp (ix4 b r h ⟨d.val, by omega⟩)
  unfold fn at this
  pointwise at this
  exact real_of_abs _ this

/-- The second part of a query is finite. -/
theorem pre1 (i : S16x2304x4x64.Idx) : ∃ y : ℝ, a1 i = y := by
  obtain ⟨b, r, h, d, rfl⟩ : ∃ (b : Fin 16) (r : Fin 2304) (h : Fin 4) (d : Fin 64), i = ix4 b r h d :=
    ⟨i 0, i 1, i 2, i 3, eq_ix4 i⟩
  have := hp (ix4 b r h ⟨128 + d.val, by omega⟩)
  unfold fn at this
  pointwise at this
  exact real_of_abs _ this

/-- The first part of a key is finite. -/
theorem pre2 (i : S16x2304x4x128.Idx) : ∃ y : ℝ, a2 i = y := by
  obtain ⟨b, r, h, d, rfl⟩ : ∃ (b : Fin 16) (r : Fin 2304) (h : Fin 4) (d : Fin 128), i = ix4 b r h d :=
    ⟨i 0, i 1, i 2, i 3, eq_ix4 i⟩
  have := hp (ix4 b r h ⟨192 + d.val, by omega⟩)
  unfold fn at this
  pointwise at this
  have e : (⟨192 + d.val - 128 - 64, by omega⟩ : Fin 128) = d := Fin.ext (show 192 + d.val - 128 - 64 = d.val by omega)
  rw [dif_neg (by omega), dif_neg (by omega), dif_pos (by omega), e] at this
  exact real_of_abs _ this

/-- The second part of a key is finite. -/
theorem pre3 (i : S16x2304x64.Idx) : ∃ y : ℝ, a3 i = y := by
  obtain ⟨b, r, d, rfl⟩ : ∃ (b : Fin 16) (r : Fin 2304) (d : Fin 64), i = ix3 b r d :=
    ⟨i 0, i 1, i 2, eq_ix3 i⟩
  have := hp (ix4 b r 0 ⟨320 + d.val, by omega⟩)
  unfold fn at this
  pointwise at this
  have e : (⟨320 + d.val - 128 - 64 - 128, by omega⟩ : Fin 64) = d := Fin.ext (show 320 + d.val - 128 - 64 - 128 = d.val by omega)
  rw [dif_neg (by omega), dif_neg (by omega), dif_neg (by omega), e] at this
  exact real_of_abs _ this

end

end Cert.Attend
end
-- ==== Proof.FfnRows.lean ====
/- The body's stores of the normalised SwiGLU call, read at an index: one row's norm, scaled and shifted, and one
   element of the gated product. -/
module

public import proofs.«01_k».proof.Proof.Gen.Kernel2Ideal.Skeleton
public import Idealize.ShloMosaic.Lib.Pointwise
public import Idealize.ShloMosaic.Lib.Claim

@[expose] public section

set_option maxRecDepth 16384

noncomputable section

namespace Cert.Ffn

open Idealize.ShloMosaic Idealize.ShloMosaic.TcCoe Idealize.SL.Sem

/-- One element of a row's norm, times the norm's weight `g`, scaled by `1 + s` and shifted by `h`. -/
def modNorm (x g s h : Fin 2048 → EReal) (d : Fin 2048) : EReal :=
  x d * Ideal.rsqrt (Ideal.div (∑ j, x j * x j) (Ideal.ofBits .f32 0x45000000#32) + Ideal.ofBits .f32 0x358637BD#32)
    * g d * (1 + s d) + h d

/-- One element of the gated product of a row with a column of each weight: the silu of the first dot product times
    the second. -/
def gated (n w1 w3 : Fin 2048 → EReal) : EReal :=
  (∑ d, n d * w1 d) * Ideal.logistic (∑ d, n d * w1 d) * ∑ d, n d * w3 d

open Cert.Kernel2Ideal Cert.Kernel2Ideal.Gen

/-- The store of the first 256 rows. -/
theorem chunk0 (x : Vec Ideal S256x2048 .f32) (g h s : Vec Ideal S1x2048 .f32) (r : Fin 256) (d : Fin 2048) :
    k0_pay3 (k0_pay2 x g) h s (ix2 r d) = modNorm (fun j => x (ix2 r j)) (fun j => g (ix2 0 j)) (fun j => s (ix2 0 j)) (fun j => h (ix2 0 j)) d := by
  pointwise [k0_pay3, k0_pay2, modNorm]

/-- The store of the second 256 rows. -/
theorem chunk1 (x : Vec Ideal S256x2048 .f32) (g h s : Vec Ideal S1x2048 .f32) (r : Fin 256) (d : Fin 2048) :
    k0_pay4 x g h s (ix2 r d) = modNorm (fun j => x (ix2 r j)) (fun j => g (ix2 0 j)) (fun j => s (ix2 0 j)) (fun j => h (ix2 0 j)) d := by
  pointwise [k0_pay4, modNorm]

/-- The store of the third 256 rows. -/
theorem chunk2 (x : Vec Ideal S256x2048 .f32) (g h s : Vec Ideal S1x2048 .f32) (r : Fin 256) (d : Fin 2048) :
    k0_pay6 (k0_pay5 x g) h s (ix2 r d) = modNorm (fun j => x (ix2 r j)) (fun j => g (ix2 0 j)) (fun j => s (ix2 0 j)) (fun j => h (ix2 0 j)) d := by
  pointwise [k0_pay6, k0_pay5, modNorm]

/-- The store of the fourth 256 rows. -/
theorem chunk3 (x : Vec Ideal S256x2048 .f32) (g h s : Vec Ideal S1x2048 .f32) (r : Fin 256) (d : Fin 2048) :
    k0_pay7 x g h s (ix2 r d) = modNorm (fun j => x (ix2 r j)) (fun j => g (ix2 0 j)) (fun j => s (ix2 0 j)) (fun j => h (ix2 0 j)) d := by
  pointwise [k0_pay7, modNorm]

/-- The store of an output block. -/
theorem tile (x : Vec Ideal S1024x2048 .bf16) (w1 w3 : Vec Ideal S2048x512 .bf16) (r : Fin 1024) (e : Fin 512) :
    k0_pay1 x w1 w3 (ix2 r e) = gated (fun d => x (ix2 r d)) (fun d => w1 (ix2 d e)) (fun d => w3 (ix2 d e)) := by
  pointwise [k0_pay1, gated]

end Cert.Ffn

end
-- ==== Proof.FfnArray.lean ====
/- The normalised SwiGLU call's result array after the run, at an index, from the arrays its region reads. -/
module

public import proofs.«01_k».proof.Proof.Gen.Kernel2Ideal.Value
public import proofs.«01_k».proof.Proof.FfnRows
public import Idealize.ShloMosaic.Lib.Pipeline.ValueKit

@[expose] public section

set_option maxRecDepth 16384

noncomputable section

namespace Cert.Ffn

open Idealize.ShloMosaic Idealize.ShloMosaic.TcCoe Idealize.SL.Sem
open Cert.Kernel2Ideal Cert.Kernel2Ideal.Gen

variable (m : (ℓ : Loc nD τ sig) → Buf (Elt Ideal) ℓ)

/-- The block indices of the six windows at a grid point. -/
theorem idx : ∀ t : Fin grid0.N,
    win0_0.index t = ![t.val / 11, 0] ∧ win0_1.index t = ![0, 0] ∧ win0_2.index t = ![0, 0]
    ∧ win0_3.index t = ![0, t.val % 11] ∧ win0_4.index t = ![0, t.val % 11]
    ∧ win0_5.index t = ![t.val / 11, t.val % 11] := by decide +kernel

/-- The table row of a block of 256 tokens: the shared one for a sequence's first block, its sequence's own for the
    others. -/
def row (b : ℕ) : ℕ := if b % 9 = 0 then 16 else b / 9

/-- The shift's row in the table, for each of the four blocks of 256 tokens. -/
theorem off1 : ∀ t : Fin grid0.N,
    k0_off1 (grid0.coords t) 0#32 = ![row (t.val / 11 * 4) * 6 + 3, 0]
    ∧ k0_off1 (grid0.coords t) 1#32 = ![row (t.val / 11 * 4 + 1) * 6 + 3, 0]
    ∧ k0_off1 (grid0.coords t) 2#32 = ![row (t.val / 11 * 4 + 2) * 6 + 3, 0]
    ∧ k0_off1 (grid0.coords t) 3#32 = ![row (t.val / 11 * 4 + 3) * 6 + 3, 0] := by decide +kernel

/-- The scale's row in the table, for each of the four blocks of 256 tokens. -/
theorem off2 : ∀ t : Fin grid0.N,
    k0_off2 (grid0.coords t) 0#32 = ![row (t.val / 11 * 4) * 6 + 4, 0]
    ∧ k0_off2 (grid0.coords t) 1#32 = ![row (t.val / 11 * 4 + 1) * 6 + 4, 0]
    ∧ k0_off2 (grid0.coords t) 2#32 = ![row (t.val / 11 * 4 + 2) * 6 + 4, 0]
    ∧ k0_off2 (grid0.coords t) 3#32 = ![row (t.val / 11 * 4 + 3) * 6 + 4, 0] := by decide +kernel

/-- A token's table row is inside the table. -/
theorem row_lt (R : Fin 36864) : row (R.val / 256) ≤ 16 := by
  unfold row
  split <;> omega

/-- A token's normalised row, scaled and shifted by its table rows. -/
def normed (X : S36864x2048.Idx → EReal) (g : S1x2048.Idx → EReal) (T : S144x2048.Idx → EReal) (R : Fin 36864) :
    Fin 2048 → EReal :=
  modNorm (fun j => X (ix2 R j)) (fun j => g (ix2 0 j))
    (fun j => T (ix2 ⟨row (R.val / 256) * 6 + 4, by have := row_lt R; omega⟩ j))
    (fun j => T (ix2 ⟨row (R.val / 256) * 6 + 3, by have := row_lt R; omega⟩ j))

/-- The call's whole result. -/
def product (X : S36864x2048.Idx → EReal) (g : S1x2048.Idx → EReal) (T : S144x2048.Idx → EReal)
    (w1 w3 : S2048x5632.Idx → EReal) : S36864x5632.Idx → EReal := fun i =>
  gated (normed X g T (i 0)) (fun d => w1 (ix2 d (i 1))) (fun d => w3 (ix2 d (i 1)))

/-- Window 0's block at a point, read in the array it is a block of. -/
theorem read0_at (c : Dev nD) (t : Fin grid0.N) (X : Buf (Elt Ideal) ((c.tc : Thread nD τ).loc main_v3))
    (r : Fin 1024) (d : Fin 2048) (R : Fin 36864) (hR : R.val = t.val / 11 * 1024 + r.val) :
    ((cfg0.win 0).blk t).view.read (Elt Ideal) X (ix2 r d) = X (ix2 R d) := by
  obtain ⟨e, -⟩ := idx t
  blk_ext [e]

/-- Window 1's block at a point is its whole array. -/
theorem read1_at (c : Dev nD) (t : Fin grid0.N) (X : Buf (Elt Ideal) ((c.tc : Thread nD τ).loc main_v6))
    (z : Fin 1) (d : Fin 2048) :
    ((cfg0.win 1).blk t).view.read (Elt Ideal) X (ix2 z d) = X (ix2 0 d) := by
  obtain ⟨-, e, -⟩ := idx t
  blk_ext [e]

/-- Window 2's block at a point is its whole array. -/
theorem read2_at (c : Dev nD) (t : Fin grid0.N) (X : Buf (Elt Ideal) ((c.tc : Thread nD τ).loc main_v2))
    (r : Fin 144) (d : Fin 2048) :
    ((cfg0.win 2).blk t).view.read (Elt Ideal) X (ix2 r d) = X (ix2 r d) := by
  obtain ⟨-, -, e, -⟩ := idx t
  blk_ext [e]

/-- Window 3's block at a point, read in the array it is a block of. -/
theorem read3_at (c : Dev nD) (t : Fin grid0.N) (X : Buf (Elt Ideal) ((c.tc : Thread nD τ).loc main_v4))
    (d : Fin 2048) (r : Fin 512) (R : Fin 5632) (hR : R.val = t.val % 11 * 512 + r.val) :
    ((cfg0.win 3).blk t).view.read (Elt Ideal) X (ix2 d r) = X (ix2 d R) := by
  obtain ⟨-, -, -, e, -⟩ := idx t
  blk_ext [e]

/-- Window 4's block at a point, read in the array it is a block of. -/
theorem read4_at (c : Dev nD) (t : Fin grid0.N) (X : Buf (Elt Ideal) ((c.tc : Thread nD τ).loc main_v5))
    (d : Fin 2048) (r : Fin 512) (R : Fin 5632) (hR : R.val = t.val % 11 * 512 + r.val) :
    ((cfg0.win 4).blk t).view.read (Elt Ideal) X (ix2 d r) = X (ix2 d R) := by
  obtain ⟨-, -, -, -, e, -⟩ := idx t
  blk_ext [e]

/-- A row of the table read at an offset. -/
theorem ld_row (T : S144x2048.Idx → EReal) (off : Fin 2 → ℕ) (inb : ∀ a, off a + S1x2048.size a ≤ S144x2048.size a) (n : Fin 144)
    (e : off = ![n.val, 0]) (z : Fin 1) (d : Fin 2048) :
    View.ld (Val := Elt Ideal) (e' := .f32) T (Rect.unit (s := S144x2048) off S1x2048.size inb) (ix2 z d) = T (ix2 n d) := by
  subst e
  pointwise

end Cert.Ffn

end
-- ==== Proof.FfnResult.lean ====
/- The normalised SwiGLU call's result array after the run is `product` of the arrays its region reads. -/
module

public import proofs.«01_k».proof.Proof.FfnArray

@[expose] public section

set_option maxRecDepth 16384

noncomputable section

namespace Cert.Ffn

open Idealize.ShloMosaic Idealize.ShloMosaic.TcCoe Idealize.SL.Sem
open Cert.Kernel2Ideal Cert.Kernel2Ideal.Gen

variable (m : (ℓ : Loc nD τ sig) → Buf (Elt Ideal) ℓ)

/-- A block of 256 rows stored in the scratch, at an index, is the rows' norms. -/
theorem chunk_eq (X : S36864x2048.Idx → EReal) (G : S1x2048.Idx → EReal) (T : S144x2048.Idx → EReal)
    (x : S256x2048.Idx → EReal) (g h s : S1x2048.Idx → EReal) (r : Fin 256) (d : Fin 2048) (R : Fin 36864) (b : ℕ)
    (hb : R.val / 256 = b) (hx : ∀ j : Fin 2048, x (ix2 r j) = X (ix2 R j)) (hg : ∀ j : Fin 2048, g (ix2 0 j) = G (ix2 0 j))
    (hs : ∀ (n : Fin 144) (_ : n.val = row b * 6 + 4) (j : Fin 2048), s (ix2 0 j) = T (ix2 n j))
    (hh : ∀ (n : Fin 144) (_ : n.val = row b * 6 + 3) (j : Fin 2048), h (ix2 0 j) = T (ix2 n j)) :
    modNorm (fun j => x (ix2 r j)) (fun j => g (ix2 0 j)) (fun j => s (ix2 0 j)) (fun j => h (ix2 0 j)) d
      = normed X G T R d := by
  subst hb
  unfold normed
  simp only [hx, hg, hs ⟨row (R.val / 256) * 6 + 4, by have := row_lt R; omega⟩ rfl,
    hh ⟨row (R.val / 256) * 6 + 3, by have := row_lt R; omega⟩ rfl]

/-- The scratch that a row block's first point leaves. -/
theorem scratch_first (c : Dev nD) (t : Fin grid0.N) (h : t.val % 11 = 0) (r : Fin 1024) (d : Fin 2048) (R : Fin 36864)
    (hR : R.val = t.val / 11 * 1024 + r.val) :
    (outsAt0 m c t.val t.isLt).2 (ix2 r d) = normed (V m c main_v3) (V m c main_v6) (V m c main_v2) R d := by
  have ht : t.val < 396 := t.isLt
  have b0 := read0_at c t (V m c main_v3)
  have b1 := read1_at c t (V m c main_v6)
  have b2 := read2_at c t (V m c main_v2)
  obtain ⟨o10, o11, o12, o13⟩ := off1 t
  obtain ⟨o20, o21, o22, o23⟩ := off2 t
  rw [outsAt0_A m c t h]
  dsimp only []
  frame_out
  change ∀ r d R, _ → iblk m c 0 t (ix2 r d) = _ at b0
  change ∀ z d, iblk m c 1 t (ix2 z d) = _ at b1
  change ∀ z d, iblk m c 2 t (ix2 z d) = _ at b2
  generalize iblk m c 0 t = q at b0 ⊢
  generalize iblk m c 1 t = g at b1 ⊢
  generalize iblk m c 2 t = v at b2 ⊢
  generalize V m c main_v3 = X at b0 ⊢
  generalize V m c main_v6 = G at b1 ⊢
  generalize V m c main_v2 = T at b2 ⊢
  generalize hy : (ix2 r d : S1024x2048.Idx) = y
  have y0 : (y 0).val = r.val := by subst hy; rfl
  have y1 : y 1 = d := by subst hy; rfl
  clear hy
  canon_tiles x h
  all_goals idx_vars x
  · have e : d = x1 := y1.symm.trans (Fin.ext h1)
    subst e
    refine (chunk3 _ _ _ _ x0 d).trans (chunk_eq X G T _ _ _ _ x0 d R (t.val / 11 * 4 + 3) ?_ (fun j => ?_) (fun j => b1 0 j)
      (fun n hn j => (ld_row v _ _ n ?_ 0 j).trans (b2 n j)) (fun n hn j => (ld_row v _ _ n ?_ 0 j).trans (b2 n j)))
    · omega
    · pointwise
      refine b0 _ _ _ ?_
      dsimp only []
      omega
    · rw [hn]; exact o23
    · rw [hn]; exact o13
  · have e : d = x1 := y1.symm.trans (Fin.ext h1)
    subst e
    refine (chunk2 _ _ _ _ x0 d).trans (chunk_eq X G T _ _ _ _ x0 d R (t.val / 11 * 4 + 2) ?_ (fun j => ?_) (fun j => b1 0 j)
      (fun n hn j => (ld_row v _ _ n ?_ 0 j).trans (b2 n j)) (fun n hn j => (ld_row v _ _ n ?_ 0 j).trans (b2 n j)))
    · omega
    · pointwise
      refine b0 _ _ _ ?_
      dsimp only []
      omega
    · rw [hn]; exact o22
    · rw [hn]; exact o12
  · have e : d = x1 := y1.symm.trans (Fin.ext h1)
    subst e
    refine (chunk1 _ _ _ _ x0 d).trans (chunk_eq X G T _ _ _ _ x0 d R (t.val / 11 * 4 + 1) ?_ (fun j => ?_) (fun j => b1 0 j)
      (fun n hn j => (ld_row v _ _ n ?_ 0 j).trans (b2 n j)) (fun n hn j => (ld_row v _ _ n ?_ 0 j).trans (b2 n j)))
    · omega
    · pointwise
      refine b0 _ _ _ ?_
      dsimp only []
      omega
    · rw [hn]; exact o21
    · rw [hn]; exact o11
  · have e : d = x1 := y1.symm.trans (Fin.ext h1)
    subst e
    refine (chunk0 _ _ _ _ x0 d).trans (chunk_eq X G T _ _ _ _ x0 d R (t.val / 11 * 4) ?_ (fun j => ?_) (fun j => b1 0 j)
      (fun n hn j => (ld_row v _ _ n ?_ 0 j).trans (b2 n j)) (fun n hn j => (ld_row v _ _ n ?_ 0 j).trans (b2 n j)))
    · omega
    · pointwise
      refine b0 _ _ _ ?_
      dsimp only []
      omega
    · rw [hn]; exact o20
    · rw [hn]; exact o10

/-- A point that stores nothing in the scratch leaves what the point before left. -/
theorem scratch_keep (c : Dev nD) (t : Fin grid0.N) (h : ¬ t.val % 11 = 0) :
    (outsAt0 m c t.val t.isLt).2 = (outsAt0 m c (t.val - 1) (Nat.lt_of_le_of_lt (Nat.sub_le _ _) t.isLt)).2 := by
  rw [outsAt0_B m c t h]
  dsimp only [sout0_B_0]

/-- The scratch that any point leaves: its row block's norms. -/
theorem scratch (c : Dev nD) (k : ℕ) : ∀ (t : Fin grid0.N) (_ : t.val = k) (r : Fin 1024) (d : Fin 2048) (R : Fin 36864)
    (_ : R.val = t.val / 11 * 1024 + r.val),
    (outsAt0 m c t.val t.isLt).2 (ix2 r d) = normed (V m c main_v3) (V m c main_v6) (V m c main_v2) R d := by
  induction k with
  | zero => exact fun t hk r d R hR => scratch_first m c t (by omega) r d R hR
  | succ k ih =>
    intro t hk r d R hR
    by_cases h : t.val % 11 = 0
    · exact scratch_first m c t h r d R hR
    · rw [scratch_keep m c t h]
      refine ih ⟨t.val - 1, Nat.lt_of_le_of_lt (Nat.sub_le _ _) t.isLt⟩ ?_ r d R ?_
      · show t.val - 1 = k
        omega
      · show R.val = (t.val - 1) / 11 * 1024 + r.val
        rw [hR, show (t.val - 1) / 11 = t.val / 11 by omega]

/-- The block that a point leaves is the product of the scratch it leaves with its blocks of the weights. -/
theorem out_eq (c : Dev nD) (t : Fin grid0.N) :
    (outsAt0 m c t.val t.isLt).1 = k0_pay1 (outsAt0 m c t.val t.isLt).2 (iblk m c 3 t) (iblk m c 4 t) := by
  by_cases h : t.val % 11 = 0
  · rw [outsAt0_A m c t h]
    dsimp only []
    frame_out
    rw [View.readCov_eq_canon']
    refine congrArg (fun s => k0_pay1 s (iblk m c 3 t) (iblk m c 4 t)) (funext fun j => congrArg _ ?_)
    idx_vars j
    pointwise
  · rw [outsAt0_B m c t h]
    dsimp only [sout0_B_0]
    frame_out
    exact congrArg (fun s => k0_pay1 s (iblk m c 3 t) (iblk m c 4 t)) ((Memref.isWhole_whole _).read_unread _)

/-- The call's result array after the run is `product` of the arrays its region reads. -/
theorem arr_eq (c : Dev nD) :
    (dats m 0 c).arrAt 5 (cfgs 0).N
      = product (V m c main_v3) (V m c main_v6) (V m c main_v2) (V m c main_v4) (V m c main_v5) := by
  refine (dats m 0 c).arrAt_eq_of_covers 5 _ (by decide +kernel) fun t hf y => ?_
  obtain ⟨-, -, -, -, -, e5⟩ := idx t
  have ht : t.val < 396 := t.isLt
  have f0 : (((((cfgs 0).win 5).blk t).view.emb y) 0 : ℕ) = t.val / 11 * 1024 + (y 0).val := by blk_simp [e5]
  have f1 : (((((cfgs 0).win 5).blk t).view.emb y) 1 : ℕ) = t.val % 11 * 512 + (y 1).val := by blk_simp [e5]
  blk_simp
  rw [after0_5, out_eq]
  have s := scratch m c t.val t rfl
  have b3 := read3_at c t (V m c main_v4)
  have b4 := read4_at c t (V m c main_v5)
  change ∀ d r R, _ → iblk m c 3 t (ix2 d r) = _ at b3
  change ∀ d r R, _ → iblk m c 4 t (ix2 d r) = _ at b4
  generalize (outsAt0 m c t.val t.isLt).2 = S at s ⊢
  generalize iblk m c 3 t = p at b3 ⊢
  generalize iblk m c 4 t = q at b4 ⊢
  generalize V m c main_v3 = X at s ⊢
  generalize V m c main_v6 = G at s ⊢
  generalize V m c main_v2 = T at s ⊢
  generalize V m c main_v4 = w1 at b3 ⊢
  generalize V m c main_v5 = w3 at b4 ⊢
  generalize (((cfgs 0).win 5).blk t).view.emb y = i at f0 f1 ⊢
  obtain ⟨y0, y1, rfl⟩ : ∃ (y0 : Fin 1024) (y1 : Fin 512), y = ix2 y0 y1 := ⟨y 0, y 1, eq_ix2 y⟩
  obtain ⟨i0, i1, rfl⟩ : ∃ (i0 : Fin 36864) (i1 : Fin 5632), i = ix2 i0 i1 := ⟨i 0, i 1, eq_ix2 i⟩
  refine (tile S p q y0 y1).trans ?_
  have es : (fun d => S (ix2 y0 d)) = normed X G T i0 := funext fun d => s y0 d i0 f0
  have e3 : (fun d => p (ix2 d y1)) = fun d => w1 (ix2 d i1) := funext fun d => b3 d y1 i1 f1
  have e4 : (fun d => q (ix2 d y1)) = fun d => w3 (ix2 d i1) := funext fun d => b4 d y1 i1 f1
  rw [es, e3, e4]
  rfl

end Cert.Ffn

end
-- ==== Proof.FfnRef.lean ====
/- The normalised SwiGLU reference's result at an index. -/
module

public import proofs.«01_k».proof.Proof.Gen.Reference2Ideal.Run
public import proofs.«01_k».proof.Proof.FfnRows
public import Idealize.ShloMosaic.Lib.Pointwise
public import Idealize.ShloMosaic.Lib.Claim
public import Idealize.ShloMosaic.Lib.Tactic.CleanTypes

@[expose] public section

set_option maxRecDepth 16384

noncomputable section

namespace Cert.Ffn

open Idealize.ShloMosaic Idealize.ShloMosaic.TcCoe Idealize.SL.Sem
open scoped BigOperators
open Cert.Reference2Ideal Cert.Reference2Ideal.Gen Cert.Reference2Ideal.Value

variable (m : (ℓ : Loc nD τ sig) → Buf (Elt Ideal) ℓ)

/-- The norm of each row. -/
def normR (x : S16x2304x2048.Idx → EReal) (g : S2048.Idx → EReal) : S16x2304x2048.Idx → EReal :=
  mulf (F := Ideal) (φ := .f32) (mulf (F := Ideal) (φ := .f32) x (broadcastInDim S16x2304x2048 ![0, 1, 2] bcast_S16x2304x1_S16x2304x2048_0_1_2
    (Host.rsqrt (F := Ideal) (φ := .f32) (addf (F := Ideal) (φ := .f32) (Host.divf (F := Ideal) (φ := .f32) (broadcastInDim S16x2304x1 ![0, 1] bcast_S16x2304_S16x2304x1_0_1
      (Host.reduceAdd (F := Ideal) (φ := .f32) (mulf (F := Ideal) (φ := .f32) x x) (constant (F := Ideal) S_ .f32 0x00000000#32) reducesTo_S16x2304x2048_S16x2304_d2 h_S_))
      (broadcastInDim S16x2304x1 ![] bcast_S_S16x2304x1 (constant (F := Ideal) S_ .f32 0x45000000#32)))
      (broadcastInDim S16x2304x1 ![] bcast_S_S16x2304x1 (constant (F := Ideal) S_ .f32 0x358637BD#32))))))
    (broadcastInDim S16x2304x2048 ![0, 1, 2] bcast_S1x1x2048_S16x2304x2048_0_1_2 (broadcastInDim S1x1x2048 ![2] bcast_S2048_S1x1x2048_2 g))

/-- Each token's scale: the shared one for the first 256 tokens, its sequence's for the others. -/
def scaleR (t : S17x6x2048.Idx → EReal) : S16x2304x2048.Idx → EReal :=
  concatenate S16x2304x2048 1 [⟨S16x256x2048, (broadcastInDim S16x256x2048 ![2] bcast_S2048_S16x256x2048_2 (shapeCast S2048 (extractStridedSlice S1x1x2048 ![16, 4, 0] t slices_S17x6x2048_S1x1x2048_16_4_0) shapeCasts_S1x1x2048_S2048))⟩, ⟨S16x2048x2048, (broadcastInDim S16x2048x2048 ![0, 1, 2] bcast_S16x1x2048_S16x2048x2048_0_1_2 (broadcastInDim S16x1x2048 ![0, 2] bcast_S16x2048_S16x1x2048_0_2 (shapeCast S16x2048 (extractStridedSlice S16x1x2048 ![0, 4, 0] t slices_S17x6x2048_S16x1x2048_0_4_0) shapeCasts_S16x1x2048_S16x2048)))⟩] concatenates_S16x256x2048_S16x2048x2048_S16x2304x2048_d1

/-- Each token's shift: the shared one for the first 256 tokens, its sequence's for the others. -/
def shiftR (t : S17x6x2048.Idx → EReal) : S16x2304x2048.Idx → EReal :=
  concatenate S16x2304x2048 1 [⟨S16x256x2048, (broadcastInDim S16x256x2048 ![2] bcast_S2048_S16x256x2048_2 (shapeCast S2048 (extractStridedSlice S1x1x2048 ![16, 3, 0] t slices_S17x6x2048_S1x1x2048_16_3_0) shapeCasts_S1x1x2048_S2048))⟩, ⟨S16x2048x2048, (broadcastInDim S16x2048x2048 ![0, 1, 2] bcast_S16x1x2048_S16x2048x2048_0_1_2 (broadcastInDim S16x1x2048 ![0, 2] bcast_S16x2048_S16x1x2048_0_2 (shapeCast S16x2048 (extractStridedSlice S16x1x2048 ![0, 3, 0] t slices_S17x6x2048_S16x1x2048_0_3_0) shapeCasts_S16x1x2048_S16x2048)))⟩] concatenates_S16x256x2048_S16x2048x2048_S16x2304x2048_d1

/-- The norms scaled and shifted, the sequences laid one after another. -/
def flatR (y s h : S16x2304x2048.Idx → EReal) : S36864x2048.Idx → EReal :=
  shapeCast S36864x2048 (addf (F := Ideal) (φ := .f32) (mulf (F := Ideal) (φ := .f32) y (addf (F := Ideal) (φ := .f32)
    (broadcastInDim S16x2304x2048 ![] bcast_S_S16x2304x2048 (constant (F := Ideal) S_ .f32 0x3F800000#32)) s)) h) shapeCasts_S16x2304x2048_S36864x2048

/-- A product of the rows with a weight. -/
def dotR (x : S36864x2048.Idx → EReal) (w : S2048x5632.Idx → EReal) : S36864x5632.Idx → EReal :=
  Host.dotGeneral (F := Ideal) dot_S36864x2048_S2048x5632_S36864x5632_1_0_0_1_n_n none (φ₁ := .f32) (φ₂ := .f32) x w

/-- The silu of the first product times the second. -/
def gateR (a b : S36864x5632.Idx → EReal) : S36864x5632.Idx → EReal :=
  truncf (F := Ideal) (φ := .f32) .bf16 (mulf (F := Ideal) (φ := .f32) (mulf (F := Ideal) (φ := .f32) a (Host.divf (F := Ideal) (φ := .f32)
    (broadcastInDim S36864x5632 ![] bcast_S_S36864x5632 (constant (F := Ideal) S_ .f32 0x3F800000#32))
    (addf (F := Ideal) (φ := .f32) (broadcastInDim S36864x5632 ![] bcast_S_S36864x5632 (constant (F := Ideal) S_ .f32 0x3F800000#32))
      (Host.exp (F := Ideal) (φ := .f32) (Host.negf (F := Ideal) (φ := .f32) a))))) b) bitsLt_bf16_f32

set_option maxHeartbeats 1000000 in
/-- A row's norm at an index. -/
theorem normR_at (x : S16x2304x2048.Idx → EReal) (g : S2048.Idx → EReal) (b : Fin 16) (r : Fin 2304) (d : Fin 2048) :
    normR x g (ix3 b r d) = x (ix3 b r d) * Ideal.rsqrt (Ideal.div (∑ j, x (ix3 b r j) * x (ix3 b r j)) (Ideal.ofBits .f32 0x45000000#32)
      + Ideal.ofBits .f32 0x358637BD#32) * g (ix1 d) := by
  pointwise [normR]

/-- The table's row of a token. -/
def own (b : Fin 16) (r : Fin 2304) : Fin 17 := if r.val < 256 then 16 else ⟨b.val, by omega⟩

set_option maxHeartbeats 1000000 in
/-- A token's scale is its row of the table. -/
theorem scaleR_at (t : S17x6x2048.Idx → EReal) (b : Fin 16) (r : Fin 2304) (d : Fin 2048) :
    scaleR t (ix3 b r d) = t (ix3 (own b r) 4 d) := by
  unfold own
  by_cases h : r.val < 256
  · rw [if_pos h]
    pointwise [scaleR]
    rw [dif_pos (by omega)]
  · rw [if_neg h]
    pointwise [scaleR]
    rw [dif_neg (by omega)]

set_option maxHeartbeats 1000000 in
/-- A token's shift is its row of the table. -/
theorem shiftR_at (t : S17x6x2048.Idx → EReal) (b : Fin 16) (r : Fin 2304) (d : Fin 2048) :
    shiftR t (ix3 b r d) = t (ix3 (own b r) 3 d) := by
  unfold own
  by_cases h : r.val < 256
  · rw [if_pos h]
    pointwise [shiftR]
    rw [dif_pos (by omega)]
  · rw [if_neg h]
    pointwise [shiftR]
    rw [dif_neg (by omega)]

/-- A row laid after the others, scaled and shifted. -/
theorem flatR_at (y s h : S16x2304x2048.Idx → EReal) (b : Fin 16) (r : Fin 2304) (d : Fin 2048) (R : Fin 36864)
    (hR : R.val = b.val * 2304 + r.val) :
    flatR y s h (ix2 R d) = y (ix3 b r d) * (1 + s (ix3 b r d)) + h (ix3 b r d) := by
  have lt : b.val * 2304 + r.val < 36864 := by omega
  rw [show R = ⟨b.val * 2304 + r.val, lt⟩ from Fin.ext hR]
  pointwise [flatR]

/-- One element of a product with a weight. -/
theorem dotR_at (x : S36864x2048.Idx → EReal) (w : S2048x5632.Idx → EReal) (R : Fin 36864) (e : Fin 5632) :
    dotR x w (ix2 R e) = ∑ d : Fin 2048, x (ix2 R d) * w (ix2 d e) := by
  pointwise [dotR]

/-- One element of the gated product. -/
theorem gateR_at (a b : S36864x5632.Idx → EReal) (R : Fin 36864) (e : Fin 5632) :
    gateR a b (ix2 R e) = a (ix2 R e) * Ideal.logistic (a (ix2 R e)) * b (ix2 R e) := by
  pointwise [gateR]
  rfl

/-- The reference's result, of its arguments. -/
def wholeR (x : S16x2304x2048.Idx → EReal) (g : S2048.Idx → EReal) (t : S17x6x2048.Idx → EReal) (w1 w3 : S2048x5632.Idx → EReal) :
    S36864x5632.Idx → EReal :=
  gateR (dotR (flatR (normR x g) (scaleR t) (shiftR t)) w1) (dotR (flatR (normR x g) (scaleR t) (shiftR t)) w3)

/-- One element of it. -/
theorem wholeR_at (x : S16x2304x2048.Idx → EReal) (g : S2048.Idx → EReal) (t : S17x6x2048.Idx → EReal) (w1 w3 : S2048x5632.Idx → EReal)
    (b : Fin 16) (r : Fin 2304) (R : Fin 36864) (hR : R.val = b.val * 2304 + r.val) (e : Fin 5632) :
    wholeR x g t w1 w3 (ix2 R e) = gated (modNorm (fun j => x (ix3 b r j)) (fun j => g (ix1 j)) (fun j => t (ix3 (own b r) 4 j))
      (fun j => t (ix3 (own b r) 3 j))) (fun d => w1 (ix2 d e)) (fun d => w3 (ix2 d e)) := by
  unfold wholeR
  simp only [gateR_at, dotR_at, flatR_at _ _ _ b r _ R hR, normR_at, scaleR_at, shiftR_at]
  rfl

set_option maxHeartbeats 4000000 in
/-- The reference program's result is that of its arguments. -/
theorem res_eq (c : Dev nD) : res_out0 (F := Ideal) m c
    = wholeR (m ((c.tc : Thread nD τ).loc main_arg0) : S16x2304x2048.Idx → EReal) (m ((c.tc : Thread nD τ).loc main_arg1) : S2048.Idx → EReal)
        (m ((c.tc : Thread nD τ).loc main_arg2) : S17x6x2048.Idx → EReal) (m ((c.tc : Thread nD τ).loc main_arg3) : S2048x5632.Idx → EReal)
        (m ((c.tc : Thread nD τ).loc main_arg4) : S2048x5632.Idx → EReal) := by
  unfold res_out0 res_main_v38
  rfl

end Cert.Ffn
end
-- ==== Proof.FfnHost.lean ====
/- The arrays that the normalised SwiGLU call's region reads, of the kernel's arguments, and the two programs' results. -/
module

public import proofs.«01_k».proof.Proof.FfnResult
public import proofs.«01_k».proof.Proof.FfnRef

@[expose] public section

set_option maxRecDepth 16384

noncomputable section

namespace Cert.Ffn

open Idealize.ShloMosaic Idealize.ShloMosaic.TcCoe Idealize.SL.Sem
open Cert.Kernel2Ideal Cert.Kernel2Ideal.Gen

variable (m : (ℓ : Loc nD τ sig) → Buf (Elt Ideal) ℓ)

/-- The rows, the sequences laid one after another. -/
def rowsK (x : S16x2304x2048.Idx → EReal) : S36864x2048.Idx → EReal :=
  shapeCast S36864x2048 x shapeCasts_S16x2304x2048_S36864x2048

/-- The norm's weight as one row. -/
def weightK (g : S2048.Idx → EReal) : S1x2048.Idx → EReal := shapeCast S1x2048 g shapeCasts_S2048_S1x2048

/-- The table: the modulation rows, then rows of zeros. -/
def tableK (t : S17x6x2048.Idx → EReal) : S144x2048.Idx → EReal :=
  shapeCast S144x2048 (concatenate S24x6x2048 0 [⟨S17x6x2048, t⟩,
    ⟨S7x6x2048, broadcastInDim S7x6x2048 ![] bcast_S_S7x6x2048 (constant (F := Ideal) S_ .f32 0x00000000#32)⟩]
    concatenates_S17x6x2048_S7x6x2048_S24x6x2048_d0) shapeCasts_S24x6x2048_S144x2048

/-- A weight, rounded. -/
def narrowK (w : S2048x5632.Idx → EReal) : S2048x5632.Idx → EReal :=
  truncf (F := Ideal) (φ := .f32) .bf16 w bitsLt_bf16_f32

/-- One element of a row. -/
theorem rowsK_at (x : S16x2304x2048.Idx → EReal) (b : Fin 16) (r : Fin 2304) (d : Fin 2048) (R : Fin 36864)
    (hR : R.val = b.val * 2304 + r.val) : rowsK x (ix2 R d) = x (ix3 b r d) := by
  have lt : b.val * 2304 + r.val < 36864 := by omega
  rw [show R = ⟨b.val * 2304 + r.val, lt⟩ from Fin.ext hR]
  pointwise [rowsK]

/-- One element of the norm's weight. -/
theorem weightK_at (g : S2048.Idx → EReal) (z : Fin 1) (d : Fin 2048) : weightK g (ix2 z d) = g (ix1 d) := by
  pointwise [weightK]

/-- A row of the table is a modulation row. -/
theorem tableK_at (t : S17x6x2048.Idx → EReal) (b : Fin 17) (k : Fin 6) (d : Fin 2048) (n : Fin 144)
    (hn : n.val = b.val * 6 + k.val) : tableK t (ix2 n d) = t (ix3 b k d) := by
  have lt : b.val * 6 + k.val < 144 := by omega
  rw [show n = ⟨b.val * 6 + k.val, lt⟩ from Fin.ext hn]
  pointwise [tableK]
  rw [dif_pos (by omega)]
  exact congrArg (fun z => t (ix3 z k d)) (Fin.ext (show (b.val * 6 + k.val) / 6 = b.val by omega))

/-- The rows the region reads. -/
theorem V_x (c : Dev nD) : V m c main_v3 = rowsK (m ((c.tc : Thread nD τ).loc main_arg0) : S16x2304x2048.Idx → EReal) := by
  simp only [V, StableHlo.after_cons, StableHlo.after_nil]
  after_results_simp
  rfl

/-- The norm's weight the region reads. -/
theorem V_g (c : Dev nD) : V m c main_v6 = weightK (m ((c.tc : Thread nD τ).loc main_arg1) : S2048.Idx → EReal) := by
  simp only [V, StableHlo.after_cons, StableHlo.after_nil]
  after_results_simp
  rfl

/-- The table the region reads. -/
theorem V_t (c : Dev nD) : V m c main_v2 = tableK (m ((c.tc : Thread nD τ).loc main_arg2) : S17x6x2048.Idx → EReal) := by
  simp only [V, StableHlo.after_cons, StableHlo.after_nil]
  after_results_simp
  rfl

/-- The first weight the region reads. -/
theorem V_w1 (c : Dev nD) : V m c main_v4 = narrowK (m ((c.tc : Thread nD τ).loc main_arg3) : S2048x5632.Idx → EReal) := by
  simp only [V, StableHlo.after_cons, StableHlo.after_nil]
  after_results_simp
  rfl

/-- The second weight the region reads. -/
theorem V_w3 (c : Dev nD) : V m c main_v5 = narrowK (m ((c.tc : Thread nD τ).loc main_arg4) : S2048x5632.Idx → EReal) := by
  simp only [V, StableHlo.after_cons, StableHlo.after_nil]
  after_results_simp
  rfl

/-- The kernel's product is the reference's result. -/
theorem product_eq_whole (x : S16x2304x2048.Idx → EReal) (g : S2048.Idx → EReal) (t : S17x6x2048.Idx → EReal)
    (w1 w3 : S2048x5632.Idx → EReal) :
    product (rowsK x) (weightK g) (tableK t) (narrowK w1) (narrowK w3) = wholeR x g t w1 w3 := by
  funext i
  obtain ⟨R, e, rfl⟩ : ∃ (R : Fin 36864) (e : Fin 5632), i = ix2 R e := ⟨i 0, i 1, eq_ix2 i⟩
  have hR : R.val = (⟨R.val / 2304, by omega⟩ : Fin 16).val * 2304 + (⟨R.val % 2304, by omega⟩ : Fin 2304).val := by
    simp only []; omega
  generalize (⟨R.val / 2304, by omega⟩ : Fin 16) = b at hR
  generalize (⟨R.val % 2304, by omega⟩ : Fin 2304) = r at hR
  have hrow : row (R.val / 256) = (own b r).val := by
    unfold row own
    have h1 : R.val / 256 / 9 = b.val := by omega
    by_cases h : r.val < 256
    · rw [if_pos h, if_pos (by omega)]; rfl
    · rw [if_neg h, if_neg (by omega)]; exact h1
  rw [wholeR_at x g t w1 w3 b r R hR e]
  show gated (normed (rowsK x) (weightK g) (tableK t) R) (fun d => w1 (ix2 d e)) (fun d => w3 (ix2 d e)) = _
  refine congrArg (fun n => gated n _ _) ?_
  unfold normed
  have a0 : (fun j => rowsK x (ix2 R j)) = fun j => x (ix3 b r j) := funext fun j => rowsK_at x b r j R hR
  have a1 : (fun j => weightK g (ix2 0 j)) = fun j => g (ix1 j) := funext fun j => weightK_at g 0 j
  have a2 : ∀ h, (fun j => tableK t (ix2 ⟨row (R.val / 256) * 6 + 4, h⟩ j)) = fun j => t (ix3 (own b r) 4 j) :=
    fun h => funext fun j => tableK_at t (own b r) 4 j _ (by rw [← hrow]; rfl)
  have a3 : ∀ h, (fun j => tableK t (ix2 ⟨row (R.val / 256) * 6 + 3, h⟩ j)) = fun j => t (ix3 (own b r) 3 j) :=
    fun h => funext fun j => tableK_at t (own b r) 3 j _ (by rw [← hrow]; rfl)
  rw [a0, a1, a2, a3]

end Cert.Ffn

end
-- ==== Proof.DownRows.lean ====
/- The stores of the gated last product, read at an index: the residual plus the gate times a row of the product. -/
module

public import proofs.«01_k».proof.Proof.Gen.Kernel3Ideal.Skeleton
public import Idealize.ShloMosaic.Lib.Pointwise
public import Idealize.ShloMosaic.Lib.Claim

@[expose] public section

set_option maxRecDepth 16384

noncomputable section

namespace Cert.Down

open Idealize.ShloMosaic Idealize.ShloMosaic.TcCoe Idealize.SL.Sem
open Cert.Kernel3Ideal Cert.Kernel3Ideal.Gen

/-- One element of the product of a row block with a column block of the weight. -/
theorem acc_at (a : Vec Ideal S1024x5632 .bf16) (w : Vec Ideal S5632x512 .bf16) (r : Fin 1024) (e : Fin 512) :
    k0_pay1 a w (ix2 r e) = ∑ d : Fin 5632, a (ix2 r d) * w (ix2 d e) := by
  pointwise [k0_pay1]

/-- The store of the first 256 rows. -/
theorem chunk0 (y : FVec Ideal S1024x512 .f32) (g : Vec Ideal S1x512 .f32) (x : Vec Ideal S256x512 .f32) (r : Fin 256) (e : Fin 512)
    (R : Fin 1024) (hR : R.val = r.val) : k0_pay3 y (k0_pay2 g) x (ix2 r e) = x (ix2 r e) + g (ix2 0 e) * y (ix2 R e) := by
  rw [show R = ⟨r.val, by omega⟩ from Fin.ext hR]
  pointwise [k0_pay3, k0_pay2]

/-- The store of the second 256 rows. -/
theorem chunk1 (y : FVec Ideal S1024x512 .f32) (g : Vec Ideal S1x512 .f32) (x : Vec Ideal S256x512 .f32) (r : Fin 256) (e : Fin 512)
    (R : Fin 1024) (hR : R.val = 256 + r.val) : k0_pay6 y (k0_pay4 g) (k0_pay5 x) (ix2 r e) = x (ix2 r e) + g (ix2 0 e) * y (ix2 R e) := by
  have lt : 256 + r.val < 1024 := by omega
  rw [show R = ⟨256 + r.val, lt⟩ from Fin.ext hR]
  pointwise [k0_pay6, k0_pay4, k0_pay5]

/-- The store of the third 256 rows. -/
theorem chunk2 (y : FVec Ideal S1024x512 .f32) (g : Vec Ideal S1x512 .f32) (x : Vec Ideal S256x512 .f32) (r : Fin 256) (e : Fin 512)
    (R : Fin 1024) (hR : R.val = 512 + r.val) : k0_pay10 (k0_pay7 x) (k0_pay8 y) (k0_pay9 g) (ix2 r e) = x (ix2 r e) + g (ix2 0 e) * y (ix2 R e) := by
  have lt : 512 + r.val < 1024 := by omega
  rw [show R = ⟨512 + r.val, lt⟩ from Fin.ext hR]
  pointwise [k0_pay10, k0_pay7, k0_pay8, k0_pay9]

/-- The store of the fourth 256 rows. -/
theorem chunk3 (y : FVec Ideal S1024x512 .f32) (g : Vec Ideal S1x512 .f32) (x : Vec Ideal S256x512 .f32) (r : Fin 256) (e : Fin 512)
    (R : Fin 1024) (hR : R.val = 768 + r.val) : k0_pay11 y g x (ix2 r e) = x (ix2 r e) + g (ix2 0 e) * y (ix2 R e) := by
  have lt : 768 + r.val < 1024 := by omega
  rw [show R = ⟨768 + r.val, lt⟩ from Fin.ext hR]
  pointwise [k0_pay11]

end Cert.Down

end
-- ==== Proof.DownArray.lean ====
/- The blocks that the gated last product reads, at an index of their arrays, and its whole result. -/
module

public import proofs.«01_k».proof.Proof.Gen.Kernel3Ideal.Value
public import proofs.«01_k».proof.Proof.DownRows
public import proofs.«01_k».proof.Proof.FfnArray
public import Idealize.ShloMosaic.Lib.Pipeline.ValueKit

@[expose] public section

set_option maxRecDepth 16384

noncomputable section

namespace Cert.Down

open Idealize.ShloMosaic Idealize.ShloMosaic.TcCoe Idealize.SL.Sem
open Cert.Kernel3Ideal Cert.Kernel3Ideal.Gen
open Cert.Ffn (row row_lt)

/-- The block indices of the windows at a grid point. -/
theorem idx : ∀ t : Fin grid0.N,
    win0_0.index t = ![t.val / 4, 0]
    ∧ win0_1.index t = ![0, t.val % 4]
    ∧ win0_2.index t = ![t.val / 4, t.val % 4]
    ∧ win0_3.index t = ![0, 0]
    ∧ win0_4.index t = ![t.val / 4, t.val % 4] := by decide +kernel

/-- The gate's place in the table, for each of the four blocks of 256 tokens. -/
theorem off1 : ∀ t : Fin grid0.N,
    k0_off1 (grid0.coords t) 0#32 = ![row (t.val / 4 * 4) * 6 + 5, t.val % 4 * 512]
    ∧ k0_off1 (grid0.coords t) 1#32 = ![row (t.val / 4 * 4 + 1) * 6 + 5, t.val % 4 * 512]
    ∧ k0_off1 (grid0.coords t) 2#32 = ![row (t.val / 4 * 4 + 2) * 6 + 5, t.val % 4 * 512]
    ∧ k0_off1 (grid0.coords t) 3#32 = ![row (t.val / 4 * 4 + 3) * 6 + 5, t.val % 4 * 512] := by decide +kernel

/-- The call's whole result. -/
def product (A : S36864x5632.Idx → EReal) (W : S5632x2048.Idx → EReal) (X : S36864x2048.Idx → EReal) (T : S144x2048.Idx → EReal) :
    S36864x2048.Idx → EReal := fun i =>
  X (ix2 (i 0) (i 1)) + T (ix2 ⟨row ((i 0).val / 256) * 6 + 5, by have := row_lt (i 0); omega⟩ (i 1)) * ∑ d : Fin 5632, A (ix2 (i 0) d) * W (ix2 d (i 1))

/-- Window 0's block at a point, read in the array it is a block of. -/
theorem read0_at (c : Dev nD) (t : Fin grid0.N) (X : Buf (Elt Ideal) ((c.tc : Thread nD τ).loc main_v3))
    (r : Fin 1024) (e : Fin 5632) (R : Fin 36864) (hR : R.val = t.val / 4 * 1024 + r.val) :
    ((cfg0.win 0).blk t).view.read (Elt Ideal) X (ix2 r e) = X (ix2 R e) := by
  obtain ⟨e', -⟩ := idx t
  blk_ext [e']

/-- Window 1's block at a point, read in the array it is a block of. -/
theorem read1_at (c : Dev nD) (t : Fin grid0.N) (X : Buf (Elt Ideal) ((c.tc : Thread nD τ).loc main_v4))
    (r : Fin 5632) (e : Fin 512) (E : Fin 2048) (hE : E.val = t.val % 4 * 512 + e.val) :
    ((cfg0.win 1).blk t).view.read (Elt Ideal) X (ix2 r e) = X (ix2 r E) := by
  obtain ⟨-, e', -⟩ := idx t
  blk_ext [e']

/-- Window 2's block at a point, read in the array it is a block of. -/
theorem read2_at (c : Dev nD) (t : Fin grid0.N) (X : Buf (Elt Ideal) ((c.tc : Thread nD τ).loc main_v5))
    (r : Fin 1024) (e : Fin 512) (R : Fin 36864) (hR : R.val = t.val / 4 * 1024 + r.val) (E : Fin 2048) (hE : E.val = t.val % 4 * 512 + e.val) :
    ((cfg0.win 2).blk t).view.read (Elt Ideal) X (ix2 r e) = X (ix2 R E) := by
  obtain ⟨-, -, e', -⟩ := idx t
  blk_ext [e']

/-- Window 3's block at a point, read in the array it is a block of. -/
theorem read3_at (c : Dev nD) (t : Fin grid0.N) (X : Buf (Elt Ideal) ((c.tc : Thread nD τ).loc main_v2))
    (r : Fin 144) (e : Fin 2048) :
    ((cfg0.win 3).blk t).view.read (Elt Ideal) X (ix2 r e) = X (ix2 r e) := by
  obtain ⟨-, -, -, e', -⟩ := idx t
  blk_ext [e']

/-- A piece of a row of the table read at an offset. -/
theorem ld_row (T : S144x2048.Idx → EReal) (off : Fin 2 → ℕ) (inb : ∀ a, off a + S1x512.size a ≤ S144x2048.size a) (n : Fin 144) (k : ℕ)
    (e : off = ![n.val, k]) (z : Fin 1) (d : Fin 512) (E : Fin 2048) (hE : E.val = k + d.val) :
    View.ld (Val := Elt Ideal) (e' := .f32) T (Rect.unit (s := S144x2048) off S1x512.size inb) (ix2 z d) = T (ix2 n E) := by
  subst e
  have lt : k + d.val < 2048 := by omega
  rw [show E = ⟨k + d.val, lt⟩ from Fin.ext hE]
  pointwise

end Cert.Down

end
-- ==== Proof.DownResult.lean ====
/- The gated last product's result array after the run is `product` of the arrays its region reads. -/
module

public import proofs.«01_k».proof.Proof.DownArray

@[expose] public section

set_option maxRecDepth 16384

noncomputable section

namespace Cert.Down

open Idealize.ShloMosaic Idealize.ShloMosaic.TcCoe Idealize.SL.Sem
open Cert.Kernel3Ideal Cert.Kernel3Ideal.Gen
open Cert.Ffn (row row_lt)

variable (m : (ℓ : Loc nD τ sig) → Buf (Elt Ideal) ℓ)

/-- A stored element, of the blocks read, is an element of the whole result. -/
theorem chunk_eq (A : S36864x5632.Idx → EReal) (W : S5632x2048.Idx → EReal) (X : S36864x2048.Idx → EReal) (T : S144x2048.Idx → EReal) (i0 : Fin 36864) (i1 : Fin 2048) (b : ℕ) (hb : i0.val / 256 = b) (x g y : EReal)
    (hx : x = X (ix2 i0 i1)) (hg : ∀ (n : Fin 144) (_ : n.val = row b * 6 + 5), g = T (ix2 n i1)) (hy : y = ∑ d : Fin 5632, A (ix2 i0 d) * W (ix2 d i1)) :
    x + g * y = product A W X T (ix2 i0 i1) := by
  subst hb
  rw [hx, hy, hg ⟨row (i0.val / 256) * 6 + 5, by have := row_lt i0; omega⟩ rfl]
  rfl

/-- The block that a point leaves, at an index. -/
theorem out_at (c : Dev nD) (t : Fin grid0.N) (r : Fin 1024) (e : Fin 512) (i0 : Fin 36864) (i1 : Fin 2048)
    (h0 : i0.val = t.val / 4 * 1024 + r.val) (h1 : i1.val = t.val % 4 * 512 + e.val) :
    outsAt0 m c t (ix2 r e) = product (V m c main_v3) (V m c main_v4) (V m c main_v5) (V m c main_v2) (ix2 i0 i1) := by
  have ht : t.val < 144 := t.isLt
  have b0 := read0_at c t (V m c main_v3)
  have b1 := read1_at c t (V m c main_v4)
  have b2 := read2_at c t (V m c main_v5)
  have b3 := read3_at c t (V m c main_v2)
  obtain ⟨o0, o1, o2, o3⟩ := off1 t
  unfold outsAt0
  frame_out
  change ∀ r e R, _ → iblk m c 0 t (ix2 r e) = _ at b0
  change ∀ r e E, _ → iblk m c 1 t (ix2 r e) = _ at b1
  change ∀ r e R, _ → ∀ E, _ → iblk m c 2 t (ix2 r e) = _ at b2
  change ∀ r e, iblk m c 3 t (ix2 r e) = _ at b3
  generalize iblk m c 0 t = a at b0 ⊢
  generalize iblk m c 1 t = w at b1 ⊢
  generalize iblk m c 2 t = q at b2 ⊢
  generalize iblk m c 3 t = tq at b3 ⊢
  generalize V m c main_v3 = A at b0 ⊢
  generalize V m c main_v4 = W at b1 ⊢
  generalize V m c main_v5 = X at b2 ⊢
  generalize V m c main_v2 = T at b3 ⊢
  have hacc : ∀ (R : Fin 1024) (_ : R.val = r.val), k0_pay1 a w (ix2 R e) = ∑ d : Fin 5632, @HMul.hMul EReal EReal EReal _ (A (ix2 i0 d)) (W (ix2 d i1)) := fun R hR => by
    rw [acc_at]
    have : R = r := Fin.ext hR
    subst this
    exact Finset.sum_congr rfl fun d _ => by rw [b0 R d i0 h0, b1 d e i1 h1]
  generalize k0_pay1 a w = Y at hacc ⊢
  generalize hy : (ix2 r e : S1024x512.Idx) = y
  have y0 : (y 0).val = r.val := by subst hy; rfl
  have y1 : y 1 = e := by subst hy; rfl
  clear hy
  canon_tiles x hx
  all_goals idx_vars x
  · have e' : e = x1 := y1.symm.trans (Fin.ext hx1)
    subst e'
    refine (chunk3 _ _ _ x0 e r (by omega)).trans (chunk_eq A W X T i0 i1 (t.val / 4 * 4 + 3) (by omega) _ _ _ ?_ (fun n hn => ?_) (hacc r rfl))
    · pointwise
      refine b2 _ _ _ ?_ _ ?_
      · dsimp only []
        omega
      · omega
    · refine (ld_row tq _ _ n (t.val % 4 * 512) ?_ 0 e i1 h1).trans (b3 n i1)
      rw [hn]; exact o3
  · have e' : e = x1 := y1.symm.trans (Fin.ext hx1)
    subst e'
    refine (chunk2 _ _ _ x0 e r (by omega)).trans (chunk_eq A W X T i0 i1 (t.val / 4 * 4 + 2) (by omega) _ _ _ ?_ (fun n hn => ?_) (hacc r rfl))
    · pointwise
      refine b2 _ _ _ ?_ _ ?_
      · dsimp only []
        omega
      · omega
    · refine (ld_row tq _ _ n (t.val % 4 * 512) ?_ 0 e i1 h1).trans (b3 n i1)
      rw [hn]; exact o2
  · have e' : e = x1 := y1.symm.trans (Fin.ext hx1)
    subst e'
    refine (chunk1 _ _ _ x0 e r (by omega)).trans (chunk_eq A W X T i0 i1 (t.val / 4 * 4 + 1) (by omega) _ _ _ ?_ (fun n hn => ?_) (hacc r rfl))
    · pointwise
      refine b2 _ _ _ ?_ _ ?_
      · dsimp only []
        omega
      · omega
    · refine (ld_row tq _ _ n (t.val % 4 * 512) ?_ 0 e i1 h1).trans (b3 n i1)
      rw [hn]; exact o1
  · have e' : e = x1 := y1.symm.trans (Fin.ext hx1)
    subst e'
    refine (chunk0 _ _ _ x0 e r (by omega)).trans (chunk_eq A W X T i0 i1 (t.val / 4 * 4) (by omega) _ _ _ ?_ (fun n hn => ?_) (hacc r rfl))
    · pointwise
      refine b2 _ _ _ ?_ _ ?_
      · dsimp only []
        omega
      · omega
    · refine (ld_row tq _ _ n (t.val % 4 * 512) ?_ 0 e i1 h1).trans (b3 n i1)
      rw [hn]; exact o0

/-- The call's result array after the run is `product` of the arrays its region reads. -/
theorem arr_eq (c : Dev nD) :
    (dats m 0 c).arrAt 4 (cfgs 0).N = product (V m c main_v3) (V m c main_v4) (V m c main_v5) (V m c main_v2) := by
  refine (dats m 0 c).arrAt_eq_of_covers 4 _ (by decide +kernel) fun t hf y => ?_
  obtain ⟨-, -, -, -, e'⟩ := idx t
  have f0 : (((((cfgs 0).win 4).blk t).view.emb y) 0 : ℕ) = t.val / 4 * 1024 + (y 0).val := by blk_simp [e']
  have f1 : (((((cfgs 0).win 4).blk t).view.emb y) 1 : ℕ) = t.val % 4 * 512 + (y 1).val := by blk_simp [e']
  blk_simp
  rw [after0_4]
  generalize (((cfgs 0).win 4).blk t).view.emb y = i at f0 f1 ⊢
  obtain ⟨y0, y1, rfl⟩ : ∃ (y0 : Fin 1024) (y1 : Fin 512), y = ix2 y0 y1 := ⟨y 0, y 1, eq_ix2 y⟩
  obtain ⟨i0, i1, rfl⟩ : ∃ (i0 : Fin 36864) (i1 : Fin 2048), i = ix2 i0 i1 := ⟨i 0, i 1, eq_ix2 i⟩
  exact out_at m c t y0 y1 i0 i1 f0 f1

end Cert.Down

end
-- ==== Proof.DownRef.lean ====
/- The gated last product's reference, at an index. -/
module

public import proofs.«01_k».proof.Proof.Gen.Reference3Ideal.Run
public import proofs.«01_k».proof.Proof.FfnRef
public import Idealize.ShloMosaic.Lib.Pointwise

@[expose] public section

set_option maxRecDepth 16384

noncomputable section

namespace Cert.Down

open Idealize.ShloMosaic Idealize.ShloMosaic.TcCoe Idealize.SL.Sem
open scoped BigOperators
open Cert.Reference3Ideal Cert.Reference3Ideal.Gen
open Cert.Ffn (own)
/-- Each token's gate: the shared one for the first 256 tokens, its sequence's for the others. -/
def gateR (t : S17x6x2048.Idx → EReal) : S16x2304x2048.Idx → EReal :=
  concatenate S16x2304x2048 1 [⟨S16x256x2048, (broadcastInDim S16x256x2048 ![2] bcast_S2048_S16x256x2048_2 (shapeCast S2048 (extractStridedSlice S1x1x2048 ![16, 5, 0] t slices_S17x6x2048_S1x1x2048_16_5_0) shapeCasts_S1x1x2048_S2048))⟩, ⟨S16x2048x2048, (broadcastInDim S16x2048x2048 ![0, 1, 2] bcast_S16x1x2048_S16x2048x2048_0_1_2 (broadcastInDim S16x1x2048 ![0, 2] bcast_S16x2048_S16x1x2048_0_2 (shapeCast S16x2048 (extractStridedSlice S16x1x2048 ![0, 5, 0] t slices_S17x6x2048_S16x1x2048_0_5_0) shapeCasts_S16x1x2048_S16x2048)))⟩] concatenates_S16x256x2048_S16x2048x2048_S16x2304x2048_d1

set_option maxHeartbeats 1000000 in
/-- A token's gate is its row of the table. -/
theorem gateR_at (t : S17x6x2048.Idx → EReal) (b : Fin 16) (r : Fin 2304) (d : Fin 2048) :
    gateR t (ix3 b r d) = t (ix3 (own b r) 5 d) := by
  unfold own
  by_cases h : r.val < 256
  · rw [if_pos h]
    pointwise [gateR]
    rw [dif_pos (by omega)]
  · rw [if_neg h]
    pointwise [gateR]
    rw [dif_neg (by omega)]

/-- The product of the rows with the weight. -/
def dotR (a : S36864x5632.Idx → EReal) (w : S5632x2048.Idx → EReal) : S36864x2048.Idx → EReal :=
  Host.dotGeneral (F := Ideal) dot_S36864x5632_S5632x2048_S36864x2048_1_0_0_1_n_n none (φ₁ := .f32) (φ₂ := .f32) a w

/-- One element of the product. -/
theorem dotR_at (a : S36864x5632.Idx → EReal) (w : S5632x2048.Idx → EReal) (R : Fin 36864) (e : Fin 2048) :
    dotR a w (ix2 R e) = ∑ d : Fin 5632, a (ix2 R d) * w (ix2 d e) := by
  pointwise [dotR]

/-- The rows cut back into sequences. -/
def cutR (p : S36864x2048.Idx → EReal) : S16x2304x2048.Idx → EReal := shapeCast S16x2304x2048 p shapeCasts_S36864x2048_S16x2304x2048

/-- One element of a sequence. -/
theorem cutR_at (p : S36864x2048.Idx → EReal) (b : Fin 16) (r : Fin 2304) (e : Fin 2048) (R : Fin 36864)
    (hR : R.val = b.val * 2304 + r.val) : cutR p (ix3 b r e) = p (ix2 R e) := by
  have lt : b.val * 2304 + r.val < 36864 := by omega
  rw [show R = ⟨b.val * 2304 + r.val, lt⟩ from Fin.ext hR]
  pointwise [cutR]

/-- The residual added to the gated product, the sequences laid one after another. -/
def joinR (x g p : S16x2304x2048.Idx → EReal) : S36864x2048.Idx → EReal :=
  shapeCast S36864x2048 (addf (F := Ideal) (φ := .f32) x (mulf (F := Ideal) (φ := .f32) g p)) shapeCasts_S16x2304x2048_S36864x2048

/-- One element of that. -/
theorem joinR_at (x g p : S16x2304x2048.Idx → EReal) (b : Fin 16) (r : Fin 2304) (e : Fin 2048) (R : Fin 36864)
    (hR : R.val = b.val * 2304 + r.val) : joinR x g p (ix2 R e) = x (ix3 b r e) + g (ix3 b r e) * p (ix3 b r e) := by
  have lt : b.val * 2304 + r.val < 36864 := by omega
  rw [show R = ⟨b.val * 2304 + r.val, lt⟩ from Fin.ext hR]
  pointwise [joinR]

/-- The reference's result, of its arguments. -/
def wholeR (a : S36864x5632.Idx → EReal) (w : S5632x2048.Idx → EReal) (x : S16x2304x2048.Idx → EReal) (t : S17x6x2048.Idx → EReal) :
    S36864x2048.Idx → EReal := joinR x (gateR t) (cutR (dotR a w))

/-- One element of it. -/
theorem wholeR_at (a : S36864x5632.Idx → EReal) (w : S5632x2048.Idx → EReal) (x : S16x2304x2048.Idx → EReal) (t : S17x6x2048.Idx → EReal)
    (b : Fin 16) (r : Fin 2304) (e : Fin 2048) (R : Fin 36864) (hR : R.val = b.val * 2304 + r.val) :
    wholeR a w x t (ix2 R e) = x (ix3 b r e) + t (ix3 (own b r) 5 e) * ∑ d : Fin 5632, a (ix2 R d) * w (ix2 d e) := by
  unfold wholeR
  rw [joinR_at _ _ _ b r e R hR, gateR_at, cutR_at _ b r e R hR, dotR_at]

end Cert.Down

end
-- ==== Proof.DownHost.lean ====
/- The arrays that the gated last product reads, of its arguments, and the two programs' results. -/
module

public import proofs.«01_k».proof.Proof.DownResult
public import proofs.«01_k».proof.Proof.DownRef

@[expose] public section

set_option maxRecDepth 16384

noncomputable section

namespace Cert.Down

open Idealize.ShloMosaic Idealize.ShloMosaic.TcCoe Idealize.SL.Sem
open Cert.Kernel3Ideal Cert.Kernel3Ideal.Gen
open Cert.Ffn (row row_lt own)
variable (m : (ℓ : Loc nD τ sig) → Buf (Elt Ideal) ℓ)

/-- The rows, the sequences laid one after another. -/
def rowsK (x : S16x2304x2048.Idx → EReal) : S36864x2048.Idx → EReal :=
  shapeCast S36864x2048 x shapeCasts_S16x2304x2048_S36864x2048

/-- The table: the modulation rows, then rows of zeros. -/
def tableK (t : S17x6x2048.Idx → EReal) : S144x2048.Idx → EReal :=
  shapeCast S144x2048 (concatenate S24x6x2048 0 [⟨S17x6x2048, t⟩,
    ⟨S7x6x2048, broadcastInDim S7x6x2048 ![] bcast_S_S7x6x2048 (constant (F := Ideal) S_ .f32 0x00000000#32)⟩]
    concatenates_S17x6x2048_S7x6x2048_S24x6x2048_d0) shapeCasts_S24x6x2048_S144x2048

/-- One element of a row. -/
theorem rowsK_at (x : S16x2304x2048.Idx → EReal) (b : Fin 16) (r : Fin 2304) (d : Fin 2048) (R : Fin 36864)
    (hR : R.val = b.val * 2304 + r.val) : rowsK x (ix2 R d) = x (ix3 b r d) := by
  have lt : b.val * 2304 + r.val < 36864 := by omega
  rw [show R = ⟨b.val * 2304 + r.val, lt⟩ from Fin.ext hR]
  pointwise [rowsK]

/-- A row of the table is a modulation row. -/
theorem tableK_at (t : S17x6x2048.Idx → EReal) (b : Fin 17) (k : Fin 6) (d : Fin 2048) (n : Fin 144)
    (hn : n.val = b.val * 6 + k.val) : tableK t (ix2 n d) = t (ix3 b k d) := by
  have lt : b.val * 6 + k.val < 144 := by omega
  rw [show n = ⟨b.val * 6 + k.val, lt⟩ from Fin.ext hn]
  pointwise [tableK]
  rw [dif_pos (by omega)]
  exact congrArg (fun z => t (ix3 z k d)) (Fin.ext (show (b.val * 6 + k.val) / 6 = b.val by omega))

/-- The hidden rows, rounded. -/
def hiddenK (a : S36864x5632.Idx → EReal) : S36864x5632.Idx → EReal :=
  truncf (F := Ideal) (φ := .f32) .bf16 a bitsLt_bf16_f32

/-- The weight, rounded. -/
def narrowK (w : S5632x2048.Idx → EReal) : S5632x2048.Idx → EReal :=
  truncf (F := Ideal) (φ := .f32) .bf16 w bitsLt_bf16_f32

/-- The hidden rows the region reads. -/
theorem V_a (c : Dev nD) : V m c main_v3 = hiddenK (m ((c.tc : Thread nD τ).loc main_arg0) : S36864x5632.Idx → EReal) := by
  simp only [V, StableHlo.after_cons, StableHlo.after_nil]
  after_results_simp
  rfl

/-- The weight the region reads. -/
theorem V_w (c : Dev nD) : V m c main_v4 = narrowK (m ((c.tc : Thread nD τ).loc main_arg1) : S5632x2048.Idx → EReal) := by
  simp only [V, StableHlo.after_cons, StableHlo.after_nil]
  after_results_simp
  rfl

/-- The residual rows the region reads. -/
theorem V_x (c : Dev nD) : V m c main_v5 = rowsK (m ((c.tc : Thread nD τ).loc main_arg2) : S16x2304x2048.Idx → EReal) := by
  simp only [V, StableHlo.after_cons, StableHlo.after_nil]
  after_results_simp
  rfl

/-- The table the region reads. -/
theorem V_t (c : Dev nD) : V m c main_v2 = tableK (m ((c.tc : Thread nD τ).loc main_arg3) : S17x6x2048.Idx → EReal) := by
  simp only [V, StableHlo.after_cons, StableHlo.after_nil]
  after_results_simp
  rfl

/-- The kernel's product is the reference's result. -/
theorem product_eq_whole (a : S36864x5632.Idx → EReal) (w : S5632x2048.Idx → EReal) (x : S16x2304x2048.Idx → EReal) (t : S17x6x2048.Idx → EReal) :
    product (hiddenK a) (narrowK w) (rowsK x) (tableK t) = wholeR a w x t := by
  funext i
  obtain ⟨R, e, rfl⟩ : ∃ (R : Fin 36864) (e : Fin 2048), i = ix2 R e := ⟨i 0, i 1, eq_ix2 i⟩
  have hR : R.val = (⟨R.val / 2304, by omega⟩ : Fin 16).val * 2304 + (⟨R.val % 2304, by omega⟩ : Fin 2304).val := by
    dsimp only []; omega
  generalize (⟨R.val / 2304, by omega⟩ : Fin 16) = b at hR
  generalize (⟨R.val % 2304, by omega⟩ : Fin 2304) = r at hR
  have hrow : row (R.val / 256) = (own b r).val := by
    unfold row own
    have h1 : R.val / 256 / 9 = b.val := by omega
    by_cases h : r.val < 256
    · rw [if_pos h, if_pos (by omega)]; rfl
    · rw [if_neg h, if_neg (by omega)]; exact h1
  rw [wholeR_at a w x t b r e R hR]
  show rowsK x (ix2 R e) + tableK t (ix2 ⟨row (R.val / 256) * 6 + 5, _⟩ e) * ∑ d : Fin 5632, a (ix2 R d) * w (ix2 d e) = _
  rw [rowsK_at x b r e R hR, tableK_at t (own b r) 5 e _ (by rw [← hrow]; rfl)]

end Cert.Down

end
-- ==== Proof.OutRows.lean ====
/- The stores of the attention part's gated output product, read at an index: the residual plus the gate times a row of the product. -/
module

public import proofs.«01_k».proof.Proof.Gen.Kernel4Ideal.Skeleton
public import Idealize.ShloMosaic.Lib.Pointwise
public import Idealize.ShloMosaic.Lib.Claim

@[expose] public section

set_option maxRecDepth 16384

noncomputable section

namespace Cert.Out

open Idealize.ShloMosaic Idealize.ShloMosaic.TcCoe Idealize.SL.Sem
open Cert.Kernel4Ideal Cert.Kernel4Ideal.Gen

/-- The four heads' groups side by side: the group of a column, and the column in it. -/
def beside {n : ℕ} (a b c d : Fin n → Fin 512 → EReal) (r : Fin n) (j : Fin 2048) : EReal :=
  if h : j.val < 512 then a r ⟨j.val, h⟩ else if h : j.val - 512 < 512 then b r ⟨j.val - 512, h⟩
  else if h : j.val - 512 - 512 < 512 then c r ⟨j.val - 512 - 512, h⟩ else d r ⟨j.val - 512 - 512 - 512, by omega⟩

/-- One element of the product of the four groups' row blocks with a column block of the weight. -/
theorem acc_at (a b c d : Vec Ideal S1024x512 .bf16) (w : Vec Ideal S2048x1024 .bf16) (r : Fin 1024) (e : Fin 1024) :
    k0_pay2 a b c d w (ix2 r e) = ∑ j : Fin 2048, beside (fun r j => a (ix2 r j)) (fun r j => b (ix2 r j)) (fun r j => c (ix2 r j)) (fun r j => d (ix2 r j)) r j * w (ix2 j e) := by
  pointwise [k0_pay2]
  rfl

/-- The store of the first 256 rows. -/
theorem chunk0 (y : FVec Ideal S1024x1024 .f32) (g : Vec Ideal S1x1024 .f32) (x : Vec Ideal S256x1024 .f32) (r : Fin 256) (e : Fin 1024)
    (R : Fin 1024) (hR : R.val = r.val) : k0_pay3 y g x (ix2 r e) = x (ix2 r e) + g (ix2 0 e) * y (ix2 R e) := by
  rw [show R = ⟨r.val, by omega⟩ from Fin.ext hR]
  pointwise [k0_pay3]

/-- The store of the second 256 rows. -/
theorem chunk1 (y : FVec Ideal S1024x1024 .f32) (g : Vec Ideal S1x1024 .f32) (x : Vec Ideal S256x1024 .f32) (r : Fin 256) (e : Fin 1024)
    (R : Fin 1024) (hR : R.val = 256 + r.val) : k0_pay4 y g x (ix2 r e) = x (ix2 r e) + g (ix2 0 e) * y (ix2 R e) := by
  have lt : 256 + r.val < 1024 := by omega
  rw [show R = ⟨256 + r.val, lt⟩ from Fin.ext hR]
  pointwise [k0_pay4]

/-- The store of the third 256 rows. -/
theorem chunk2 (y : FVec Ideal S1024x1024 .f32) (g : Vec Ideal S1x1024 .f32) (x : Vec Ideal S256x1024 .f32) (r : Fin 256) (e : Fin 1024)
    (R : Fin 1024) (hR : R.val = 512 + r.val) : k0_pay5 y g x (ix2 r e) = x (ix2 r e) + g (ix2 0 e) * y (ix2 R e) := by
  have lt : 512 + r.val < 1024 := by omega
  rw [show R = ⟨512 + r.val, lt⟩ from Fin.ext hR]
  pointwise [k0_pay5]

/-- The store of the fourth 256 rows. -/
theorem chunk3 (y : FVec Ideal S1024x1024 .f32) (g : Vec Ideal S1x1024 .f32) (x : Vec Ideal S256x1024 .f32) (r : Fin 256) (e : Fin 1024)
    (R : Fin 1024) (hR : R.val = 768 + r.val) : k0_pay1 y g x (ix2 r e) = x (ix2 r e) + g (ix2 0 e) * y (ix2 R e) := by
  have lt : 768 + r.val < 1024 := by omega
  rw [show R = ⟨768 + r.val, lt⟩ from Fin.ext hR]
  pointwise [k0_pay1]

end Cert.Out

end
-- ==== Proof.OutArray.lean ====
/- The blocks that the attention part's gated output product reads, at an index of their arrays, and its whole result. -/
module

public import proofs.«01_k».proof.Proof.Gen.Kernel4Ideal.Value
public import proofs.«01_k».proof.Proof.OutRows
public import proofs.«01_k».proof.Proof.FfnArray
public import Idealize.ShloMosaic.Lib.Pipeline.ValueKit

@[expose] public section

set_option maxRecDepth 16384

noncomputable section

namespace Cert.Out

open Idealize.ShloMosaic Idealize.ShloMosaic.TcCoe Idealize.SL.Sem
open Cert.Kernel4Ideal Cert.Kernel4Ideal.Gen
open Cert.Ffn (row row_lt)

/-- The block indices of the windows at a grid point. -/
theorem idx : ∀ t : Fin grid0.N,
    win0_0.index t = ![t.val / 2, 0]
    ∧ win0_1.index t = ![t.val / 2, 0]
    ∧ win0_2.index t = ![t.val / 2, 0]
    ∧ win0_3.index t = ![t.val / 2, 0]
    ∧ win0_4.index t = ![0, t.val % 2]
    ∧ win0_5.index t = ![t.val / 2, t.val % 2]
    ∧ win0_6.index t = ![0, 0]
    ∧ win0_7.index t = ![t.val / 2, t.val % 2] := by decide +kernel

/-- The gate's place in the table, for each of the four blocks of 256 tokens. -/
theorem off1 : ∀ t : Fin grid0.N,
    k0_off1 (grid0.coords t) 0#32 = ![row (t.val / 2 * 4) * 6 + 2, t.val % 2 * 1024]
    ∧ k0_off1 (grid0.coords t) 1#32 = ![row (t.val / 2 * 4 + 1) * 6 + 2, t.val % 2 * 1024]
    ∧ k0_off1 (grid0.coords t) 2#32 = ![row (t.val / 2 * 4 + 2) * 6 + 2, t.val % 2 * 1024]
    ∧ k0_off1 (grid0.coords t) 3#32 = ![row (t.val / 2 * 4 + 3) * 6 + 2, t.val % 2 * 1024] := by decide +kernel

/-- The call's whole result. -/
def product (A B C D : S36864x512.Idx → EReal) (W : S2048x2048.Idx → EReal) (X : S36864x2048.Idx → EReal) (T : S144x2048.Idx → EReal) :
    S36864x2048.Idx → EReal := fun i =>
  X (ix2 (i 0) (i 1)) + T (ix2 ⟨row ((i 0).val / 256) * 6 + 2, by have := row_lt (i 0); omega⟩ (i 1))
    * ∑ j : Fin 2048, beside (fun r j => A (ix2 r j)) (fun r j => B (ix2 r j)) (fun r j => C (ix2 r j)) (fun r j => D (ix2 r j)) (i 0) j * W (ix2 j (i 1))

/-- Window 0's block at a point, read in the array it is a block of. -/
theorem read0_at (c : Dev nD) (t : Fin grid0.N) (X : Buf (Elt Ideal) ((c.tc : Thread nD τ).loc main_v4))
    (r : Fin 1024) (e : Fin 512) (R : Fin 36864) (hR : R.val = t.val / 2 * 1024 + r.val) :
    ((cfg0.win 0).blk t).view.read (Elt Ideal) X (ix2 r e) = X (ix2 R e) := by
  obtain ⟨e', -⟩ := idx t
  blk_ext [e']

/-- Window 1's block at a point, read in the array it is a block of. -/
theorem read1_at (c : Dev nD) (t : Fin grid0.N) (X : Buf (Elt Ideal) ((c.tc : Thread nD τ).loc main_v6))
    (r : Fin 1024) (e : Fin 512) (R : Fin 36864) (hR : R.val = t.val / 2 * 1024 + r.val) :
    ((cfg0.win 1).blk t).view.read (Elt Ideal) X (ix2 r e) = X (ix2 R e) := by
  obtain ⟨-, e', -⟩ := idx t
  blk_ext [e']

/-- Window 2's block at a point, read in the array it is a block of. -/
theorem read2_at (c : Dev nD) (t : Fin grid0.N) (X : Buf (Elt Ideal) ((c.tc : Thread nD τ).loc main_v8))
    (r : Fin 1024) (e : Fin 512) (R : Fin 36864) (hR : R.val = t.val / 2 * 1024 + r.val) :
    ((cfg0.win 2).blk t).view.read (Elt Ideal) X (ix2 r e) = X (ix2 R e) := by
  obtain ⟨-, -, e', -⟩ := idx t
  blk_ext [e']

/-- Window 3's block at a point, read in the array it is a block of. -/
theorem read3_at (c : Dev nD) (t : Fin grid0.N) (X : Buf (Elt Ideal) ((c.tc : Thread nD τ).loc main_v10))
    (r : Fin 1024) (e : Fin 512) (R : Fin 36864) (hR : R.val = t.val / 2 * 1024 + r.val) :
    ((cfg0.win 3).blk t).view.read (Elt Ideal) X (ix2 r e) = X (ix2 R e) := by
  obtain ⟨-, -, -, e', -⟩ := idx t
  blk_ext [e']

/-- Window 4's block at a point, read in the array it is a block of. -/
theorem read4_at (c : Dev nD) (t : Fin grid0.N) (X : Buf (Elt Ideal) ((c.tc : Thread nD τ).loc main_v11))
    (r : Fin 2048) (e : Fin 1024) (E : Fin 2048) (hE : E.val = t.val % 2 * 1024 + e.val) :
    ((cfg0.win 4).blk t).view.read (Elt Ideal) X (ix2 r e) = X (ix2 r E) := by
  obtain ⟨-, -, -, -, e', -⟩ := idx t
  blk_ext [e']

/-- Window 5's block at a point, read in the array it is a block of. -/
theorem read5_at (c : Dev nD) (t : Fin grid0.N) (X : Buf (Elt Ideal) ((c.tc : Thread nD τ).loc main_v12))
    (r : Fin 1024) (e : Fin 1024) (R : Fin 36864) (hR : R.val = t.val / 2 * 1024 + r.val) (E : Fin 2048) (hE : E.val = t.val % 2 * 1024 + e.val) :
    ((cfg0.win 5).blk t).view.read (Elt Ideal) X (ix2 r e) = X (ix2 R E) := by
  obtain ⟨-, -, -, -, -, e', -⟩ := idx t
  blk_ext [e']

/-- Window 6's block at a point, read in the array it is a block of. -/
theorem read6_at (c : Dev nD) (t : Fin grid0.N) (X : Buf (Elt Ideal) ((c.tc : Thread nD τ).loc main_v2))
    (r : Fin 144) (e : Fin 2048) :
    ((cfg0.win 6).blk t).view.read (Elt Ideal) X (ix2 r e) = X (ix2 r e) := by
  obtain ⟨-, -, -, -, -, -, e', -⟩ := idx t
  blk_ext [e']

/-- A piece of a row of the table read at an offset. -/
theorem ld_row (T : S144x2048.Idx → EReal) (off : Fin 2 → ℕ) (inb : ∀ a, off a + S1x1024.size a ≤ S144x2048.size a) (n : Fin 144) (k : ℕ)
    (e : off = ![n.val, k]) (z : Fin 1) (d : Fin 1024) (E : Fin 2048) (hE : E.val = k + d.val) :
    View.ld (Val := Elt Ideal) (e' := .f32) T (Rect.unit (s := S144x2048) off S1x1024.size inb) (ix2 z d) = T (ix2 n E) := by
  subst e
  have lt : k + d.val < 2048 := by omega
  rw [show E = ⟨k + d.val, lt⟩ from Fin.ext hE]
  pointwise

end Cert.Out

end
-- ==== Proof.OutResult.lean ====
/- The attention part's gated output product: its result array after the run is `product` of the arrays its region reads. -/
module

public import proofs.«01_k».proof.Proof.OutArray

@[expose] public section

set_option maxRecDepth 16384

noncomputable section

namespace Cert.Out

open Idealize.ShloMosaic Idealize.ShloMosaic.TcCoe Idealize.SL.Sem
open Cert.Kernel4Ideal Cert.Kernel4Ideal.Gen
open Cert.Ffn (row row_lt)

variable (m : (ℓ : Loc nD τ sig) → Buf (Elt Ideal) ℓ)

/-- A stored element, of the blocks read, is an element of the whole result. -/
theorem chunk_eq (A B C D : S36864x512.Idx → EReal) (W : S2048x2048.Idx → EReal) (X : S36864x2048.Idx → EReal) (T : S144x2048.Idx → EReal) (i0 : Fin 36864) (i1 : Fin 2048) (b : ℕ) (hb : i0.val / 256 = b) (x g y : EReal)
    (hx : x = X (ix2 i0 i1)) (hg : ∀ (n : Fin 144) (_ : n.val = row b * 6 + 2), g = T (ix2 n i1)) (hy : y = ∑ j : Fin 2048, beside (fun r j => A (ix2 r j)) (fun r j => B (ix2 r j)) (fun r j => C (ix2 r j)) (fun r j => D (ix2 r j)) i0 j * W (ix2 j i1)) :
    x + g * y = product A B C D W X T (ix2 i0 i1) := by
  subst hb
  rw [hx, hy, hg ⟨row (i0.val / 256) * 6 + 2, by have := row_lt i0; omega⟩ rfl]
  rfl

/-- The block that a point leaves, at an index. -/
theorem out_at (c : Dev nD) (t : Fin grid0.N) (r : Fin 1024) (e : Fin 1024) (i0 : Fin 36864) (i1 : Fin 2048)
    (h0 : i0.val = t.val / 2 * 1024 + r.val) (h1 : i1.val = t.val % 2 * 1024 + e.val) :
    outsAt0 m c t (ix2 r e) = product (V m c main_v4) (V m c main_v6) (V m c main_v8) (V m c main_v10) (V m c main_v11) (V m c main_v12) (V m c main_v2) (ix2 i0 i1) := by
  have ht : t.val < 72 := t.isLt
  have b0 := read0_at c t (V m c main_v4)
  have b1 := read1_at c t (V m c main_v6)
  have b2 := read2_at c t (V m c main_v8)
  have b3 := read3_at c t (V m c main_v10)
  have b4 := read4_at c t (V m c main_v11)
  have b5 := read5_at c t (V m c main_v12)
  have b6 := read6_at c t (V m c main_v2)
  obtain ⟨o0, o1, o2, o3⟩ := off1 t
  unfold outsAt0
  frame_out
  change ∀ r e R, _ → iblk m c 0 t (ix2 r e) = _ at b0
  change ∀ r e R, _ → iblk m c 1 t (ix2 r e) = _ at b1
  change ∀ r e R, _ → iblk m c 2 t (ix2 r e) = _ at b2
  change ∀ r e R, _ → iblk m c 3 t (ix2 r e) = _ at b3
  change ∀ r e E, _ → iblk m c 4 t (ix2 r e) = _ at b4
  change ∀ r e R, _ → ∀ E, _ → iblk m c 5 t (ix2 r e) = _ at b5
  change ∀ r e, iblk m c 6 t (ix2 r e) = _ at b6
  generalize iblk m c 0 t = a at b0 ⊢
  generalize iblk m c 1 t = b at b1 ⊢
  generalize iblk m c 2 t = c' at b2 ⊢
  generalize iblk m c 3 t = d at b3 ⊢
  generalize iblk m c 4 t = w at b4 ⊢
  generalize iblk m c 5 t = q at b5 ⊢
  generalize iblk m c 6 t = tq at b6 ⊢
  generalize V m c main_v4 = A at b0 ⊢
  generalize V m c main_v6 = B at b1 ⊢
  generalize V m c main_v8 = C at b2 ⊢
  generalize V m c main_v10 = D at b3 ⊢
  generalize V m c main_v11 = W at b4 ⊢
  generalize V m c main_v12 = X at b5 ⊢
  generalize V m c main_v2 = T at b6 ⊢
  have hacc : ∀ (R : Fin 1024) (_ : R.val = r.val), k0_pay2 a b c' d w (ix2 R e) = ∑ j : Fin 2048, beside (fun r j => A (ix2 r j)) (fun r j => B (ix2 r j)) (fun r j => C (ix2 r j)) (fun r j => D (ix2 r j)) i0 j * W (ix2 j i1) := fun R hR => by
    rw [acc_at]
    have : R = r := Fin.ext hR
    subst this
    refine Finset.sum_congr rfl fun j _ => ?_
    rw [b4 j e i1 h1]
    unfold beside
    simp only [b0 R _ i0 h0, b1 R _ i0 h0, b2 R _ i0 h0, b3 R _ i0 h0]
  generalize k0_pay2 a b c' d w = Y at hacc ⊢
  generalize hy : (ix2 r e : S1024x1024.Idx) = y
  have y0 : (y 0).val = r.val := by subst hy; rfl
  have y1 : y 1 = e := by subst hy; rfl
  clear hy
  canon_tiles x hx
  all_goals idx_vars x
  · have e' : e = x1 := y1.symm.trans (Fin.ext hx1)
    subst e'
    refine (chunk3 _ _ _ x0 e r (by omega)).trans (chunk_eq A B C D W X T i0 i1 (t.val / 2 * 4 + 3) (by omega) _ _ _ ?_ (fun n hn => ?_) (hacc r rfl))
    · pointwise
      refine b5 _ _ _ ?_ _ ?_
      · dsimp only []
        omega
      · omega
    · refine (ld_row tq _ _ n (t.val % 2 * 1024) ?_ 0 e i1 h1).trans (b6 n i1)
      rw [hn]; exact o3
  · have e' : e = x1 := y1.symm.trans (Fin.ext hx1)
    subst e'
    refine (chunk2 _ _ _ x0 e r (by omega)).trans (chunk_eq A B C D W X T i0 i1 (t.val / 2 * 4 + 2) (by omega) _ _ _ ?_ (fun n hn => ?_) (hacc r rfl))
    · pointwise
      refine b5 _ _ _ ?_ _ ?_
      · dsimp only []
        omega
      · omega
    · refine (ld_row tq _ _ n (t.val % 2 * 1024) ?_ 0 e i1 h1).trans (b6 n i1)
      rw [hn]; exact o2
  · have e' : e = x1 := y1.symm.trans (Fin.ext hx1)
    subst e'
    refine (chunk1 _ _ _ x0 e r (by omega)).trans (chunk_eq A B C D W X T i0 i1 (t.val / 2 * 4 + 1) (by omega) _ _ _ ?_ (fun n hn => ?_) (hacc r rfl))
    · pointwise
      refine b5 _ _ _ ?_ _ ?_
      · dsimp only []
        omega
      · omega
    · refine (ld_row tq _ _ n (t.val % 2 * 1024) ?_ 0 e i1 h1).trans (b6 n i1)
      rw [hn]; exact o1
  · have e' : e = x1 := y1.symm.trans (Fin.ext hx1)
    subst e'
    refine (chunk0 _ _ _ x0 e r (by omega)).trans (chunk_eq A B C D W X T i0 i1 (t.val / 2 * 4) (by omega) _ _ _ ?_ (fun n hn => ?_) (hacc r rfl))
    · pointwise
      refine b5 _ _ _ ?_ _ ?_
      · dsimp only []
        omega
      · omega
    · refine (ld_row tq _ _ n (t.val % 2 * 1024) ?_ 0 e i1 h1).trans (b6 n i1)
      rw [hn]; exact o0

/-- The call's result array after the run is `product` of the arrays its region reads. -/
theorem arr_eq (c : Dev nD) :
    (dats m 0 c).arrAt 7 (cfgs 0).N = product (V m c main_v4) (V m c main_v6) (V m c main_v8) (V m c main_v10) (V m c main_v11) (V m c main_v12) (V m c main_v2) := by
  refine (dats m 0 c).arrAt_eq_of_covers 7 _ (by decide +kernel) fun t hf y => ?_
  obtain ⟨-, -, -, -, -, -, -, e'⟩ := idx t
  have f0 : (((((cfgs 0).win 7).blk t).view.emb y) 0 : ℕ) = t.val / 2 * 1024 + (y 0).val := by blk_simp [e']
  have f1 : (((((cfgs 0).win 7).blk t).view.emb y) 1 : ℕ) = t.val % 2 * 1024 + (y 1).val := by blk_simp [e']
  blk_simp
  rw [after0_7]
  generalize (((cfgs 0).win 7).blk t).view.emb y = i at f0 f1 ⊢
  obtain ⟨y0, y1, rfl⟩ : ∃ (y0 : Fin 1024) (y1 : Fin 1024), y = ix2 y0 y1 := ⟨y 0, y 1, eq_ix2 y⟩
  obtain ⟨i0, i1, rfl⟩ : ∃ (i0 : Fin 36864) (i1 : Fin 2048), i = ix2 i0 i1 := ⟨i 0, i 1, eq_ix2 i⟩
  exact out_at m c t y0 y1 i0 i1 f0 f1

end Cert.Out

end
-- ==== Proof.OutRef.lean ====
/- The output projection's reference, at an index. -/
module

public import proofs.«01_k».proof.Proof.Gen.Reference4Ideal.Run
public import proofs.«01_k».proof.Proof.FfnRef
public import proofs.«01_k».proof.Proof.OutRows
public import Idealize.ShloMosaic.Lib.Pointwise

@[expose] public section

set_option maxRecDepth 16384

noncomputable section

namespace Cert.Out

open Idealize.ShloMosaic Idealize.ShloMosaic.TcCoe Idealize.SL.Sem
open scoped BigOperators
open Cert.Reference4Ideal Cert.Reference4Ideal.Gen
open Cert.Ffn (own)
/-- Each token's gate: the shared one for the first 256 tokens, its sequence's for the others. -/
def gateR (t : S17x6x2048.Idx → EReal) : S16x2304x2048.Idx → EReal :=
  concatenate S16x2304x2048 1 [⟨S16x256x2048, (broadcastInDim S16x256x2048 ![2] bcast_S2048_S16x256x2048_2 (shapeCast S2048 (extractStridedSlice S1x1x2048 ![16, 2, 0] t slices_S17x6x2048_S1x1x2048_16_2_0) shapeCasts_S1x1x2048_S2048))⟩, ⟨S16x2048x2048, (broadcastInDim S16x2048x2048 ![0, 1, 2] bcast_S16x1x2048_S16x2048x2048_0_1_2 (broadcastInDim S16x1x2048 ![0, 2] bcast_S16x2048_S16x1x2048_0_2 (shapeCast S16x2048 (extractStridedSlice S16x1x2048 ![0, 2, 0] t slices_S17x6x2048_S16x1x2048_0_2_0) shapeCasts_S16x1x2048_S16x2048)))⟩] concatenates_S16x256x2048_S16x2048x2048_S16x2304x2048_d1

set_option maxHeartbeats 1000000 in
/-- A token's gate is its row of the table. -/
theorem gateR_at (t : S17x6x2048.Idx → EReal) (b : Fin 16) (r : Fin 2304) (d : Fin 2048) :
    gateR t (ix3 b r d) = t (ix3 (own b r) 2 d) := by
  unfold own
  by_cases h : r.val < 256
  · rw [if_pos h]
    pointwise [gateR]
    rw [dif_pos (by omega)]
  · rw [if_neg h]
    pointwise [gateR]
    rw [dif_neg (by omega)]

/-- The four groups side by side. -/
def sideR (a b c d : S16x2304x512.Idx → EReal) : S16x2304x2048.Idx → EReal :=
  concatenate S16x2304x2048 2 [⟨S16x2304x512, a⟩, ⟨S16x2304x512, b⟩, ⟨S16x2304x512, c⟩, ⟨S16x2304x512, d⟩] concatenates_S16x2304x512_S16x2304x512_S16x2304x512_S16x2304x512_S16x2304x2048_d2

set_option maxHeartbeats 1000000 in
/-- One element of that. -/
theorem sideR_at (a b c d : S16x2304x512.Idx → EReal) (i : Fin 16) (r : Fin 2304) (j : Fin 2048) :
    sideR a b c d (ix3 i r j) = beside (fun r j => a (ix3 i r j)) (fun r j => b (ix3 i r j)) (fun r j => c (ix3 i r j)) (fun r j => d (ix3 i r j)) r j := by
  pointwise [sideR]
  rfl

/-- The product of the rows with the weight. -/
def dotR (a : S16x2304x2048.Idx → EReal) (w : S2048x2048.Idx → EReal) : S16x2304x2048.Idx → EReal :=
  Host.dotGeneral (F := Ideal) dot_S16x2304x2048_S2048x2048_S16x2304x2048_2_0_01_1_n_n none (φ₁ := .f32) (φ₂ := .f32) a w

/-- One element of the product. -/
theorem dotR_at (a : S16x2304x2048.Idx → EReal) (w : S2048x2048.Idx → EReal) (b : Fin 16) (r : Fin 2304) (e : Fin 2048) :
    dotR a w (ix3 b r e) = ∑ d : Fin 2048, a (ix3 b r d) * w (ix2 d e) := by
  pointwise [dotR]

/-- The residual added to the gated product, the sequences laid one after another. -/
def joinR (x g p : S16x2304x2048.Idx → EReal) : S36864x2048.Idx → EReal :=
  shapeCast S36864x2048 (addf (F := Ideal) (φ := .f32) x (mulf (F := Ideal) (φ := .f32) g p)) shapeCasts_S16x2304x2048_S36864x2048

/-- One element of that. -/
theorem joinR_at (x g p : S16x2304x2048.Idx → EReal) (b : Fin 16) (r : Fin 2304) (e : Fin 2048) (R : Fin 36864)
    (hR : R.val = b.val * 2304 + r.val) : joinR x g p (ix2 R e) = x (ix3 b r e) + g (ix3 b r e) * p (ix3 b r e) := by
  have lt : b.val * 2304 + r.val < 36864 := by omega
  rw [show R = ⟨b.val * 2304 + r.val, lt⟩ from Fin.ext hR]
  pointwise [joinR]

/-- The reference's result, of its arguments. -/
def wholeR (a b c d : S16x2304x512.Idx → EReal) (w : S2048x2048.Idx → EReal) (x : S16x2304x2048.Idx → EReal) (t : S17x6x2048.Idx → EReal) :
    S36864x2048.Idx → EReal := joinR x (gateR t) (dotR (sideR a b c d) w)

/-- One element of it. -/
theorem wholeR_at (a b c d : S16x2304x512.Idx → EReal) (w : S2048x2048.Idx → EReal) (x : S16x2304x2048.Idx → EReal) (t : S17x6x2048.Idx → EReal)
    (i : Fin 16) (r : Fin 2304) (e : Fin 2048) (R : Fin 36864) (hR : R.val = i.val * 2304 + r.val) :
    wholeR a b c d w x t (ix2 R e) = x (ix3 i r e) + t (ix3 (own i r) 2 e) * ∑ j : Fin 2048,
      beside (fun r j => a (ix3 i r j)) (fun r j => b (ix3 i r j)) (fun r j => c (ix3 i r j)) (fun r j => d (ix3 i r j)) r j * w (ix2 j e) := by
  unfold wholeR
  rw [joinR_at _ _ _ i r e R hR, gateR_at, dotR_at]
  simp only [sideR_at]

end Cert.Out

end
-- ==== Proof.OutHost.lean ====
/- The arrays that the output projection reads, of its arguments, and the two programs' results. -/
module

public import proofs.«01_k».proof.Proof.OutResult
public import proofs.«01_k».proof.Proof.OutRef

@[expose] public section

set_option maxRecDepth 16384

noncomputable section

namespace Cert.Out

open Idealize.ShloMosaic Idealize.ShloMosaic.TcCoe Idealize.SL.Sem
open Cert.Kernel4Ideal Cert.Kernel4Ideal.Gen
open Cert.Ffn (row row_lt own)
variable (m : (ℓ : Loc nD τ sig) → Buf (Elt Ideal) ℓ)

/-- The rows, the sequences laid one after another. -/
def rowsK (x : S16x2304x2048.Idx → EReal) : S36864x2048.Idx → EReal :=
  shapeCast S36864x2048 x shapeCasts_S16x2304x2048_S36864x2048

/-- The table: the modulation rows, then rows of zeros. -/
def tableK (t : S17x6x2048.Idx → EReal) : S144x2048.Idx → EReal :=
  shapeCast S144x2048 (concatenate S24x6x2048 0 [⟨S17x6x2048, t⟩,
    ⟨S7x6x2048, broadcastInDim S7x6x2048 ![] bcast_S_S7x6x2048 (constant (F := Ideal) S_ .f32 0x00000000#32)⟩]
    concatenates_S17x6x2048_S7x6x2048_S24x6x2048_d0) shapeCasts_S24x6x2048_S144x2048

/-- One element of a row. -/
theorem rowsK_at (x : S16x2304x2048.Idx → EReal) (b : Fin 16) (r : Fin 2304) (d : Fin 2048) (R : Fin 36864)
    (hR : R.val = b.val * 2304 + r.val) : rowsK x (ix2 R d) = x (ix3 b r d) := by
  have lt : b.val * 2304 + r.val < 36864 := by omega
  rw [show R = ⟨b.val * 2304 + r.val, lt⟩ from Fin.ext hR]
  pointwise [rowsK]

/-- A row of the table is a modulation row. -/
theorem tableK_at (t : S17x6x2048.Idx → EReal) (b : Fin 17) (k : Fin 6) (d : Fin 2048) (n : Fin 144)
    (hn : n.val = b.val * 6 + k.val) : tableK t (ix2 n d) = t (ix3 b k d) := by
  have lt : b.val * 6 + k.val < 144 := by omega
  rw [show n = ⟨b.val * 6 + k.val, lt⟩ from Fin.ext hn]
  pointwise [tableK]
  rw [dif_pos (by omega)]
  exact congrArg (fun z => t (ix3 z k d)) (Fin.ext (show (b.val * 6 + k.val) / 6 = b.val by omega))

/-- A group's rows, the sequences laid one after another, rounded. -/
def groupK (a : S16x2304x512.Idx → EReal) : S36864x512.Idx → EReal :=
  truncf (F := Ideal) (φ := .f32) .bf16 (shapeCast S36864x512 a shapeCasts_S16x2304x512_S36864x512) bitsLt_bf16_f32

/-- The weight, rounded. -/
def narrowK (w : S2048x2048.Idx → EReal) : S2048x2048.Idx → EReal :=
  truncf (F := Ideal) (φ := .f32) .bf16 w bitsLt_bf16_f32

/-- One element of a group's row. -/
theorem groupK_at (a : S16x2304x512.Idx → EReal) (b : Fin 16) (r : Fin 2304) (d : Fin 512) (R : Fin 36864)
    (hR : R.val = b.val * 2304 + r.val) : groupK a (ix2 R d) = a (ix3 b r d) := by
  have lt : b.val * 2304 + r.val < 36864 := by omega
  rw [show R = ⟨b.val * 2304 + r.val, lt⟩ from Fin.ext hR]
  pointwise [groupK]

/-- The first group's rows that the region reads. -/
theorem V_a (c : Dev nD) : V m c main_v4 = groupK (m ((c.tc : Thread nD τ).loc main_arg0) : S16x2304x512.Idx → EReal) := by
  simp only [V, StableHlo.after_cons, StableHlo.after_nil]
  after_results_simp
  rfl

/-- The second group's rows that the region reads. -/
theorem V_b (c : Dev nD) : V m c main_v6 = groupK (m ((c.tc : Thread nD τ).loc main_arg1) : S16x2304x512.Idx → EReal) := by
  simp only [V, StableHlo.after_cons, StableHlo.after_nil]
  after_results_simp
  rfl

/-- The third group's rows that the region reads. -/
theorem V_c (c : Dev nD) : V m c main_v8 = groupK (m ((c.tc : Thread nD τ).loc main_arg2) : S16x2304x512.Idx → EReal) := by
  simp only [V, StableHlo.after_cons, StableHlo.after_nil]
  after_results_simp
  rfl

/-- The fourth group's rows that the region reads. -/
theorem V_d (c : Dev nD) : V m c main_v10 = groupK (m ((c.tc : Thread nD τ).loc main_arg3) : S16x2304x512.Idx → EReal) := by
  simp only [V, StableHlo.after_cons, StableHlo.after_nil]
  after_results_simp
  rfl

/-- The weight the region reads. -/
theorem V_w (c : Dev nD) : V m c main_v11 = narrowK (m ((c.tc : Thread nD τ).loc main_arg4) : S2048x2048.Idx → EReal) := by
  simp only [V, StableHlo.after_cons, StableHlo.after_nil]
  after_results_simp
  rfl

/-- The residual rows the region reads. -/
theorem V_x (c : Dev nD) : V m c main_v12 = rowsK (m ((c.tc : Thread nD τ).loc main_arg5) : S16x2304x2048.Idx → EReal) := by
  simp only [V, StableHlo.after_cons, StableHlo.after_nil]
  after_results_simp
  rfl

/-- The table the region reads. -/
theorem V_t (c : Dev nD) : V m c main_v2 = tableK (m ((c.tc : Thread nD τ).loc main_arg6) : S17x6x2048.Idx → EReal) := by
  simp only [V, StableHlo.after_cons, StableHlo.after_nil]
  after_results_simp
  rfl

/-- The kernel's product is the reference's result. -/
theorem product_eq_whole (a b c d : S16x2304x512.Idx → EReal) (w : S2048x2048.Idx → EReal) (x : S16x2304x2048.Idx → EReal) (t : S17x6x2048.Idx → EReal) :
    product (groupK a) (groupK b) (groupK c) (groupK d) (narrowK w) (rowsK x) (tableK t) = wholeR a b c d w x t := by
  funext i
  obtain ⟨R, e, rfl⟩ : ∃ (R : Fin 36864) (e : Fin 2048), i = ix2 R e := ⟨i 0, i 1, eq_ix2 i⟩
  have hR : R.val = (⟨R.val / 2304, by omega⟩ : Fin 16).val * 2304 + (⟨R.val % 2304, by omega⟩ : Fin 2304).val := by
    dsimp only []; omega
  generalize (⟨R.val / 2304, by omega⟩ : Fin 16) = n at hR
  generalize (⟨R.val % 2304, by omega⟩ : Fin 2304) = r at hR
  have hrow : row (R.val / 256) = (own n r).val := by
    unfold row own
    have h1 : R.val / 256 / 9 = n.val := by omega
    by_cases h : r.val < 256
    · rw [if_pos h, if_pos (by omega)]; rfl
    · rw [if_neg h, if_neg (by omega)]; exact h1
  rw [wholeR_at a b c d w x t n r e R hR]
  show rowsK x (ix2 R e) + tableK t (ix2 ⟨row (R.val / 256) * 6 + 2, _⟩ e) * ∑ j : Fin 2048,
    beside (fun r j => groupK a (ix2 r j)) (fun r j => groupK b (ix2 r j)) (fun r j => groupK c (ix2 r j)) (fun r j => groupK d (ix2 r j)) R j * w (ix2 j e) = _
  rw [rowsK_at x n r e R hR, tableK_at t (own n r) 2 e _ (by rw [← hrow]; rfl)]
  refine congrArg (fun s => x (ix3 n r e) + t (ix3 (own n r) 2 e) * s) (Finset.sum_congr rfl fun j _ => congrArg (· * w (ix2 j e)) ?_)
  unfold beside
  simp only [groupK_at _ n r _ R hR]

end Cert.Out

end
-- ==== Proof.ProjRun.lean ====
/- The input projections' body, run in each of its three cases: the first column block, which also stores the norms and
   the small projection; the second, which stores a gate block; the last three, which store a block of the other part. -/
module

public import proofs.«01_k».proof.Proof.Gen.Kernel5Ideal.Frame
public import proofs.«01_k».proof.Proof.Gen.Kernel5Ideal.Skeleton

@[expose] public section

set_option maxRecDepth 16384

noncomputable section

namespace Cert.Kernel5Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

/-- The assertions' model. -/
abbrev World (F : FTy → Type) := MT nD τ sig Unit (Elt F) ℕ (UR sig nD τ) ℕ

-- The run's proof term is large.
set_option maxHeartbeats 1000000 in
/-- The first column block: the norms, the small projection and the first gate block are stored. -/
noncomputable def runA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S144x2048 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (hc1 : k0_cond1 i = 1#1) (hc2 : k0_cond2 i = 1#1) (hc3 : ¬k0_cond3 i = 1#1)
    (x0 : Vec F S1024x2048 .f32) (x1 : Vec F S1x2048 .f32) (x2 : Vec F S144x2048 .f32) (x3 : Vec F S2048x1024 .bf16) (x4 : Vec F S2048x128 .bf16) :
    Σ' (L5 : List (View.Piece (Elt F) S1024x1024 .f32)), Σ' (L7 : List (View.Piece (Elt F) S1024x128 .f32)), { LS : List (View.Piece (Elt F) S1024x2048 .bf16) //
      ∀ (E : Set ℕ) (K : PUnit → sProp (World F)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10) K } := by
  refine ⟨?_, ?_, ?_, fun E K => ?run⟩
  case run =>
    simp only [cc0_in_proj_eq_skeleton]; unfold cc0_in_proj_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%dH5, %fH5, -, H5⟩, ⟨%dH7, %fH7, -, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H7]; · iexists _; iexact H7
    iexists _; iexact HS

-- The run's proof term is large.
set_option maxHeartbeats 1000000 in
/-- The second column block: a gate block is stored. -/
noncomputable def runB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S144x2048 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (hc1 : ¬k0_cond1 i = 1#1) (hc2 : k0_cond2 i = 1#1) (hc3 : ¬k0_cond3 i = 1#1)
    (x0 : Vec F S1024x2048 .f32) (x1 : Vec F S1x2048 .f32) (x2 : Vec F S144x2048 .f32) (x3 : Vec F S2048x1024 .bf16) (x4 : Vec F S2048x128 .bf16) (xs : Vec F S1024x2048 .bf16) :
    { L5 : List (View.Piece (Elt F) S1024x1024 .f32) //
      ∀ (E : Set ℕ) (K : PUnit → sProp (World F)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg10 fullShare xs) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10) K } := by
  refine ⟨?_, fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%dH5, %fH5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg10.read_unread _
    iexact HS

-- The run's proof term is large.
set_option maxHeartbeats 1000000 in
/-- The last three column blocks: a block of the other part is stored. -/
noncomputable def runC (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S144x2048 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (hc1 : ¬k0_cond1 i = 1#1) (hc2 : ¬k0_cond2 i = 1#1) (hc3 : k0_cond3 i = 1#1)
    (x0 : Vec F S1024x2048 .f32) (x1 : Vec F S1x2048 .f32) (x2 : Vec F S144x2048 .f32) (x3 : Vec F S2048x1024 .bf16) (x4 : Vec F S2048x128 .bf16) (xs : Vec F S1024x2048 .bf16) :
    { L6 : List (View.Piece (Elt F) S1024x1024 .bf16) //
      ∀ (E : Set ℕ) (K : PUnit → sProp (World F)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg8.view.loc (c : Thread nD τ) ↦[arg8.view.set]{fullShare} arg8.view.writes (Elt F) f L6) ∗ owns (c : Thread nD τ) arg10 fullShare xs) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10) K } := by
  refine ⟨?_, fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%dH6, %fH6, -, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H6]; · iexists _; iexact H6
    iexists _; isplitr; · ipureintro; exact harg10.read_unread _
    iexact HS

end Cert.Kernel5Ideal.Proj

end
-- ==== Proof.ProjFrame.lean ====
/- The input projections' frame. A column block of one of the three results is stored at some points of a row only and
   written back later; what each buffer holds after each point is stated, and with it the run of the whole call. -/
module

public import proofs.«01_k».proof.Proof.ProjRun
public import Idealize.ShloMosaic.Lib.Claim

@[expose] public section

set_option maxRecDepth 16384

noncomputable section

namespace Cert.Kernel5Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

variable (m : (ℓ : Loc nD τ sig) → Buf (Elt F) ℓ) (ρ : Dev nD → PrngReg)

/-- The first branch is taken at the first column block. -/
theorem hcond1 : ∀ t : Fin cfg0.N, k0_cond1 (grid0.coords t) = 1#1 ↔ t.val % 5 = 0 :=
  (by decide +kernel : ∀ t : Fin grid0.N, k0_cond1 (grid0.coords t) = 1#1 ↔ t.val % 5 = 0)
/-- The second branch is taken at the first two column blocks. -/
theorem hcond2 : ∀ t : Fin cfg0.N, k0_cond2 (grid0.coords t) = 1#1 ↔ t.val % 5 < 2 :=
  (by decide +kernel : ∀ t : Fin grid0.N, k0_cond2 (grid0.coords t) = 1#1 ↔ t.val % 5 < 2)
/-- The third branch is taken at the last three column blocks. -/
theorem hcond3 : ∀ t : Fin cfg0.N, k0_cond3 (grid0.coords t) = 1#1 ↔ 2 ≤ t.val % 5 :=
  (by decide +kernel : ∀ t : Fin grid0.N, k0_cond3 (grid0.coords t) = 1#1 ↔ 2 ≤ t.val % 5)

/-- A gate block is stored where the second branch is taken. -/
theorem idle5 (t : Fin cfg0.N) : cfg0.idle 5 (grid0.coords t) = !decide (t.val % 5 < 2) := by
  show (!(k0_cond2 (grid0.coords t) == 1#1)) = _
  congr 1
  rw [Bool.eq_iff_iff, beq_iff_eq, decide_eq_true_iff]
  exact hcond2 t
/-- A block of the other part is stored where the third branch is taken. -/
theorem idle6 (t : Fin cfg0.N) : cfg0.idle 6 (grid0.coords t) = !decide (2 ≤ t.val % 5) := by
  show (!(k0_cond3 (grid0.coords t) == 1#1)) = _
  congr 1
  rw [Bool.eq_iff_iff, beq_iff_eq, decide_eq_true_iff]
  exact hcond3 t
/-- A block of the small projection is stored where the first branch is taken. -/
theorem idle7 (t : Fin cfg0.N) : cfg0.idle 7 (grid0.coords t) = !decide (t.val % 5 = 0) := by
  show (!(k0_cond1 (grid0.coords t) == 1#1)) = _
  congr 1
  rw [Bool.eq_iff_iff, beq_iff_eq, decide_eq_true_iff]
  exact hcond1 t
/-- A gate block is written back after the first and after the last column block. -/
theorem flush5 : ∀ t : Fin cfg0.N, (cfg0.win 5).flush t = decide (t.val % 5 = 0 ∨ t.val % 5 = 4) :=
  (by decide +kernel : ∀ t : Fin grid0.N, win0_5.flush t = decide (t.val % 5 = 0 ∨ t.val % 5 = 4))
/-- A block of the other part is written back where it is stored. -/
theorem flush6 : ∀ t : Fin cfg0.N, (cfg0.win 6).flush t = decide (2 ≤ t.val % 5) :=
  (by decide +kernel : ∀ t : Fin grid0.N, win0_6.flush t = decide (2 ≤ t.val % 5))
/-- A block of the small projection is written back after the last column block. -/
theorem flush7 (t : Fin cfg0.N) : (cfg0.win 7).flush t = decide (t.val % 5 = 4) := by
  rw [Bool.eq_iff_iff, decide_eq_true_iff]
  exact flush0_7 t

/-- The residual rows' buffer at a point. -/
abbrev ms0 (t : Fin cfg0.N) : Memref sig .tc .vmem S1024x2048 .f32 := win0_0.stage (cfg0.slots t 0)
/-- It is whole. -/
abbrev hs0 (t : Fin cfg0.N) : (ms0 t).IsWhole := hstage0_0 ((cfg0.slots t 0).cast nbuf0_0)
/-- The norm weight's buffer at a point. -/
abbrev ms1 (t : Fin cfg0.N) : Memref sig .tc .vmem S1x2048 .f32 := win0_1.stage (cfg0.slots t 1)
/-- It is whole. -/
abbrev hs1 (t : Fin cfg0.N) : (ms1 t).IsWhole := hstage0_1 ((cfg0.slots t 1).cast nbuf0_1)
/-- The table's buffer at a point. -/
abbrev ms2 (t : Fin cfg0.N) : Memref sig .tc .vmem S144x2048 .f32 := win0_2.stage (cfg0.slots t 2)
/-- It is whole. -/
abbrev hs2 (t : Fin cfg0.N) : (ms2 t).IsWhole := hstage0_2 ((cfg0.slots t 2).cast nbuf0_2)
/-- The weight's buffer at a point. -/
abbrev ms3 (t : Fin cfg0.N) : Memref sig .tc .vmem S2048x1024 .bf16 := win0_3.stage (cfg0.slots t 3)
/-- It is whole. -/
abbrev hs3 (t : Fin cfg0.N) : (ms3 t).IsWhole := hstage0_3 ((cfg0.slots t 3).cast nbuf0_3)
/-- The small weight's buffer at a point. -/
abbrev ms4 (t : Fin cfg0.N) : Memref sig .tc .vmem S2048x128 .bf16 := win0_4.stage (cfg0.slots t 4)
/-- It is whole. -/
abbrev hs4 (t : Fin cfg0.N) : (ms4 t).IsWhole := hstage0_4 ((cfg0.slots t 4).cast nbuf0_4)
/-- The gate's buffer at a point. -/
abbrev ms5 (t : Fin cfg0.N) : Memref sig .tc .vmem S1024x1024 .f32 := win0_5.stage (cfg0.slots t 5)
/-- It is whole. -/
abbrev hs5 (t : Fin cfg0.N) : (ms5 t).IsWhole := hstage0_5 ((cfg0.slots t 5).cast nbuf0_5)
/-- The other part's buffer at a point. -/
abbrev ms6 (t : Fin cfg0.N) : Memref sig .tc .vmem S1024x1024 .bf16 := win0_6.stage (cfg0.slots t 6)
/-- It is whole. -/
abbrev hs6 (t : Fin cfg0.N) : (ms6 t).IsWhole := hstage0_6 ((cfg0.slots t 6).cast nbuf0_6)
/-- The small projection's buffer at a point. -/
abbrev ms7 (t : Fin cfg0.N) : Memref sig .tc .vmem S1024x128 .f32 := win0_7.stage (cfg0.slots t 7)
/-- It is whole. -/
abbrev hs7 (t : Fin cfg0.N) : (ms7 t).IsWhole := hstage0_7 ((cfg0.slots t 7).cast nbuf0_7)
/-- The scratch that keeps a row block's norms. -/
abbrev scM : Memref sig .tc .vmem S1024x2048 .bf16 := Memref.whole cc0_scratch0
/-- The scratch, as a view. -/
abbrev VS : View sig .tc .vmem S1024x2048 .bf16 := scM.view
/-- One of the gate's buffers, through which its contents are stated. -/
abbrev VO5 : View sig .tc .vmem S1024x1024 .f32 := (Memref.whole cc0_stg5_0 : Memref sig .tc .vmem S1024x1024 .f32).view
/-- One of the other part's buffers, through which its contents are stated. -/
abbrev VO6 : View sig .tc .vmem S1024x1024 .bf16 := (Memref.whole cc0_stg6_0 : Memref sig .tc .vmem S1024x1024 .bf16).view
/-- One of the small projection's buffers, through which its contents are stated. -/
abbrev VO7 : View sig .tc .vmem S1024x128 .f32 := (Memref.whole cc0_stg7_0 : Memref sig .tc .vmem S1024x128 .f32).view

/-- The region's invariant without the scratch's contents: the scratch at something and the generator register. -/
theorem PhiA_eq (c : Dev nD) :
    (Pipeline.ΦA spec0 c : sProp (World F))
      = iprop(iprop((∃ d, owns (c : Thread nD τ) scM fullShare d)) ∗ (∃ r, prngReg c r)) := by
  unfold Pipeline.ΦA; rw [scopedRest0_eq]; simp only [scM, owns_whole]; try rfl

/-- The first column block's store covers its gate block. -/
theorem cover5A (c : Dev nD) (t : Fin cfg0.N) (h : t.val % 5 = 0) (y : S1024x1024.Idx) :
    ∃ pc ∈ (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((hcond1 t).mpr h) ((hcond2 t).mpr (by omega)) (fun h' => absurd ((hcond3 t).mp h') (by omega)) (iblk m c 0 t) (iblk m c 1 t) (iblk m c 2 t) (iblk m c 3 t) (iblk m c 4 t)).1, y ∈ pc.1.set :=
  View.cover_of_tiledL (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((hcond1 t).mpr h) ((hcond2 t).mpr (by omega)) (fun h' => absurd ((hcond3 t).mp h') (by omega)) (iblk m c 0 t) (iblk m c 1 t) (iblk m c 2 t) (iblk m c 3 t) (iblk m c 4 t)).1 S1024x1024.size (by sl_kernel_rfl) y
/-- What the first column block leaves in the gate's buffer. -/
def o5A (c : Dev nD) (t : Fin cfg0.N) (h : t.val % 5 = 0) : Vec F S1024x1024 .f32 :=
  VO5.read (Elt F) (VO5.writes (Elt F) VO5.junk (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((hcond1 t).mpr h) ((hcond2 t).mpr (by omega)) (fun h' => absurd ((hcond3 t).mp h') (by omega)) (iblk m c 0 t) (iblk m c 1 t) (iblk m c 2 t) (iblk m c 3 t) (iblk m c 4 t)).1)

/-- The first column block's store covers its block of the small projection. -/
theorem cover7A (c : Dev nD) (t : Fin cfg0.N) (h : t.val % 5 = 0) (y : S1024x128.Idx) :
    ∃ pc ∈ (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((hcond1 t).mpr h) ((hcond2 t).mpr (by omega)) (fun h' => absurd ((hcond3 t).mp h') (by omega)) (iblk m c 0 t) (iblk m c 1 t) (iblk m c 2 t) (iblk m c 3 t) (iblk m c 4 t)).2.1, y ∈ pc.1.set :=
  View.cover_of_tiledL (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((hcond1 t).mpr h) ((hcond2 t).mpr (by omega)) (fun h' => absurd ((hcond3 t).mp h') (by omega)) (iblk m c 0 t) (iblk m c 1 t) (iblk m c 2 t) (iblk m c 3 t) (iblk m c 4 t)).2.1 S1024x128.size (by sl_kernel_rfl) y
/-- What the first column block leaves in the small projection's buffer. -/
def o7A (c : Dev nD) (t : Fin cfg0.N) (h : t.val % 5 = 0) : Vec F S1024x128 .f32 :=
  VO7.read (Elt F) (VO7.writes (Elt F) VO7.junk (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((hcond1 t).mpr h) ((hcond2 t).mpr (by omega)) (fun h' => absurd ((hcond3 t).mp h') (by omega)) (iblk m c 0 t) (iblk m c 1 t) (iblk m c 2 t) (iblk m c 3 t) (iblk m c 4 t)).2.1)

/-- The first column block's four stores cover the scratch. -/
theorem coverSA (c : Dev nD) (t : Fin cfg0.N) (h : t.val % 5 = 0) (y : S1024x2048.Idx) :
    ∃ pc ∈ (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((hcond1 t).mpr h) ((hcond2 t).mpr (by omega)) (fun h' => absurd ((hcond3 t).mp h') (by omega)) (iblk m c 0 t) (iblk m c 1 t) (iblk m c 2 t) (iblk m c 3 t) (iblk m c 4 t)).2.2.1, y ∈ pc.1.set :=
  View.cover_of_tiledL (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((hcond1 t).mpr h) ((hcond2 t).mpr (by omega)) (fun h' => absurd ((hcond3 t).mp h') (by omega)) (iblk m c 0 t) (iblk m c 1 t) (iblk m c 2 t) (iblk m c 3 t) (iblk m c 4 t)).2.2.1 S256x2048.size (by sl_kernel_rfl) y
/-- What the first column block leaves in the scratch. -/
def sA (c : Dev nD) (t : Fin cfg0.N) (h : t.val % 5 = 0) : Vec F S1024x2048 .bf16 :=
  VS.read (Elt F) (VS.writes (Elt F) VS.junk (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((hcond1 t).mpr h) ((hcond2 t).mpr (by omega)) (fun h' => absurd ((hcond3 t).mp h') (by omega)) (iblk m c 0 t) (iblk m c 1 t) (iblk m c 2 t) (iblk m c 3 t) (iblk m c 4 t)).2.2.1)

/-- The second column block's store covers its gate block. -/
theorem cover5B (c : Dev nD) (t : Fin cfg0.N) (h : t.val % 5 = 1) (s : Vec F S1024x2048 .bf16) (y : S1024x1024.Idx) :
    ∃ pc ∈ (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h' => absurd ((hcond1 t).mp h') (by omega)) ((hcond2 t).mpr (by omega)) (fun h' => absurd ((hcond3 t).mp h') (by omega)) (iblk m c 0 t) (iblk m c 1 t) (iblk m c 2 t) (iblk m c 3 t) (iblk m c 4 t) s).1, y ∈ pc.1.set :=
  View.cover_of_tiledL (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h' => absurd ((hcond1 t).mp h') (by omega)) ((hcond2 t).mpr (by omega)) (fun h' => absurd ((hcond3 t).mp h') (by omega)) (iblk m c 0 t) (iblk m c 1 t) (iblk m c 2 t) (iblk m c 3 t) (iblk m c 4 t) s).1 S1024x1024.size (by sl_kernel_rfl) y
/-- What the second column block leaves in the gate's buffer, over a scratch `s`. -/
def o5B (c : Dev nD) (t : Fin cfg0.N) (h : t.val % 5 = 1) (s : Vec F S1024x2048 .bf16) : Vec F S1024x1024 .f32 :=
  VO5.read (Elt F) (VO5.writes (Elt F) VO5.junk (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h' => absurd ((hcond1 t).mp h') (by omega)) ((hcond2 t).mpr (by omega)) (fun h' => absurd ((hcond3 t).mp h') (by omega)) (iblk m c 0 t) (iblk m c 1 t) (iblk m c 2 t) (iblk m c 3 t) (iblk m c 4 t) s).1)

/-- A later column block's store covers its block of the other part. -/
theorem cover6C (c : Dev nD) (t : Fin cfg0.N) (h : 2 ≤ t.val % 5) (s : Vec F S1024x2048 .bf16) (y : S1024x1024.Idx) :
    ∃ pc ∈ (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h' => absurd ((hcond1 t).mp h') (by omega)) (fun h' => absurd ((hcond2 t).mp h') (by omega)) ((hcond3 t).mpr h) (iblk m c 0 t) (iblk m c 1 t) (iblk m c 2 t) (iblk m c 3 t) (iblk m c 4 t) s).1, y ∈ pc.1.set :=
  View.cover_of_tiledL (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h' => absurd ((hcond1 t).mp h') (by omega)) (fun h' => absurd ((hcond2 t).mp h') (by omega)) ((hcond3 t).mpr h) (iblk m c 0 t) (iblk m c 1 t) (iblk m c 2 t) (iblk m c 3 t) (iblk m c 4 t) s).1 S1024x1024.size (by sl_kernel_rfl) y
/-- What a later column block leaves in the other part's buffer, over a scratch `s`. -/
def o6C (c : Dev nD) (t : Fin cfg0.N) (h : 2 ≤ t.val % 5) (s : Vec F S1024x2048 .bf16) : Vec F S1024x1024 .bf16 :=
  VO6.read (Elt F) (VO6.writes (Elt F) VO6.junk (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h' => absurd ((hcond1 t).mp h') (by omega)) (fun h' => absurd ((hcond2 t).mp h') (by omega)) ((hcond3 t).mpr h) (iblk m c 0 t) (iblk m c 1 t) (iblk m c 2 t) (iblk m c 3 t) (iblk m c 4 t) s).1)

/-- What the scratch holds after position `n`: what the row's first column block stored. -/
def sc (c : Dev nD) : (n : ℕ) → n < cfg0.N → Vec F S1024x2048 .bf16
  | 0, hn => sA m c ⟨0, hn⟩ (Nat.zero_mod _)
  | n + 1, hn => if h : (n + 1) % 5 = 0 then sA m c ⟨n + 1, hn⟩ h else sc c n (Nat.lt_of_succ_lt hn)

/-- At a row block's first point the scratch buffer holds what that point stores. -/
theorem sc_store (c : Dev nD) (t : Fin cfg0.N) (h : t.val % 5 = 0) : sc m c t.val t.isLt = sA m c t h := by
  obtain ⟨n, hn⟩ := t
  cases n with
  | zero => exact rfl
  | succ n => exact dif_pos h

/-- At the other points the scratch buffer holds what it held before. -/
theorem sc_keep (c : Dev nD) (t : Fin cfg0.N) (h : ¬t.val % 5 = 0) :
    sc m c t.val t.isLt = sc m c (t.val - 1) (Nat.lt_of_le_of_lt (Nat.sub_le _ _) t.isLt) := by
  obtain ⟨n, hn⟩ := t
  cases n with
  | zero => exact absurd (Nat.zero_mod _) h
  | succ n => exact dif_neg h

/-- What the gate's buffer holds after position `n`: what the last point that stored a gate block stored. -/
def o5 (c : Dev nD) : (n : ℕ) → n < cfg0.N → Vec F S1024x1024 .f32
  | 0, hn => o5A m c ⟨0, hn⟩ (Nat.zero_mod _)
  | n + 1, hn =>
    if h : (n + 1) % 5 = 0 then o5A m c ⟨n + 1, hn⟩ h
    else if h' : (n + 1) % 5 = 1 then o5B m c ⟨n + 1, hn⟩ h' (sc m c n (Nat.lt_of_succ_lt hn))
    else o5 c n (Nat.lt_of_succ_lt hn)

/-- At a row block's first point output 5's buffer holds what that point stores. -/
theorem o5_first (c : Dev nD) (t : Fin cfg0.N) (h : t.val % 5 = 0) : o5 m c t.val t.isLt = o5A m c t h := by
  obtain ⟨n, hn⟩ := t
  cases n with
  | zero => exact rfl
  | succ n => exact dif_pos h

/-- At a row block's second point output 5's buffer holds what that point stores. -/
theorem o5_second (c : Dev nD) (t : Fin cfg0.N) (h : t.val % 5 = 1) :
    o5 m c t.val t.isLt = o5B m c t h (sc m c (t.val - 1) (Nat.lt_of_le_of_lt (Nat.sub_le _ _) t.isLt)) := by
  obtain ⟨n, hn⟩ := t
  cases n with
  | zero => exact absurd h (by dsimp only; omega)
  | succ n => exact (dif_neg (by dsimp only at h; omega)).trans (dif_pos h)

/-- At the later points output 5's buffer holds what it held before. -/
theorem o5_keep (c : Dev nD) (t : Fin cfg0.N) (h : 2 ≤ t.val % 5) :
    o5 m c t.val t.isLt = o5 m c (t.val - 1) (Nat.lt_of_le_of_lt (Nat.sub_le _ _) t.isLt) := by
  obtain ⟨n, hn⟩ := t
  cases n with
  | zero => exact absurd h (by dsimp only; omega)
  | succ n => exact (dif_neg (by dsimp only at h; omega)).trans (dif_neg (by dsimp only at h; omega))

/-- What the small projection's buffer holds after position `n`: what the row's first column block stored. -/
def o7 (c : Dev nD) : (n : ℕ) → n < cfg0.N → Vec F S1024x128 .f32
  | 0, hn => o7A m c ⟨0, hn⟩ (Nat.zero_mod _)
  | n + 1, hn => if h : (n + 1) % 5 = 0 then o7A m c ⟨n + 1, hn⟩ h else o7 c n (Nat.lt_of_succ_lt hn)

/-- At a row block's first point output 7's buffer holds what that point stores. -/
theorem o7_store (c : Dev nD) (t : Fin cfg0.N) (h : t.val % 5 = 0) : o7 m c t.val t.isLt = o7A m c t h := by
  obtain ⟨n, hn⟩ := t
  cases n with
  | zero => exact rfl
  | succ n => exact dif_pos h

/-- At the other points output 7's buffer holds what it held before. -/
theorem o7_keep (c : Dev nD) (t : Fin cfg0.N) (h : ¬t.val % 5 = 0) :
    o7 m c t.val t.isLt = o7 m c (t.val - 1) (Nat.lt_of_le_of_lt (Nat.sub_le _ _) t.isLt) := by
  obtain ⟨n, hn⟩ := t
  cases n with
  | zero => exact absurd (Nat.zero_mod _) h
  | succ n => exact dif_neg h

/-- What the other part's buffer holds after a point that stores into it; anything after the other points. -/
def o6 (c : Dev nD) (t : Fin cfg0.N) : Vec F S1024x1024 .bf16 :=
  if h : 2 ≤ t.val % 5 then o6C m c t h (sc m c (t.val - 1) (Nat.lt_of_le_of_lt (Nat.sub_le _ _) t.isLt))
  else VO6.read (Elt F) VO6.junk

/-- The invariant before position `n`: the scratch at what the point before left, and the generator register. -/
def PhiS (c : Dev nD) : (n : ℕ) → n ≤ cfg0.N → sProp (World F)
  | 0, _ => Pipeline.ΦA spec0 c
  | n + 1, hn => iprop(iprop(owns (c : Thread nD τ) scM fullShare (sc m c n hn)) ∗ (∃ r, prngReg c r))

/-- Before the first point the scratch buffer's state is the initial one. -/
theorem PhiS_zero (c : Dev nD) (n : ℕ) (h : n ≤ cfg0.N) (hz : n = 0) : PhiS m c n h = Pipeline.ΦA spec0 c := by
  subst hz; rfl

/-- After a point the scratch buffer's state is the one named for that point. -/
theorem PhiS_succ (c : Dev nD) (n : ℕ) (hn : n < cfg0.N) :
    PhiS m c (n + 1) hn = iprop(iprop(owns (c : Thread nD τ) scM fullShare (sc m c n hn)) ∗ (∃ r, prngReg c r)) := rfl

/-- Before a later point the scratch buffer's state is the one the point before left. -/
theorem PhiS_pos (c : Dev nD) (n : ℕ) (h : n ≤ cfg0.N) (hz : n ≠ 0) :
    PhiS m c n h = iprop(iprop(owns (c : Thread nD τ) scM fullShare (sc m c (n - 1) (by omega))) ∗ (∃ r, prngReg c r)) := by
  cases n with
  | zero => exact absurd rfl hz
  | succ n => rfl

/-- The call's proof data: the arrays as the region finds them, each buffer's contents after each point, the
    invariant; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => o5 m c t.val t.isLt
    | ⟨6, _⟩ => o6 m c t
    | ⟨7, _⟩ => o7 m c t.val t.isLt
  Φ t := PhiS m c t.val (Nat.le_of_lt_succ t.isLt)
  q _ := fullShare
  owed _ := 0

/-- The array behind a window is the value the host code gives it. -/
theorem A_eq (c : Dev nD) (w : Fin cfg0.W) : (dats m 0 c).A w = V m c (Pipeline.arrRef spec0 w) := by
  dsimp only [dats]

/-- The scratch buffer's state before a point, at the point's own number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- Operand 0's buffer after a point holds the block it held before. -/
theorem after0 (c : Dev nD) (t : Fin cfg0.N) : (dats m 0 c).after 0 t = iblk m c 0 t := by dsimp only [dats]
/-- Operand 1's buffer after a point holds the block it held before. -/
theorem after1 (c : Dev nD) (t : Fin cfg0.N) : (dats m 0 c).after 1 t = iblk m c 1 t := by dsimp only [dats]
/-- Operand 2's buffer after a point holds the block it held before. -/
theorem after2 (c : Dev nD) (t : Fin cfg0.N) : (dats m 0 c).after 2 t = iblk m c 2 t := by dsimp only [dats]
/-- Operand 3's buffer after a point holds the block it held before. -/
theorem after3 (c : Dev nD) (t : Fin cfg0.N) : (dats m 0 c).after 3 t = iblk m c 3 t := by dsimp only [dats]
/-- Operand 4's buffer after a point holds the block it held before. -/
theorem after4 (c : Dev nD) (t : Fin cfg0.N) : (dats m 0 c).after 4 t = iblk m c 4 t := by dsimp only [dats]
/-- Output 5's buffer after a point, as the frame names it. -/
theorem after5 (c : Dev nD) (t : Fin cfg0.N) : (dats m 0 c).after 5 t = o5 m c t.val t.isLt := by dsimp only [dats]
/-- Output 6's buffer after a point, as the frame names it. -/
theorem after6 (c : Dev nD) (t : Fin cfg0.N) : (dats m 0 c).after 6 t = o6 m c t := by dsimp only [dats]
/-- Output 7's buffer after a point, as the frame names it. -/
theorem after7 (c : Dev nD) (t : Fin cfg0.N) : (dats m 0 c).after 7 t = o7 m c t.val t.isLt := by dsimp only [dats]

/-- Operand 0's buffer before a point holds the point's block of the operand. -/
theorem before0 (c : Dev nD) (t : Fin cfg0.N) (d) : (dats m 0 c).before 0 t d = iblk m c 0 t :=
  before0_0_of m (dats m 0 c) (A_eq m c 0) (after0 m c) t d
/-- Operand 1's buffer before a point holds the point's block of the operand. -/
theorem before1 (c : Dev nD) (t : Fin cfg0.N) (d) : (dats m 0 c).before 1 t d = iblk m c 1 t :=
  before0_1_of m (dats m 0 c) (A_eq m c 1) (after1 m c) t d
/-- Operand 2's buffer before a point holds the point's block of the operand. -/
theorem before2 (c : Dev nD) (t : Fin cfg0.N) (d) : (dats m 0 c).before 2 t d = iblk m c 2 t :=
  before0_2_of m (dats m 0 c) (A_eq m c 2) (after2 m c) t d
/-- Operand 3's buffer before a point holds the point's block of the operand. -/
theorem before3 (c : Dev nD) (t : Fin cfg0.N) (d) : (dats m 0 c).before 3 t d = iblk m c 3 t :=
  before0_3_of m (dats m 0 c) (A_eq m c 3) (after3 m c) t d
/-- Operand 4's buffer before a point holds the point's block of the operand. -/
theorem before4 (c : Dev nD) (t : Fin cfg0.N) (d) : (dats m 0 c).before 4 t d = iblk m c 4 t :=
  before0_4_of m (dats m 0 c) (A_eq m c 4) (after4 m c) t d

/-- The gate's buffer, at a point that stores no gate block: what the points before left. -/
theorem before5 (c : Dev nD) (k : ℕ) : ∀ (t : Fin cfg0.N) (_ : t.val % 5 = k + 2) (d),
    (dats m 0 c).before 5 t d = o5 m c (t.val - 1) (Nat.lt_of_le_of_lt (Nat.sub_le _ _) t.isLt) := by
  induction k with
  | zero =>
    intro t h d
    rw [(dats m 0 c).before_of_pos 5 t (by omega) rfl d, flush5, if_neg (by rw [decide_eq_true_iff]; dsimp only; omega)]
    unfold Dat.left
    rw [show cfg0.idle 5 (cfg0.grid.coords ⟨t.val - 1, Nat.lt_of_le_of_lt (Nat.sub_le _ _) t.isLt⟩) = false from
      (idle5 ⟨t.val - 1, Nat.lt_of_le_of_lt (Nat.sub_le _ _) t.isLt⟩).trans (by rw [decide_eq_true (by dsimp only; omega)]; rfl)]
    exact after5 m c ⟨t.val - 1, Nat.lt_of_le_of_lt (Nat.sub_le _ _) t.isLt⟩
  | succ k ih =>
    intro t h d
    rw [(dats m 0 c).before_of_pos 5 t (by omega) rfl d, flush5, if_neg (by rw [decide_eq_true_iff]; dsimp only; omega)]
    unfold Dat.left
    rw [show cfg0.idle 5 (cfg0.grid.coords ⟨t.val - 1, Nat.lt_of_le_of_lt (Nat.sub_le _ _) t.isLt⟩) = true from
      (idle5 ⟨t.val - 1, Nat.lt_of_le_of_lt (Nat.sub_le _ _) t.isLt⟩).trans (by rw [decide_eq_false (by dsimp only; omega)]; rfl)]
    exact (ih ⟨t.val - 1, Nat.lt_of_le_of_lt (Nat.sub_le _ _) t.isLt⟩ (by dsimp only; omega) d).trans
      (o5_keep m c ⟨t.val - 1, Nat.lt_of_le_of_lt (Nat.sub_le _ _) t.isLt⟩ (by dsimp only; omega)).symm

/-- The small projection's buffer, at a point that stores nothing into it: what the points before left. -/
theorem before7 (c : Dev nD) (k : ℕ) : ∀ (t : Fin cfg0.N) (_ : t.val % 5 = k + 1) (d),
    (dats m 0 c).before 7 t d = o7 m c (t.val - 1) (Nat.lt_of_le_of_lt (Nat.sub_le _ _) t.isLt) := by
  induction k with
  | zero =>
    intro t h d
    rw [(dats m 0 c).before_of_pos 7 t (by omega) rfl d, flush7, if_neg (by rw [decide_eq_true_iff]; dsimp only; omega)]
    unfold Dat.left
    rw [show cfg0.idle 7 (cfg0.grid.coords ⟨t.val - 1, Nat.lt_of_le_of_lt (Nat.sub_le _ _) t.isLt⟩) = false from
      (idle7 ⟨t.val - 1, Nat.lt_of_le_of_lt (Nat.sub_le _ _) t.isLt⟩).trans (by rw [decide_eq_true (by dsimp only; omega)]; rfl)]
    exact after7 m c ⟨t.val - 1, Nat.lt_of_le_of_lt (Nat.sub_le _ _) t.isLt⟩
  | succ k ih =>
    intro t h d
    rw [(dats m 0 c).before_of_pos 7 t (by omega) rfl d, flush7, if_neg (by rw [decide_eq_true_iff]; dsimp only; omega)]
    unfold Dat.left
    rw [show cfg0.idle 7 (cfg0.grid.coords ⟨t.val - 1, Nat.lt_of_le_of_lt (Nat.sub_le _ _) t.isLt⟩) = true from
      (idle7 ⟨t.val - 1, Nat.lt_of_le_of_lt (Nat.sub_le _ _) t.isLt⟩).trans (by rw [decide_eq_false (by dsimp only; omega)]; rfl)]
    exact (ih ⟨t.val - 1, Nat.lt_of_le_of_lt (Nat.sub_le _ _) t.isLt⟩ (by dsimp only; omega) d).trans
      (o7_keep m c ⟨t.val - 1, Nat.lt_of_le_of_lt (Nat.sub_le _ _) t.isLt⟩ (by dsimp only; omega)).symm

/-- A point that stores into a buffer leaves the stated contents in it. -/
theorem leaves_live (c : Dev nD) (w : Fin cfg0.W) (t : Fin cfg0.N) (h : cfg0.idle w (grid0.coords t) = false) :
    (dats m 0 c).leavesExact w t
      = owns (c : Thread nD τ) ((cfg0.win w).stage (cfg0.slots t w)) fullShare ((dats m 0 c).after w t) := by
  unfold Dat.leavesExact; rw [show cfg0.idle w (cfg0.grid.coords t) = false from h]

/-- So does a point that writes the buffer back without storing into it. -/
theorem leaves_flushed (c : Dev nD) (w : Fin cfg0.W) (t : Fin cfg0.N) (h : cfg0.idle w (grid0.coords t) = true)
    (hf : (cfg0.win w).flush t = true) :
    (dats m 0 c).leavesExact w t
      = owns (c : Thread nD τ) ((cfg0.win w).stage (cfg0.slots t w)) fullShare ((dats m 0 c).after w t) := by
  unfold Dat.leavesExact; rw [show cfg0.idle w (cfg0.grid.coords t) = true from h, hf]

/-- What the body is called with at a point. -/
def bodyPre (c : Dev nD) (t : Fin cfg0.N) : sProp (World F) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- What the body returns. -/
def bodyPost (c : Dev nD) (t : Fin cfg0.N) : sProp (World F) :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (dats m 0 c).leavesExact 5 t
    ∗ (dats m 0 c).leavesExact 6 t
    ∗ (dats m 0 c).leavesExact 7 t)

set_option maxHeartbeats 3200000 in
/-- The body at any point, by the column block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    after0, after1, after2, after3, after4]
  rw [show (dats m 0 c).Φ t.succ = PhiS m c (t.val + 1) t.isLt from rfl, PhiS_succ]
  have hN : t.val < 180 := lt_of_lt_of_eq t.isLt (show cfg0.N = 180 from N_0)
  by_cases h : t.val % 5 = 0
  · have i5 : cfg0.idle 5 (grid0.coords t) = false := by rw [idle5, decide_eq_true (by omega)]; rfl
    have i6 : cfg0.idle 6 (grid0.coords t) = true := by rw [idle6, decide_eq_false (by omega)]; rfl
    have i7 : cfg0.idle 7 (grid0.coords t) = false := by rw [idle7, decide_eq_true (by omega)]; rfl
    have f6 : (cfg0.win 6).flush t = false := by rw [flush6, decide_eq_false (by omega)]
    by_cases hz : t.val = 0
    · rw [PhiS_castSucc m c t, PhiS_zero m c _ _ hz, PhiA_eq]
      rw [sc_store m c t h, leaves_live m c 5 t i5, after5, o5_first m c t h, leaves_live m c 7 t i7, after7, o7_store m c t h,
        (dats m 0 c).leavesExact_idle 6 t i6 f6]
      unfold o5A o7A sA; (try dsimp only)
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA c (grid0.coords t) _ _ _ _ _ _ _ _ _ _ _ _ _ _ _ _ _ _ ((hcond1 t).mpr h) ((hcond2 t).mpr (by omega)) (fun h' => absurd ((hcond3 t).mp h') (by omega)) (iblk m c 0 t) (iblk m c 1 t) (iblk m c 2 t) (iblk m c 3 t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H7]; · iexists _; iexact H7
      isplitl [HS]; · iexact HS
      iintro ⟨H0, H1, H2, H3, H4, ⟨%e5, H5⟩, ⟨%e7, H7⟩, ⟨%es, HS⟩⟩
      isplitl [HS Hg]
      · isplitl [HS]
        · unfold owns; iexists _; isplitr
          swap; · iexact HS
          ipureintro; exact View.read_writes_of_cover _ _ _ _ _ (coverSA m c t h)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover5A m c t h)
      isplitl [H6]; · iexists _; iexact H6
      unfold owns; iexists _; isplitr
      swap; · iexact H7
      ipureintro; exact View.read_writes_of_cover _ _ _ _ _ (cover7A m c t h)
    · rw [PhiS_castSucc m c t, PhiS_pos m c _ _ hz]
      rw [sc_store m c t h, leaves_live m c 5 t i5, after5, o5_first m c t h, leaves_live m c 7 t i7, after7, o7_store m c t h,
        (dats m 0 c).leavesExact_idle 6 t i6 f6]
      unfold o5A o7A sA; (try dsimp only)
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA c (grid0.coords t) _ _ _ _ _ _ _ _ _ _ _ _ _ _ _ _ _ _ ((hcond1 t).mpr h) ((hcond2 t).mpr (by omega)) (fun h' => absurd ((hcond3 t).mp h') (by omega)) (iblk m c 0 t) (iblk m c 1 t) (iblk m c 2 t) (iblk m c 3 t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H7]; · iexists _; iexact H7
      isplitl [HS]; · iexists _; iexact HS
      iintro ⟨H0, H1, H2, H3, H4, ⟨%e5, H5⟩, ⟨%e7, H7⟩, ⟨%es, HS⟩⟩
      isplitl [HS Hg]
      · isplitl [HS]
        · unfold owns; iexists _; isplitr
          swap; · iexact HS
          ipureintro; exact View.read_writes_of_cover _ _ _ _ _ (coverSA m c t h)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover5A m c t h)
      isplitl [H6]; · iexists _; iexact H6
      unfold owns; iexists _; isplitr
      swap; · iexact H7
      ipureintro; exact View.read_writes_of_cover _ _ _ _ _ (cover7A m c t h)
  rename ¬t.val % 5 = 0 => h0
  have hz : t.val ≠ 0 := fun e => h0 (by rw [e])
  by_cases h : t.val % 5 = 1
  · have i5 : cfg0.idle 5 (grid0.coords t) = false := by rw [idle5, decide_eq_true (by omega)]; rfl
    have i6 : cfg0.idle 6 (grid0.coords t) = true := by rw [idle6, decide_eq_false (by omega)]; rfl
    have i7 : cfg0.idle 7 (grid0.coords t) = true := by rw [idle7, decide_eq_false (by omega)]; rfl
    have f6 : (cfg0.win 6).flush t = false := by rw [flush6, decide_eq_false (by omega)]
    have f7 : (cfg0.win 7).flush t = false := by rw [flush7, decide_eq_false (by omega)]
    rw [PhiS_castSucc m c t, PhiS_pos m c _ _ hz]
    rw [sc_keep m c t (by omega), leaves_live m c 5 t i5, after5, o5_second m c t h, (dats m 0 c).leavesExact_idle 6 t i6 f6,
      (dats m 0 c).leavesExact_idle 7 t i7 f7]
    unfold o5B; (try dsimp only)
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB c (grid0.coords t) _ _ _ _ _ _ _ _ _ _ _ _ _ _ _ _ _ _ (fun h' => absurd ((hcond1 t).mp h') (by omega)) ((hcond2 t).mpr (by omega)) (fun h' => absurd ((hcond3 t).mp h') (by omega)) (iblk m c 0 t) (iblk m c 1 t) (iblk m c 2 t) (iblk m c 3 t) (iblk m c 4 t) (sc m c (t.val - 1) (Nat.lt_of_le_of_lt (Nat.sub_le _ _) t.isLt))).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover5B m c t h _)
    isplitl [H6]; · iexists _; iexact H6
    iexists _; iexact H7
  rename ¬t.val % 5 = 1 => h1
  have h : 2 ≤ t.val % 5 := by omega
  by_cases h4 : t.val % 5 = 4
  · have i5 : cfg0.idle 5 (grid0.coords t) = true := by rw [idle5, decide_eq_false (by omega)]; rfl
    have i6 : cfg0.idle 6 (grid0.coords t) = false := by rw [idle6, decide_eq_true (by omega)]; rfl
    have i7 : cfg0.idle 7 (grid0.coords t) = true := by rw [idle7, decide_eq_false (by omega)]; rfl
    have f5 : (cfg0.win 5).flush t = true := by rw [flush5, decide_eq_true (by omega)]
    have f7 : (cfg0.win 7).flush t = true := by rw [flush7, decide_eq_true (by omega)]
    rw [PhiS_castSucc m c t, PhiS_pos m c _ _ hz]
    rw [sc_keep m c t (by omega), leaves_live m c 6 t i6, after6, leaves_flushed m c 5 t i5 f5, after5, o5_keep m c t h, leaves_flushed m c 7 t i7 f7, after7, o7_keep m c t (by omega)]
    simp only [before5 m c 2 t h4, before7 m c 3 t h4]
    rw [show o6 m c t = o6C m c t h (sc m c (t.val - 1) (Nat.lt_of_le_of_lt (Nat.sub_le _ _) t.isLt)) from dif_pos h]
    unfold o6C; (try dsimp only)
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runC c (grid0.coords t) _ _ _ _ _ _ _ _ _ _ _ _ _ _ _ _ _ _ (fun h' => absurd ((hcond1 t).mp h') (by omega)) (fun h' => absurd ((hcond2 t).mp h') (by omega)) ((hcond3 t).mpr h) (iblk m c 0 t) (iblk m c 1 t) (iblk m c 2 t) (iblk m c 3 t) (iblk m c 4 t) (sc m c (t.val - 1) (Nat.lt_of_le_of_lt (Nat.sub_le _ _) t.isLt))).2 Set.univ _)
    isplitl [H0]; · iexact H0
    isplitl [H1]; · iexact H1
    isplitl [H2]; · iexact H2
    isplitl [H3]; · iexact H3
    isplitl [H4]; · iexact H4
    isplitl [H6]; · iexists _; iexact H6
    isplitl [HS]; · iexact HS
    iintro ⟨H0, H1, H2, H3, H4, ⟨%e6, H6⟩, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover6C m c t h _)
    iexact H7
  · have i5 : cfg0.idle 5 (grid0.coords t) = true := by rw [idle5, decide_eq_false (by omega)]; rfl
    have i6 : cfg0.idle 6 (grid0.coords t) = false := by rw [idle6, decide_eq_true (by omega)]; rfl
    have i7 : cfg0.idle 7 (grid0.coords t) = true := by rw [idle7, decide_eq_false (by omega)]; rfl
    have f5 : (cfg0.win 5).flush t = false := by rw [flush5, decide_eq_false (by omega)]
    have f7 : (cfg0.win 7).flush t = false := by rw [flush7, decide_eq_false (by omega)]
    rw [PhiS_castSucc m c t, PhiS_pos m c _ _ hz]
    rw [sc_keep m c t (by omega), leaves_live m c 6 t i6, after6, (dats m 0 c).leavesExact_idle 5 t i5 f5,
      (dats m 0 c).leavesExact_idle 7 t i7 f7]
    rw [show o6 m c t = o6C m c t h (sc m c (t.val - 1) (Nat.lt_of_le_of_lt (Nat.sub_le _ _) t.isLt)) from dif_pos h]
    unfold o6C; (try dsimp only)
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runC c (grid0.coords t) _ _ _ _ _ _ _ _ _ _ _ _ _ _ _ _ _ _ (fun h' => absurd ((hcond1 t).mp h') (by omega)) (fun h' => absurd ((hcond2 t).mp h') (by omega)) ((hcond3 t).mpr h) (iblk m c 0 t) (iblk m c 1 t) (iblk m c 2 t) (iblk m c 3 t) (iblk m c 4 t) (sc m c (t.val - 1) (Nat.lt_of_le_of_lt (Nat.sub_le _ _) t.isLt))).2 Set.univ _)
    isplitl [H0]; · iexact H0
    isplitl [H1]; · iexact H1
    isplitl [H2]; · iexact H2
    isplitl [H3]; · iexact H3
    isplitl [H4]; · iexact H4
    isplitl [H6]; · iexists _; iexact H6
    isplitl [HS]; · iexact HS
    iintro ⟨H0, H1, H2, H3, H4, ⟨%e6, H6⟩, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]
    · unfold owns; iexists _; isplitr
      swap; · iexact H6
      ipureintro; exact View.read_writes_of_cover _ _ _ _ _ (cover6C m c t h _)
    iexists _; iexact H7

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The invariant holds at the start. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the first point the invariant gives the scratch back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

/-- So it does at the end. -/
theorem hout (c : Dev nD) : (dats m 0 c).Φ (Fin.last cfg0.N) ⊢ Pipeline.ΦA spec0 c :=
  Phi_out m c _ (by rw [Fin.val_last]; have : cfg0.N = 180 := N_0; omega)

set_option backward.isDefEq.respectTransparency.types false in
/-- The run of the whole program, and every semaphore counter at zero at its end. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run of the whole program. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel5Ideal.Proj

end
-- ==== Proof.ProjArray.lean ====
/- The input projection call: the body's stores at an index, and its blocks read in the arrays its region reads. -/
module

public import proofs.«01_k».proof.Proof.ProjFrame
public import proofs.«01_k».proof.Proof.FfnRows
public import Idealize.ShloMosaic.Lib.Pipeline.ValueKit

@[expose] public section

set_option maxRecDepth 16384

noncomputable section

namespace Cert.Proj

open Idealize.ShloMosaic Idealize.ShloMosaic.TcCoe Idealize.SL.Sem
open scoped BigOperators
open Cert.Kernel5Ideal Cert.Kernel5Ideal.Gen Cert.Kernel5Ideal.Proj

variable (m : (ℓ : Loc nD τ sig) → Buf (Elt Ideal) ℓ)

/-- The dot product of a normalised row with a column of a weight. -/
def dotRow (n w : Fin 2048 → EReal) : EReal := ∑ d, n d * w d

/-- The store of the first 256 rows. -/
theorem chunk0 (x : Vec Ideal S256x2048 .f32) (g h s : Vec Ideal S1x2048 .f32) (r : Fin 256) (d : Fin 2048) :
    k0_pay5 (k0_pay4 x g) h s (ix2 r d) = Ffn.modNorm (fun j => x (ix2 r j)) (fun j => g (ix2 0 j)) (fun j => s (ix2 0 j)) (fun j => h (ix2 0 j)) d := by
  pointwise [k0_pay5, k0_pay4, Ffn.modNorm]

/-- The store of the second 256 rows. -/
theorem chunk1 (x : Vec Ideal S256x2048 .f32) (g h s : Vec Ideal S1x2048 .f32) (r : Fin 256) (d : Fin 2048) :
    k0_pay6 x g h s (ix2 r d) = Ffn.modNorm (fun j => x (ix2 r j)) (fun j => g (ix2 0 j)) (fun j => s (ix2 0 j)) (fun j => h (ix2 0 j)) d := by
  pointwise [k0_pay6, Ffn.modNorm]

/-- The store of the third 256 rows. -/
theorem chunk2 (x : Vec Ideal S256x2048 .f32) (g h s : Vec Ideal S1x2048 .f32) (r : Fin 256) (d : Fin 2048) :
    k0_pay8 (k0_pay7 x g) h s (ix2 r d) = Ffn.modNorm (fun j => x (ix2 r j)) (fun j => g (ix2 0 j)) (fun j => s (ix2 0 j)) (fun j => h (ix2 0 j)) d := by
  pointwise [k0_pay8, k0_pay7, Ffn.modNorm]

/-- The store of the fourth 256 rows. -/
theorem chunk3 (x : Vec Ideal S256x2048 .f32) (g h s : Vec Ideal S1x2048 .f32) (r : Fin 256) (d : Fin 2048) :
    k0_pay9 x g h s (ix2 r d) = Ffn.modNorm (fun j => x (ix2 r j)) (fun j => g (ix2 0 j)) (fun j => s (ix2 0 j)) (fun j => h (ix2 0 j)) d := by
  pointwise [k0_pay9, Ffn.modNorm]

/-- The store of a block of the small projection. -/
theorem tile7 (x : Vec Ideal S1024x2048 .bf16) (w : Vec Ideal S2048x128 .bf16) (r : Fin 1024) (e : Fin 128) :
    k0_pay1 x w (ix2 r e) = dotRow (fun d => x (ix2 r d)) (fun d => w (ix2 d e)) := by
  pointwise [k0_pay1, dotRow]

/-- The store of a block of the other part. -/
theorem tile6 (x : Vec Ideal S1024x2048 .bf16) (w : Vec Ideal S2048x1024 .bf16) (r : Fin 1024) (e : Fin 1024) :
    k0_pay3 x w (ix2 r e) = dotRow (fun d => x (ix2 r d)) (fun d => w (ix2 d e)) := by
  pointwise [k0_pay3, k0_pay2, dotRow]

/-- The store of a gate block. -/
theorem tile5 (x : Vec Ideal S1024x2048 .bf16) (w : Vec Ideal S2048x1024 .bf16) (r : Fin 1024) (e : Fin 1024) :
    k0_pay2 x w (ix2 r e) = dotRow (fun d => x (ix2 r d)) (fun d => w (ix2 d e)) := by
  pointwise [k0_pay2, dotRow]

/-- The block indices of the eight windows at a grid point. -/
theorem idx : ∀ t : Fin grid0.N,
    win0_0.index t = ![t.val / 5, 0] ∧ win0_1.index t = ![0, 0] ∧ win0_2.index t = ![0, 0]
    ∧ win0_3.index t = ![0, t.val % 5] ∧ win0_4.index t = ![0, 0]
    ∧ win0_5.index t = ![t.val / 5, min (t.val % 5) 1] ∧ win0_6.index t = ![t.val / 5, t.val % 5 - 2]
    ∧ win0_7.index t = ![t.val / 5, 0] := by decide +kernel

/-- The table row of a block of 256 tokens: the shared one for a sequence's first block, its sequence's own for the
    others. -/
def row (b : ℕ) : ℕ := if b % 9 = 0 then 16 else b / 9

/-- The shift's row in the table, for each of the four blocks of 256 tokens. -/
theorem off1 : ∀ t : Fin grid0.N,
    k0_off1 (grid0.coords t) 0#32 = ![row (t.val / 5 * 4) * 6, 0]
    ∧ k0_off1 (grid0.coords t) 1#32 = ![row (t.val / 5 * 4 + 1) * 6, 0]
    ∧ k0_off1 (grid0.coords t) 2#32 = ![row (t.val / 5 * 4 + 2) * 6, 0]
    ∧ k0_off1 (grid0.coords t) 3#32 = ![row (t.val / 5 * 4 + 3) * 6, 0] := by decide +kernel

/-- The scale's row in the table, for each of the four blocks of 256 tokens. -/
theorem off2 : ∀ t : Fin grid0.N,
    k0_off2 (grid0.coords t) 0#32 = ![row (t.val / 5 * 4) * 6 + 1, 0]
    ∧ k0_off2 (grid0.coords t) 1#32 = ![row (t.val / 5 * 4 + 1) * 6 + 1, 0]
    ∧ k0_off2 (grid0.coords t) 2#32 = ![row (t.val / 5 * 4 + 2) * 6 + 1, 0]
    ∧ k0_off2 (grid0.coords t) 3#32 = ![row (t.val / 5 * 4 + 3) * 6 + 1, 0] := by decide +kernel

/-- A token's table row is inside the table. -/
theorem row_lt (R : Fin 36864) : row (R.val / 256) ≤ 16 := by
  unfold row
  split <;> omega

/-- A token's normalised row, scaled and shifted by its table rows. -/
def normed (X : S36864x2048.Idx → EReal) (g : S1x2048.Idx → EReal) (T : S144x2048.Idx → EReal) (R : Fin 36864) :
    Fin 2048 → EReal :=
  Ffn.modNorm (fun j => X (ix2 R j)) (fun j => g (ix2 0 j))
    (fun j => T (ix2 ⟨row (R.val / 256) * 6 + 1, by have := row_lt R; omega⟩ j))
    (fun j => T (ix2 ⟨row (R.val / 256) * 6, by have := row_lt R; omega⟩ j))

/-- The gate: the products with the weight's first 2048 columns. -/
def prodG (X : S36864x2048.Idx → EReal) (g : S1x2048.Idx → EReal) (T : S144x2048.Idx → EReal)
    (w : S2048x5120.Idx → EReal) : S36864x2048.Idx → EReal := fun i =>
  dotRow (normed X g T (i 0)) (fun d => w (ix2 d ⟨(i 1).val, by have := (i 1).isLt; change (i 1).val < 2048 at this; omega⟩))

/-- The other part: the products with the weight's other columns. -/
def prodA (X : S36864x2048.Idx → EReal) (g : S1x2048.Idx → EReal) (T : S144x2048.Idx → EReal)
    (w : S2048x5120.Idx → EReal) : S36864x3072.Idx → EReal := fun i =>
  dotRow (normed X g T (i 0)) (fun d => w (ix2 d ⟨2048 + (i 1).val, by have := (i 1).isLt; change (i 1).val < 3072 at this; omega⟩))

/-- The small projection: the products with the small weight. -/
def prodS (X : S36864x2048.Idx → EReal) (g : S1x2048.Idx → EReal) (T : S144x2048.Idx → EReal)
    (w : S2048x128.Idx → EReal) : S36864x128.Idx → EReal := fun i =>
  dotRow (normed X g T (i 0)) (fun d => w (ix2 d (i 1)))

/-- Window 0's block at a point, read in the array it is a block of. -/
theorem read0_at (c : Dev nD) (t : Fin grid0.N) (X : Buf (Elt Ideal) ((c.tc : Thread nD τ).loc main_v3))
    (r : Fin 1024) (d : Fin 2048) (R : Fin 36864) (hR : R.val = t.val / 5 * 1024 + r.val) :
    ((cfg0.win 0).blk t).view.read (Elt Ideal) X (ix2 r d) = X (ix2 R d) := by
  obtain ⟨e, -⟩ := idx t
  blk_ext [e]

/-- Window 1's block at a point is its whole array. -/
theorem read1_at (c : Dev nD) (t : Fin grid0.N) (X : Buf (Elt Ideal) ((c.tc : Thread nD τ).loc main_v16))
    (z : Fin 1) (d : Fin 2048) :
    ((cfg0.win 1).blk t).view.read (Elt Ideal) X (ix2 z d) = X (ix2 0 d) := by
  obtain ⟨-, e, -⟩ := idx t
  blk_ext [e]

/-- Window 2's block at a point is its whole array. -/
theorem read2_at (c : Dev nD) (t : Fin grid0.N) (X : Buf (Elt Ideal) ((c.tc : Thread nD τ).loc main_v2))
    (r : Fin 144) (d : Fin 2048) :
    ((cfg0.win 2).blk t).view.read (Elt Ideal) X (ix2 r d) = X (ix2 r d) := by
  obtain ⟨-, -, e, -⟩ := idx t
  blk_ext [e]

/-- Window 3's block at a point, read in the array it is a block of. -/
theorem read3_at (c : Dev nD) (t : Fin grid0.N) (X : Buf (Elt Ideal) ((c.tc : Thread nD τ).loc main_v14))
    (d : Fin 2048) (r : Fin 1024) (R : Fin 5120) (hR : R.val = t.val % 5 * 1024 + r.val) :
    ((cfg0.win 3).blk t).view.read (Elt Ideal) X (ix2 d r) = X (ix2 d R) := by
  obtain ⟨-, -, -, e, -⟩ := idx t
  blk_ext [e]

/-- Window 4's block at a point is its whole array. -/
theorem read4_at (c : Dev nD) (t : Fin grid0.N) (X : Buf (Elt Ideal) ((c.tc : Thread nD τ).loc main_v15))
    (d : Fin 2048) (r : Fin 128) :
    ((cfg0.win 4).blk t).view.read (Elt Ideal) X (ix2 d r) = X (ix2 d r) := by
  obtain ⟨-, -, -, -, e, -⟩ := idx t
  blk_ext [e]

/-- A row of the table read at an offset. -/
theorem ld_row (T : S144x2048.Idx → EReal) (off : Fin 2 → ℕ) (inb : ∀ a, off a + S1x2048.size a ≤ S144x2048.size a) (n : Fin 144)
    (e : off = ![n.val, 0]) (z : Fin 1) (d : Fin 2048) :
    View.ld (Val := Elt Ideal) (e' := .f32) T (Rect.unit (s := S144x2048) off S1x2048.size inb) (ix2 z d) = T (ix2 n d) := by
  subst e
  pointwise

end Cert.Proj

end
-- ==== Proof.ProjResult.lean ====
/- The input projection call's three result arrays after the run are products of the arrays its region reads. -/
module

public import proofs.«01_k».proof.Proof.ProjArray

@[expose] public section

set_option maxRecDepth 16384

noncomputable section

namespace Cert.Proj

open Idealize.ShloMosaic Idealize.ShloMosaic.TcCoe Idealize.SL.Sem
open Cert.Kernel5Ideal Cert.Kernel5Ideal.Gen Cert.Kernel5Ideal.Proj

variable (m : (ℓ : Loc nD τ sig) → Buf (Elt Ideal) ℓ)

/-- A block of 256 rows stored in the scratch, at an index, is the rows' norms. -/
theorem chunk_eq (X : S36864x2048.Idx → EReal) (G : S1x2048.Idx → EReal) (T : S144x2048.Idx → EReal)
    (x : S256x2048.Idx → EReal) (g h s : S1x2048.Idx → EReal) (r : Fin 256) (d : Fin 2048) (R : Fin 36864) (b : ℕ)
    (hb : R.val / 256 = b) (hx : ∀ j : Fin 2048, x (ix2 r j) = X (ix2 R j)) (hg : ∀ j : Fin 2048, g (ix2 0 j) = G (ix2 0 j))
    (hs : ∀ (n : Fin 144) (_ : n.val = row b * 6 + 1) (j : Fin 2048), s (ix2 0 j) = T (ix2 n j))
    (hh : ∀ (n : Fin 144) (_ : n.val = row b * 6) (j : Fin 2048), h (ix2 0 j) = T (ix2 n j)) :
    Ffn.modNorm (fun j => x (ix2 r j)) (fun j => g (ix2 0 j)) (fun j => s (ix2 0 j)) (fun j => h (ix2 0 j)) d
      = normed X G T R d := by
  subst hb
  unfold normed
  simp only [hx, hg, hs ⟨row (R.val / 256) * 6 + 1, by have := row_lt R; omega⟩ rfl,
    hh ⟨row (R.val / 256) * 6, by have := row_lt R; omega⟩ rfl]

/-- The scratch that a row block's first point leaves. -/
theorem sA_at (c : Dev nD) (t : Fin grid0.N) (h : t.val % 5 = 0) (r : Fin 1024) (d : Fin 2048) (R : Fin 36864)
    (hR : R.val = t.val / 5 * 1024 + r.val) :
    sA m c t h (ix2 r d) = normed (V m c main_v3) (V m c main_v16) (V m c main_v2) R d := by
  have ht : t.val < 180 := t.isLt
  have b0 := read0_at c t (V m c main_v3)
  have b1 := read1_at c t (V m c main_v16)
  have b2 := read2_at c t (V m c main_v2)
  obtain ⟨o10, o11, o12, o13⟩ := off1 t
  obtain ⟨o20, o21, o22, o23⟩ := off2 t
  frame_out
  change ∀ r d R, _ → iblk m c 0 t (ix2 r d) = _ at b0
  change ∀ z d, iblk m c 1 t (ix2 z d) = _ at b1
  change ∀ z d, iblk m c 2 t (ix2 z d) = _ at b2
  generalize iblk m c 0 t = q at b0 ⊢
  generalize iblk m c 1 t = g at b1 ⊢
  generalize iblk m c 2 t = v at b2 ⊢
  generalize V m c main_v3 = X at b0 ⊢
  generalize V m c main_v16 = G at b1 ⊢
  generalize V m c main_v2 = T at b2 ⊢
  generalize hy : (ix2 r d : S1024x2048.Idx) = y
  have y0 : (y 0).val = r.val := by subst hy; rfl
  have y1 : y 1 = d := by subst hy; rfl
  clear hy
  canon_tiles x h
  all_goals idx_vars x
  · have e : d = x1 := y1.symm.trans (Fin.ext h1)
    subst e
    refine (chunk3 _ _ _ _ x0 d).trans (chunk_eq X G T _ _ _ _ x0 d R (t.val / 5 * 4 + 3) ?_ (fun j => ?_) (fun j => b1 0 j)
      (fun n hn j => (ld_row v _ _ n ?_ 0 j).trans (b2 n j)) (fun n hn j => (ld_row v _ _ n ?_ 0 j).trans (b2 n j)))
    · omega
    · pointwise
      refine b0 _ _ _ ?_
      dsimp only []
      omega
    · rw [hn]; exact o23
    · rw [hn]; exact o13
  · have e : d = x1 := y1.symm.trans (Fin.ext h1)
    subst e
    refine (chunk2 _ _ _ _ x0 d).trans (chunk_eq X G T _ _ _ _ x0 d R (t.val / 5 * 4 + 2) ?_ (fun j => ?_) (fun j => b1 0 j)
      (fun n hn j => (ld_row v _ _ n ?_ 0 j).trans (b2 n j)) (fun n hn j => (ld_row v _ _ n ?_ 0 j).trans (b2 n j)))
    · omega
    · pointwise
      refine b0 _ _ _ ?_
      dsimp only []
      omega
    · rw [hn]; exact o22
    · rw [hn]; exact o12
  · have e : d = x1 := y1.symm.trans (Fin.ext h1)
    subst e
    refine (chunk1 _ _ _ _ x0 d).trans (chunk_eq X G T _ _ _ _ x0 d R (t.val / 5 * 4 + 1) ?_ (fun j => ?_) (fun j => b1 0 j)
      (fun n hn j => (ld_row v _ _ n ?_ 0 j).trans (b2 n j)) (fun n hn j => (ld_row v _ _ n ?_ 0 j).trans (b2 n j)))
    · omega
    · pointwise
      refine b0 _ _ _ ?_
      dsimp only []
      omega
    · rw [hn]; exact o21
    · rw [hn]; exact o11
  · have e : d = x1 := y1.symm.trans (Fin.ext h1)
    subst e
    refine (chunk0 _ _ _ _ x0 d).trans (chunk_eq X G T _ _ _ _ x0 d R (t.val / 5 * 4) ?_ (fun j => ?_) (fun j => b1 0 j)
      (fun n hn j => (ld_row v _ _ n ?_ 0 j).trans (b2 n j)) (fun n hn j => (ld_row v _ _ n ?_ 0 j).trans (b2 n j)))
    · omega
    · pointwise
      refine b0 _ _ _ ?_
      dsimp only []
      omega
    · rw [hn]; exact o20
    · rw [hn]; exact o10

/-- The scratch that any point leaves: its row block's norms. -/
theorem sc_at (c : Dev nD) (k : ℕ) : ∀ (t : Fin grid0.N) (_ : t.val = k) (r : Fin 1024) (d : Fin 2048) (R : Fin 36864)
    (_ : R.val = t.val / 5 * 1024 + r.val),
    sc m c t.val t.isLt (ix2 r d) = normed (V m c main_v3) (V m c main_v16) (V m c main_v2) R d := by
  induction k with
  | zero =>
    intro t hk r d R hR
    rw [sc_store m c t (by omega)]
    exact sA_at m c t (by omega) r d R hR
  | succ k ih =>
    intro t hk r d R hR
    by_cases h : t.val % 5 = 0
    · rw [sc_store m c t h]
      exact sA_at m c t h r d R hR
    · rw [sc_keep m c t h]
      refine ih ⟨t.val - 1, Nat.lt_of_le_of_lt (Nat.sub_le _ _) t.isLt⟩ ?_ r d R ?_
      · show t.val - 1 = k
        omega
      · show R.val = (t.val - 1) / 5 * 1024 + r.val
        rw [hR, show (t.val - 1) / 5 = t.val / 5 by omega]

/-- The gate block of the first column block is a product of the scratch it leaves. -/
theorem o5A_eq (c : Dev nD) (t : Fin grid0.N) (h : t.val % 5 = 0) :
    o5A m c t h = k0_pay2 (sA m c t h) (iblk m c 3 t) := by
  frame_out
  rw [View.readCov_eq_canon']
  refine congrArg (fun s => k0_pay2 s (iblk m c 3 t)) (funext fun j => congrArg _ ?_)
  idx_vars j
  pointwise

/-- The block of the small projection is a product of the scratch the point leaves. -/
theorem o7A_eq (c : Dev nD) (t : Fin grid0.N) (h : t.val % 5 = 0) :
    o7A m c t h = k0_pay1 (sA m c t h) (iblk m c 4 t) := by
  frame_out
  rw [View.readCov_eq_canon']
  refine congrArg (fun s => k0_pay1 s (iblk m c 4 t)) (funext fun j => congrArg _ ?_)
  idx_vars j
  pointwise

/-- The gate block of the second column block is a product of the scratch it finds. -/
theorem o5B_eq (c : Dev nD) (t : Fin grid0.N) (h : t.val % 5 = 1) (s : Vec Ideal S1024x2048 .bf16) :
    o5B m c t h s = k0_pay2 s (iblk m c 3 t) := by
  frame_out
  exact congrArg (fun s => k0_pay2 s (iblk m c 3 t)) ((Memref.isWhole_whole _).read_unread _)

/-- A later column block's store is a product of the scratch it finds. -/
theorem o6C_eq (c : Dev nD) (t : Fin grid0.N) (h : 2 ≤ t.val % 5) (s : Vec Ideal S1024x2048 .bf16) :
    o6C m c t h s = k0_pay3 s (iblk m c 3 t) := by
  frame_out
  exact congrArg (fun s => k0_pay3 s (iblk m c 3 t)) ((Memref.isWhole_whole _).read_unread _)

/-- A block of products, with the scratch as the norms and the weight's block read in the weight. -/
theorem dot_at (X : S36864x2048.Idx → EReal) (G : S1x2048.Idx → EReal) (T : S144x2048.Idx → EReal) (w : S2048x5120.Idx → EReal)
    (S : S1024x2048.Idx → EReal) (p : S2048x1024.Idx → EReal) (r e : Fin 1024) (R : Fin 36864) (E : Fin 5120)
    (hS : ∀ d : Fin 2048, S (ix2 r d) = normed X G T R d) (hp : ∀ d : Fin 2048, p (ix2 d e) = w (ix2 d E)) :
    dotRow (fun d => S (ix2 r d)) (fun d => p (ix2 d e)) = dotRow (normed X G T R) (fun d => w (ix2 d E)) := by
  have e1 : (fun d => S (ix2 r d)) = normed X G T R := funext hS
  have e2 : (fun d => p (ix2 d e)) = fun d => w (ix2 d E) := funext hp
  rw [e1, e2]

/-- The gate's buffer after any point, at an index. -/
theorem o5_at (c : Dev nD) (k : ℕ) : ∀ (t : Fin grid0.N) (_ : t.val = k) (r e : Fin 1024) (R : Fin 36864) (E : Fin 5120)
    (_ : R.val = t.val / 5 * 1024 + r.val) (_ : E.val = min (t.val % 5) 1 * 1024 + e.val),
    o5 m c t.val t.isLt (ix2 r e)
      = dotRow (normed (V m c main_v3) (V m c main_v16) (V m c main_v2) R) (fun d => V m c main_v14 (ix2 d E)) := by
  induction k with
  | zero =>
    intro t hk r e R E hR hE
    have h : t.val % 5 = 0 := by omega
    rw [o5_first m c t h, o5A_eq m c t h]
    refine (tile5 _ _ r e).trans (dot_at _ _ _ _ _ _ r e R E (fun d => sA_at m c t h r d R hR)
      (fun d => read3_at c t (V m c main_v14) d e E ?_))
    rw [hE, h]; rfl
  | succ k ih =>
    intro t hk r e R E hR hE
    by_cases h : t.val % 5 = 0
    · rw [o5_first m c t h, o5A_eq m c t h]
      refine (tile5 _ _ r e).trans (dot_at _ _ _ _ _ _ r e R E (fun d => sA_at m c t h r d R hR)
        (fun d => read3_at c t (V m c main_v14) d e E ?_))
      rw [hE, h]; rfl
    · by_cases h' : t.val % 5 = 1
      · rw [o5_second m c t h', o5B_eq m c t h']
        refine (tile5 _ _ r e).trans (dot_at _ _ _ _ _ _ r e R E (fun d => ?_)
          (fun d => read3_at c t (V m c main_v14) d e E ?_))
        · refine sc_at m c k ⟨t.val - 1, Nat.lt_of_le_of_lt (Nat.sub_le _ _) t.isLt⟩ ?_ r d R ?_
          · show t.val - 1 = k
            omega
          · show R.val = (t.val - 1) / 5 * 1024 + r.val
            rw [hR, show (t.val - 1) / 5 = t.val / 5 by omega]
        · rw [hE, h']; rfl
      · rw [o5_keep m c t (by omega)]
        refine ih ⟨t.val - 1, Nat.lt_of_le_of_lt (Nat.sub_le _ _) t.isLt⟩ ?_ r e R E ?_ ?_
        · show t.val - 1 = k
          omega
        · show R.val = (t.val - 1) / 5 * 1024 + r.val
          rw [hR, show (t.val - 1) / 5 = t.val / 5 by omega]
        · show E.val = min ((t.val - 1) % 5) 1 * 1024 + e.val
          rw [hE, show min ((t.val - 1) % 5) 1 = min (t.val % 5) 1 by omega]

/-- The small projection's buffer after any point, at an index. -/
theorem o7_at (c : Dev nD) (k : ℕ) : ∀ (t : Fin grid0.N) (_ : t.val = k) (r : Fin 1024) (e : Fin 128) (R : Fin 36864)
    (_ : R.val = t.val / 5 * 1024 + r.val),
    o7 m c t.val t.isLt (ix2 r e)
      = dotRow (normed (V m c main_v3) (V m c main_v16) (V m c main_v2) R) (fun d => V m c main_v15 (ix2 d e)) := by
  have first : ∀ (t : Fin grid0.N) (_ : t.val % 5 = 0) (r : Fin 1024) (e : Fin 128) (R : Fin 36864)
      (_ : R.val = t.val / 5 * 1024 + r.val), o7 m c t.val t.isLt (ix2 r e)
        = dotRow (normed (V m c main_v3) (V m c main_v16) (V m c main_v2) R) (fun d => V m c main_v15 (ix2 d e)) := by
    intro t h r e R hR
    rw [o7_store m c t h, o7A_eq m c t h]
    refine (tile7 _ _ r e).trans ?_
    have e1 : (fun d => sA m c t h (ix2 r d)) = normed (V m c main_v3) (V m c main_v16) (V m c main_v2) R :=
      funext fun d => sA_at m c t h r d R hR
    have e2 : (fun d => iblk m c 4 t (ix2 d e)) = fun d => V m c main_v15 (ix2 d e) :=
      funext fun d => read4_at c t (V m c main_v15) d e
    exact congrArg₂ dotRow e1 e2
  induction k with
  | zero => exact fun t hk => first t (by omega)
  | succ k ih =>
    intro t hk r e R hR
    by_cases h : t.val % 5 = 0
    · exact first t h r e R hR
    · rw [o7_keep m c t h]
      refine ih ⟨t.val - 1, Nat.lt_of_le_of_lt (Nat.sub_le _ _) t.isLt⟩ ?_ r e R ?_
      · show t.val - 1 = k
        omega
      · show R.val = (t.val - 1) / 5 * 1024 + r.val
        rw [hR, show (t.val - 1) / 5 = t.val / 5 by omega]

/-- The other part's buffer after a point that stores into it, at an index. -/
theorem o6_at (c : Dev nD) (t : Fin grid0.N) (h : 2 ≤ t.val % 5) (r e : Fin 1024) (R : Fin 36864) (E : Fin 5120)
    (hR : R.val = t.val / 5 * 1024 + r.val) (hE : E.val = t.val % 5 * 1024 + e.val) :
    o6 m c t (ix2 r e)
      = dotRow (normed (V m c main_v3) (V m c main_v16) (V m c main_v2) R) (fun d => V m c main_v14 (ix2 d E)) := by
  rw [show o6 m c t = o6C m c t h (sc m c (t.val - 1) (Nat.lt_of_le_of_lt (Nat.sub_le _ _) t.isLt)) from dif_pos h, o6C_eq m c t h]
  refine (tile6 _ _ r e).trans (dot_at _ _ _ _ _ _ r e R E (fun d => ?_)
    (fun d => read3_at c t (V m c main_v14) d e E hE))
  refine sc_at m c (t.val - 1) ⟨t.val - 1, Nat.lt_of_le_of_lt (Nat.sub_le _ _) t.isLt⟩ rfl r d R ?_
  show R.val = (t.val - 1) / 5 * 1024 + r.val
  rw [hR, show (t.val - 1) / 5 = t.val / 5 by omega]

/-- The gate after the run. -/
theorem arr5_eq (c : Dev nD) :
    (dats m 0 c).arrAt 5 (cfgs 0).N = prodG (V m c main_v3) (V m c main_v16) (V m c main_v2) (V m c main_v14) := by
  refine (dats m 0 c).arrAt_eq_of_covers 5 _ (by decide +kernel) fun t hf y => ?_
  obtain ⟨-, -, -, -, -, e5, -, -⟩ := idx t
  have ht : t.val < 180 := t.isLt
  have f0 : (((((cfgs 0).win 5).blk t).view.emb y) 0 : ℕ) = t.val / 5 * 1024 + (y 0).val := by blk_simp [e5]
  have f1 : (((((cfgs 0).win 5).blk t).view.emb y) 1 : ℕ) = min (t.val % 5) 1 * 1024 + (y 1).val := by blk_simp [e5]
  blk_simp
  rw [after5]
  have s := o5_at m c t.val t rfl
  generalize o5 m c t.val t.isLt = S at s ⊢
  generalize V m c main_v3 = X at s ⊢
  generalize V m c main_v16 = G at s ⊢
  generalize V m c main_v2 = T at s ⊢
  generalize V m c main_v14 = w at s ⊢
  generalize (((cfgs 0).win 5).blk t).view.emb y = i at f0 f1 ⊢
  obtain ⟨y0, y1, rfl⟩ : ∃ (y0 : Fin 1024) (y1 : Fin 1024), y = ix2 y0 y1 := ⟨y 0, y 1, eq_ix2 y⟩
  obtain ⟨i0, i1, rfl⟩ : ∃ (i0 : Fin 36864) (i1 : Fin 2048), i = ix2 i0 i1 := ⟨i 0, i 1, eq_ix2 i⟩
  exact s y0 y1 i0 ⟨i1.val, by omega⟩ f0 f1

/-- The other part after the run. -/
theorem arr6_eq (c : Dev nD) :
    (dats m 0 c).arrAt 6 (cfgs 0).N = prodA (V m c main_v3) (V m c main_v16) (V m c main_v2) (V m c main_v14) := by
  refine (dats m 0 c).arrAt_eq_of_covers 6 _ (by decide +kernel) fun t hf y => ?_
  obtain ⟨-, -, -, -, -, -, e6, -⟩ := idx t
  have ht : t.val < 180 := t.isLt
  have hj : 2 ≤ t.val % 5 := by
    have := (flush6 t).symm.trans hf
    exact of_decide_eq_true this
  have f0 : (((((cfgs 0).win 6).blk t).view.emb y) 0 : ℕ) = t.val / 5 * 1024 + (y 0).val := by blk_simp [e6]
  have f1 : (((((cfgs 0).win 6).blk t).view.emb y) 1 : ℕ) = (t.val % 5 - 2) * 1024 + (y 1).val := by blk_simp [e6]
  blk_simp
  rw [after6]
  have s := o6_at m c t hj
  generalize o6 m c t = S at s ⊢
  generalize V m c main_v3 = X at s ⊢
  generalize V m c main_v16 = G at s ⊢
  generalize V m c main_v2 = T at s ⊢
  generalize V m c main_v14 = w at s ⊢
  generalize (((cfgs 0).win 6).blk t).view.emb y = i at f0 f1 ⊢
  obtain ⟨y0, y1, rfl⟩ : ∃ (y0 : Fin 1024) (y1 : Fin 1024), y = ix2 y0 y1 := ⟨y 0, y 1, eq_ix2 y⟩
  obtain ⟨i0, i1, rfl⟩ : ∃ (i0 : Fin 36864) (i1 : Fin 3072), i = ix2 i0 i1 := ⟨i 0, i 1, eq_ix2 i⟩
  refine s y0 y1 i0 ⟨2048 + i1.val, by omega⟩ f0 ?_
  change i1.val = (t.val % 5 - 2) * 1024 + y1.val at f1
  show 2048 + i1.val = t.val % 5 * 1024 + y1.val
  omega

/-- The small projection after the run. -/
theorem arr7_eq (c : Dev nD) :
    (dats m 0 c).arrAt 7 (cfgs 0).N = prodS (V m c main_v3) (V m c main_v16) (V m c main_v2) (V m c main_v15) := by
  refine (dats m 0 c).arrAt_eq_of_covers 7 _ (by decide +kernel) fun t hf y => ?_
  obtain ⟨-, -, -, -, -, -, -, e7⟩ := idx t
  have ht : t.val < 180 := t.isLt
  have f0 : (((((cfgs 0).win 7).blk t).view.emb y) 0 : ℕ) = t.val / 5 * 1024 + (y 0).val := by blk_simp [e7]
  have f1 : (((((cfgs 0).win 7).blk t).view.emb y) 1 : ℕ) = (y 1).val := by blk_simp [e7]
  blk_simp
  rw [after7]
  have s := o7_at m c t.val t rfl
  generalize o7 m c t.val t.isLt = S at s ⊢
  generalize V m c main_v3 = X at s ⊢
  generalize V m c main_v16 = G at s ⊢
  generalize V m c main_v2 = T at s ⊢
  generalize V m c main_v15 = w at s ⊢
  generalize (((cfgs 0).win 7).blk t).view.emb y = i at f0 f1 ⊢
  obtain ⟨y0, y1, rfl⟩ : ∃ (y0 : Fin 1024) (y1 : Fin 128), y = ix2 y0 y1 := ⟨y 0, y 1, eq_ix2 y⟩
  obtain ⟨i0, i1, rfl⟩ : ∃ (i0 : Fin 36864) (i1 : Fin 128), i = ix2 i0 i1 := ⟨i 0, i 1, eq_ix2 i⟩
  have e : i1 = y1 := Fin.ext f1
  subst e
  exact s y0 i1 i0 f0

end Cert.Proj

end
-- ==== Proof.ProjRef.lean ====
/- The input projection reference's results at an index. -/
module

public import proofs.«01_k».proof.Proof.Gen.Reference5Ideal.Run
public import proofs.«01_k».proof.Proof.ProjArray
public import Idealize.ShloMosaic.Lib.Pointwise
public import Idealize.ShloMosaic.Lib.Claim
public import Idealize.ShloMosaic.Lib.Tactic.CleanTypes

@[expose] public section

set_option maxRecDepth 16384

noncomputable section

namespace Cert.Proj

open Idealize.ShloMosaic Idealize.ShloMosaic.TcCoe Idealize.SL.Sem
open scoped BigOperators
open Cert.Reference5Ideal Cert.Reference5Ideal.Gen Cert.Reference5Ideal.Value

variable (m : (ℓ : Loc nD τ sig) → Buf (Elt Ideal) ℓ)

/-- The norm of each row. -/
def normR (x : S16x2304x2048.Idx → EReal) (g : S2048.Idx → EReal) : S16x2304x2048.Idx → EReal :=
  mulf (F := Ideal) (φ := .f32) (mulf (F := Ideal) (φ := .f32) x (broadcastInDim S16x2304x2048 ![0, 1, 2] bcast_S16x2304x1_S16x2304x2048_0_1_2
    (Host.rsqrt (F := Ideal) (φ := .f32) (addf (F := Ideal) (φ := .f32) (Host.divf (F := Ideal) (φ := .f32) (broadcastInDim S16x2304x1 ![0, 1] bcast_S16x2304_S16x2304x1_0_1
      (Host.reduceAdd (F := Ideal) (φ := .f32) (mulf (F := Ideal) (φ := .f32) x x) (constant (F := Ideal) S_ .f32 0x00000000#32) reducesTo_S16x2304x2048_S16x2304_d2 h_S_))
      (broadcastInDim S16x2304x1 ![] bcast_S_S16x2304x1 (constant (F := Ideal) S_ .f32 0x45000000#32)))
      (broadcastInDim S16x2304x1 ![] bcast_S_S16x2304x1 (constant (F := Ideal) S_ .f32 0x358637BD#32))))))
    (broadcastInDim S16x2304x2048 ![0, 1, 2] bcast_S1x1x2048_S16x2304x2048_0_1_2 (broadcastInDim S1x1x2048 ![2] bcast_S2048_S1x1x2048_2 g))

/-- Each token's scale: the shared one for the first 256 tokens, its sequence's for the others. -/
def scaleR (t : S17x6x2048.Idx → EReal) : S16x2304x2048.Idx → EReal :=
  concatenate S16x2304x2048 1 [⟨S16x256x2048, (broadcastInDim S16x256x2048 ![2] bcast_S2048_S16x256x2048_2 (shapeCast S2048 (extractStridedSlice S1x1x2048 ![16, 1, 0] t slices_S17x6x2048_S1x1x2048_16_1_0) shapeCasts_S1x1x2048_S2048))⟩, ⟨S16x2048x2048, (broadcastInDim S16x2048x2048 ![0, 1, 2] bcast_S16x1x2048_S16x2048x2048_0_1_2 (broadcastInDim S16x1x2048 ![0, 2] bcast_S16x2048_S16x1x2048_0_2 (shapeCast S16x2048 (extractStridedSlice S16x1x2048 ![0, 1, 0] t slices_S17x6x2048_S16x1x2048_0_1_0) shapeCasts_S16x1x2048_S16x2048)))⟩] concatenates_S16x256x2048_S16x2048x2048_S16x2304x2048_d1

/-- Each token's shift: the shared one for the first 256 tokens, its sequence's for the others. -/
def shiftR (t : S17x6x2048.Idx → EReal) : S16x2304x2048.Idx → EReal :=
  concatenate S16x2304x2048 1 [⟨S16x256x2048, (broadcastInDim S16x256x2048 ![2] bcast_S2048_S16x256x2048_2 (shapeCast S2048 (extractStridedSlice S1x1x2048 ![16, 0, 0] t slices_S17x6x2048_S1x1x2048_16_0_0) shapeCasts_S1x1x2048_S2048))⟩, ⟨S16x2048x2048, (broadcastInDim S16x2048x2048 ![0, 1, 2] bcast_S16x1x2048_S16x2048x2048_0_1_2 (broadcastInDim S16x1x2048 ![0, 2] bcast_S16x2048_S16x1x2048_0_2 (shapeCast S16x2048 (extractStridedSlice S16x1x2048 ![0, 0, 0] t slices_S17x6x2048_S16x1x2048_0_0_0) shapeCasts_S16x1x2048_S16x2048)))⟩] concatenates_S16x256x2048_S16x2048x2048_S16x2304x2048_d1

/-- The norms scaled and shifted, the sequences laid one after another. -/
def flatR (y s h : S16x2304x2048.Idx → EReal) : S36864x2048.Idx → EReal :=
  shapeCast S36864x2048 (addf (F := Ideal) (φ := .f32) (mulf (F := Ideal) (φ := .f32) y (addf (F := Ideal) (φ := .f32)
    (broadcastInDim S16x2304x2048 ![] bcast_S_S16x2304x2048 (constant (F := Ideal) S_ .f32 0x3F800000#32)) s)) h) shapeCasts_S16x2304x2048_S36864x2048

/-- The product of the rows with the weight. -/
def dotR (x : S36864x2048.Idx → EReal) (w : S2048x4816.Idx → EReal) : S36864x4816.Idx → EReal :=
  Host.dotGeneral (F := Ideal) dot_S36864x2048_S2048x4816_S36864x4816_1_0_0_1_n_n none (φ₁ := .f32) (φ₂ := .f32) x w

set_option maxHeartbeats 1000000 in
/-- A row's norm at an index. -/
theorem normR_at (x : S16x2304x2048.Idx → EReal) (g : S2048.Idx → EReal) (b : Fin 16) (r : Fin 2304) (d : Fin 2048) :
    normR x g (ix3 b r d) = x (ix3 b r d) * Ideal.rsqrt (Ideal.div (∑ j, x (ix3 b r j) * x (ix3 b r j)) (Ideal.ofBits .f32 0x45000000#32)
      + Ideal.ofBits .f32 0x358637BD#32) * g (ix1 d) := by
  pointwise [normR]

/-- The table's row of a token. -/
def own (b : Fin 16) (r : Fin 2304) : Fin 17 := if r.val < 256 then 16 else ⟨b.val, by omega⟩

set_option maxHeartbeats 1000000 in
/-- A token's scale is its row of the table. -/
theorem scaleR_at (t : S17x6x2048.Idx → EReal) (b : Fin 16) (r : Fin 2304) (d : Fin 2048) :
    scaleR t (ix3 b r d) = t (ix3 (own b r) 1 d) := by
  unfold own
  by_cases h : r.val < 256
  · rw [if_pos h]
    pointwise [scaleR]
    rw [dif_pos (by omega)]
  · rw [if_neg h]
    pointwise [scaleR]
    rw [dif_neg (by omega)]

set_option maxHeartbeats 1000000 in
/-- A token's shift is its row of the table. -/
theorem shiftR_at (t : S17x6x2048.Idx → EReal) (b : Fin 16) (r : Fin 2304) (d : Fin 2048) :
    shiftR t (ix3 b r d) = t (ix3 (own b r) 0 d) := by
  unfold own
  by_cases h : r.val < 256
  · rw [if_pos h]
    pointwise [shiftR]
    rw [dif_pos (by omega)]
  · rw [if_neg h]
    pointwise [shiftR]
    rw [dif_neg (by omega)]

/-- A row laid after the others, scaled and shifted. -/
theorem flatR_at (y s h : S16x2304x2048.Idx → EReal) (b : Fin 16) (r : Fin 2304) (d : Fin 2048) (R : Fin 36864)
    (hR : R.val = b.val * 2304 + r.val) :
    flatR y s h (ix2 R d) = y (ix3 b r d) * (1 + s (ix3 b r d)) + h (ix3 b r d) := by
  have lt : b.val * 2304 + r.val < 36864 := by omega
  rw [show R = ⟨b.val * 2304 + r.val, lt⟩ from Fin.ext hR]
  pointwise [flatR]

/-- One element of the product with the weight. -/
theorem dotR_at (x : S36864x2048.Idx → EReal) (w : S2048x4816.Idx → EReal) (R : Fin 36864) (e : Fin 4816) :
    dotR x w (ix2 R e) = dotRow (fun d => x (ix2 R d)) (fun d => w (ix2 d e)) := by
  pointwise [dotR, dotRow]

/-- The reference's product before it is split, of its arguments. -/
def wholeR (x : S16x2304x2048.Idx → EReal) (g : S2048.Idx → EReal) (t : S17x6x2048.Idx → EReal) (w : S2048x4816.Idx → EReal) :
    S36864x4816.Idx → EReal :=
  dotR (flatR (normR x g) (scaleR t) (shiftR t)) w

/-- One element of it. -/
theorem wholeR_at (x : S16x2304x2048.Idx → EReal) (g : S2048.Idx → EReal) (t : S17x6x2048.Idx → EReal) (w : S2048x4816.Idx → EReal)
    (b : Fin 16) (r : Fin 2304) (R : Fin 36864) (hR : R.val = b.val * 2304 + r.val) (e : Fin 4816) :
    wholeR x g t w (ix2 R e) = dotRow (Ffn.modNorm (fun j => x (ix3 b r j)) (fun j => g (ix1 j)) (fun j => t (ix3 (own b r) 1 j))
      (fun j => t (ix3 (own b r) 0 j))) (fun d => w (ix2 d e)) := by
  unfold wholeR
  simp only [dotR_at, flatR_at _ _ _ b r _ R hR, normR_at, scaleR_at, shiftR_at]
  rfl

/-- Its first 704 columns, rounded. -/
def part0R (p : S36864x4816.Idx → EReal) : S36864x704.Idx → EReal :=
  truncf (F := Ideal) (φ := .f32) .bf16 (extractStridedSlice S36864x704 ![0, 0] p slices_S36864x4816_S36864x704_0_0) bitsLt_bf16_f32
/-- Its next 1024 columns, rounded. -/
def part1R (p : S36864x4816.Idx → EReal) : S36864x1024.Idx → EReal :=
  truncf (F := Ideal) (φ := .f32) .bf16 (extractStridedSlice S36864x1024 ![0, 704] p slices_S36864x4816_S36864x1024_0_704) bitsLt_bf16_f32
/-- Its next 2048 columns. -/
def part2R (p : S36864x4816.Idx → EReal) : S36864x2048.Idx → EReal :=
  extractStridedSlice S36864x2048 ![0, 1728] p slices_S36864x4816_S36864x2048_0_1728
/-- Its next 16 columns. -/
def part3R (p : S36864x4816.Idx → EReal) : S36864x16.Idx → EReal :=
  extractStridedSlice S36864x16 ![0, 3776] p slices_S36864x4816_S36864x16_0_3776
/-- Its last 1024 columns, rounded. -/
def part4R (p : S36864x4816.Idx → EReal) : S36864x1024.Idx → EReal :=
  truncf (F := Ideal) (φ := .f32) .bf16 (extractStridedSlice S36864x1024 ![0, 3792] p slices_S36864x4816_S36864x1024_0_3792) bitsLt_bf16_f32

/-- Result 0, cut from the whole product, at one row and column. -/
theorem part0R_at (p : S36864x4816.Idx → EReal) (R : Fin 36864) (e : Fin 704) :
    part0R p (ix2 R e) = p (ix2 R ⟨e.val, by omega⟩) := by
  pointwise [part0R]
/-- Result 1, cut from the whole product, at one row and column. -/
theorem part1R_at (p : S36864x4816.Idx → EReal) (R : Fin 36864) (e : Fin 1024) :
    part1R p (ix2 R e) = p (ix2 R ⟨704 + e.val, by omega⟩) := by
  pointwise [part1R]
/-- Result 2, cut from the whole product, at one row and column. -/
theorem part2R_at (p : S36864x4816.Idx → EReal) (R : Fin 36864) (e : Fin 2048) :
    part2R p (ix2 R e) = p (ix2 R ⟨1728 + e.val, by omega⟩) := by
  pointwise [part2R]
/-- Result 3, cut from the whole product, at one row and column. -/
theorem part3R_at (p : S36864x4816.Idx → EReal) (R : Fin 36864) (e : Fin 16) :
    part3R p (ix2 R e) = p (ix2 R ⟨3776 + e.val, by omega⟩) := by
  pointwise [part3R]
/-- Result 4, cut from the whole product, at one row and column. -/
theorem part4R_at (p : S36864x4816.Idx → EReal) (R : Fin 36864) (e : Fin 1024) :
    part4R p (ix2 R e) = p (ix2 R ⟨3792 + e.val, by omega⟩) := by
  pointwise [part4R]

end Cert.Proj
end
-- ==== Proof.ProjHost.lean ====
/- The arrays that the input projection call's region reads, of the kernel's arguments, and the two programs' results. -/
module

public import proofs.«01_k».proof.Proof.ProjResult
public import proofs.«01_k».proof.Proof.ProjRef

@[expose] public section

set_option maxRecDepth 16384

noncomputable section

namespace Cert.Proj

open Idealize.ShloMosaic Idealize.ShloMosaic.TcCoe Idealize.SL.Sem
open Cert.Kernel5Ideal Cert.Kernel5Ideal.Gen Cert.Kernel5Ideal.Proj

variable (m : (ℓ : Loc nD τ sig) → Buf (Elt Ideal) ℓ)

/-- The rows, the sequences laid one after another. -/
def rowsK (x : S16x2304x2048.Idx → EReal) : S36864x2048.Idx → EReal :=
  shapeCast S36864x2048 x shapeCasts_S16x2304x2048_S36864x2048

/-- The norm's weight as one row. -/
def weightK (g : S2048.Idx → EReal) : S1x2048.Idx → EReal := shapeCast S1x2048 g shapeCasts_S2048_S1x2048

/-- The table: the modulation rows, then rows of zeros. -/
def tableK (t : S17x6x2048.Idx → EReal) : S144x2048.Idx → EReal :=
  shapeCast S144x2048 (concatenate S24x6x2048 0 [⟨S17x6x2048, t⟩,
    ⟨S7x6x2048, broadcastInDim S7x6x2048 ![] bcast_S_S7x6x2048 (constant (F := Ideal) S_ .f32 0x00000000#32)⟩]
    concatenates_S17x6x2048_S7x6x2048_S24x6x2048_d0) shapeCasts_S24x6x2048_S144x2048

/-- The weight's columns after the gate's: three groups of them, then zeros. -/
def restK (w : S2048x4816.Idx → EReal) : S2048x3072.Idx → EReal :=
  concatenate (α := EReal) S2048x3072 1 [⟨S2048x1024, extractStridedSlice S2048x1024 ![0, 704] w slices_S2048x4816_S2048x1024_0_704⟩,
    ⟨S2048x1024, extractStridedSlice S2048x1024 ![0, 3792] w slices_S2048x4816_S2048x1024_0_3792⟩,
    ⟨S2048x704, extractStridedSlice S2048x704 ![0, 0] w slices_S2048x4816_S2048x704_0_0⟩,
    ⟨S2048x320, broadcastInDim S2048x320 ![] bcast_S_S2048x320 (constant (F := Ideal) S_ .f32 0x00000000#32)⟩]
    concatenates_S2048x1024_S2048x1024_S2048x704_S2048x320_S2048x3072_d1

/-- The packed weight, rounded: the gate's columns, then the others. -/
def wideK (w : S2048x4816.Idx → EReal) : S2048x5120.Idx → EReal :=
  truncf (F := Ideal) (φ := .f32) .bf16 (concatenate (α := EReal) S2048x5120 1
    [⟨S2048x2048, extractStridedSlice S2048x2048 ![0, 1728] w slices_S2048x4816_S2048x2048_0_1728⟩, ⟨S2048x3072, restK w⟩]
    concatenates_S2048x2048_S2048x3072_S2048x5120_d1) bitsLt_bf16_f32

/-- The small weight, rounded: its sixteen columns, then zeros. -/
def smallK (w : S2048x4816.Idx → EReal) : S2048x128.Idx → EReal :=
  truncf (F := Ideal) (φ := .f32) .bf16 (concatenate (α := EReal) S2048x128 1
    [⟨S2048x16, extractStridedSlice S2048x16 ![0, 3776] w slices_S2048x4816_S2048x16_0_3776⟩,
      ⟨S2048x112, broadcastInDim S2048x112 ![] bcast_S_S2048x112 (constant (F := Ideal) S_ .f32 0x00000000#32)⟩]
    concatenates_S2048x16_S2048x112_S2048x128_d1) bitsLt_bf16_f32

/-- One element of a row. -/
theorem rowsK_at (x : S16x2304x2048.Idx → EReal) (b : Fin 16) (r : Fin 2304) (d : Fin 2048) (R : Fin 36864)
    (hR : R.val = b.val * 2304 + r.val) : rowsK x (ix2 R d) = x (ix3 b r d) := by
  have lt : b.val * 2304 + r.val < 36864 := by omega
  rw [show R = ⟨b.val * 2304 + r.val, lt⟩ from Fin.ext hR]
  pointwise [rowsK]

/-- One element of the norm's weight. -/
theorem weightK_at (g : S2048.Idx → EReal) (z : Fin 1) (d : Fin 2048) : weightK g (ix2 z d) = g (ix1 d) := by
  pointwise [weightK]

/-- A row of the table is a modulation row. -/
theorem tableK_at (t : S17x6x2048.Idx → EReal) (b : Fin 17) (k : Fin 6) (d : Fin 2048) (n : Fin 144)
    (hn : n.val = b.val * 6 + k.val) : tableK t (ix2 n d) = t (ix3 b k d) := by
  have lt : b.val * 6 + k.val < 144 := by omega
  rw [show n = ⟨b.val * 6 + k.val, lt⟩ from Fin.ext hn]
  pointwise [tableK]
  rw [dif_pos (by omega)]
  exact congrArg (fun z => t (ix3 z k d)) (Fin.ext (show (b.val * 6 + k.val) / 6 = b.val by omega))

/-- The packed weight's first columns are the gate's. -/
theorem wideK_gate (w : S2048x4816.Idx → EReal) (d : Fin 2048) (e : Fin 2048) (E : Fin 5120) (hE : E.val = e.val)
    (E' : Fin 4816) (hE' : E'.val = 1728 + e.val) : wideK w (ix2 d E) = w (ix2 d E') := by
  have lt : e.val < 5120 := by omega
  have lt' : 1728 + e.val < 4816 := by omega
  rw [show E = ⟨e.val, lt⟩ from Fin.ext hE, show E' = ⟨1728 + e.val, lt'⟩ from Fin.ext hE']
  pointwise [wideK]
  try rw [dif_pos (by omega)]

/-- The packed weight's other columns. -/
theorem wideK_rest (w : S2048x4816.Idx → EReal) (d : Fin 2048) (e : Fin 3072) (E : Fin 5120) (hE : E.val = 2048 + e.val) :
    wideK w (ix2 d E) = restK w (ix2 d e) := by
  have lt : 2048 + e.val < 5120 := by omega
  rw [show E = ⟨2048 + e.val, lt⟩ from Fin.ext hE]
  pointwise [wideK]
  try rw [dif_neg (by omega)]

/-- The first group after the gate's. -/
theorem restK_0 (w : S2048x4816.Idx → EReal) (d : Fin 2048) (e : Fin 1024) (E : Fin 3072) (hE : E.val = e.val)
    (E' : Fin 4816) (hE' : E'.val = 704 + e.val) : restK w (ix2 d E) = w (ix2 d E') := by
  have lt : e.val < 3072 := by omega
  have lt' : 704 + e.val < 4816 := by omega
  rw [show E = ⟨e.val, lt⟩ from Fin.ext hE, show E' = ⟨704 + e.val, lt'⟩ from Fin.ext hE']
  pointwise [restK]
  try rw [dif_pos (by omega)]

/-- The second group after the gate's. -/
theorem restK_1 (w : S2048x4816.Idx → EReal) (d : Fin 2048) (e : Fin 1024) (E : Fin 3072) (hE : E.val = 1024 + e.val)
    (E' : Fin 4816) (hE' : E'.val = 3792 + e.val) : restK w (ix2 d E) = w (ix2 d E') := by
  have lt : 1024 + e.val < 3072 := by omega
  have lt' : 3792 + e.val < 4816 := by omega
  rw [show E = ⟨1024 + e.val, lt⟩ from Fin.ext hE, show E' = ⟨3792 + e.val, lt'⟩ from Fin.ext hE']
  pointwise [restK]
  try rw [dif_neg (by omega)]
  try rw [dif_pos (by omega)]

/-- The third group after the gate's. -/
theorem restK_2 (w : S2048x4816.Idx → EReal) (d : Fin 2048) (e : Fin 704) (E : Fin 3072) (hE : E.val = 2048 + e.val)
    (E' : Fin 4816) (hE' : E'.val = e.val) : restK w (ix2 d E) = w (ix2 d E') := by
  have lt : 2048 + e.val < 3072 := by omega
  have lt' : e.val < 4816 := by omega
  rw [show E = ⟨2048 + e.val, lt⟩ from Fin.ext hE, show E' = ⟨e.val, lt'⟩ from Fin.ext hE']
  pointwise [restK]
  rw [dif_neg (by omega), dif_neg (by omega), dif_pos (by omega)]
  refine congrArg (fun z : Fin 4816 => w (ix2 d z)) (Fin.ext ?_)
  dsimp only
  omega

/-- The small weight's columns. -/
theorem smallK_at (w : S2048x4816.Idx → EReal) (d : Fin 2048) (e : Fin 16) (E : Fin 128) (hE : E.val = e.val)
    (E' : Fin 4816) (hE' : E'.val = 3776 + e.val) : smallK w (ix2 d E) = w (ix2 d E') := by
  have lt : e.val < 128 := by omega
  have lt' : 3776 + e.val < 4816 := by omega
  rw [show E = ⟨e.val, lt⟩ from Fin.ext hE, show E' = ⟨3776 + e.val, lt'⟩ from Fin.ext hE']
  pointwise [smallK]
  try rw [dif_pos (by omega)]

/-- The rows the region reads. -/
theorem V_x (c : Dev nD) : V m c main_v3 = rowsK (m ((c.tc : Thread nD τ).loc main_arg0) : S16x2304x2048.Idx → EReal) := by
  unfold V V0
  simp only [List.flatten_cons, List.flatten_nil, List.append_nil, StableHlo.after_cons, StableHlo.after_nil]
  after_results_simp
  rfl

/-- The norm's weight the region reads. -/
theorem V_g (c : Dev nD) : V m c main_v16 = weightK (m ((c.tc : Thread nD τ).loc main_arg1) : S2048.Idx → EReal) := by
  unfold V V0
  simp only [List.flatten_cons, List.flatten_nil, List.append_nil, StableHlo.after_cons, StableHlo.after_nil]
  after_results_simp
  rfl

/-- The table the region reads. -/
theorem V_t (c : Dev nD) : V m c main_v2 = tableK (m ((c.tc : Thread nD τ).loc main_arg2) : S17x6x2048.Idx → EReal) := by
  unfold V V0
  simp only [List.flatten_cons, List.flatten_nil, List.append_nil, StableHlo.after_cons, StableHlo.after_nil]
  after_results_simp
  rfl

/-- The packed weight the region reads. -/
theorem V_w (c : Dev nD) : V m c main_v14 = wideK (m ((c.tc : Thread nD τ).loc main_arg3) : S2048x4816.Idx → EReal) := by
  unfold V V0
  simp only [List.flatten_cons, List.flatten_nil, List.append_nil, StableHlo.after_cons, StableHlo.after_nil]
  after_results_simp
  rfl

/-- The small weight the region reads. -/
theorem V_s (c : Dev nD) : V m c main_v15 = smallK (m ((c.tc : Thread nD τ).loc main_arg3) : S2048x4816.Idx → EReal) := by
  unfold V V0
  simp only [List.flatten_cons, List.flatten_nil, List.append_nil, StableHlo.after_cons, StableHlo.after_nil]
  after_results_simp
  rfl

/-- A token's normalised row is the reference's. -/
theorem normed_eq (x : S16x2304x2048.Idx → EReal) (g : S2048.Idx → EReal) (t : S17x6x2048.Idx → EReal)
    (b : Fin 16) (r : Fin 2304) (R : Fin 36864) (hR : R.val = b.val * 2304 + r.val) :
    normed (rowsK x) (weightK g) (tableK t) R
      = Ffn.modNorm (fun j => x (ix3 b r j)) (fun j => g (ix1 j)) (fun j => t (ix3 (own b r) 1 j)) (fun j => t (ix3 (own b r) 0 j)) := by
  have hrow : row (R.val / 256) = (own b r).val := by
    unfold row own
    have h1 : R.val / 256 / 9 = b.val := by omega
    by_cases h : r.val < 256
    · rw [if_pos h, if_pos (by omega)]; rfl
    · rw [if_neg h, if_neg (by omega)]; exact h1
  unfold normed
  have a0 : (fun j => rowsK x (ix2 R j)) = fun j => x (ix3 b r j) := funext fun j => rowsK_at x b r j R hR
  have a1 : (fun j => weightK g (ix2 0 j)) = fun j => g (ix1 j) := funext fun j => weightK_at g 0 j
  have a2 : ∀ h, (fun j => tableK t (ix2 ⟨row (R.val / 256) * 6 + 1, h⟩ j)) = fun j => t (ix3 (own b r) 1 j) :=
    fun h => funext fun j => tableK_at t (own b r) 1 j _ (by rw [← hrow]; rfl)
  have a3 : ∀ h, (fun j => tableK t (ix2 ⟨row (R.val / 256) * 6, h⟩ j)) = fun j => t (ix3 (own b r) 0 j) :=
    fun h => funext fun j => tableK_at t (own b r) 0 j _ (by rw [← hrow]; rfl)
  rw [a0, a1, a2, a3]

/-- One element of the reference's product is a product of the kernel's norms with a column of the weight. -/
theorem whole_at (x : S16x2304x2048.Idx → EReal) (g : S2048.Idx → EReal) (t : S17x6x2048.Idx → EReal) (w : S2048x4816.Idx → EReal)
    (R : Fin 36864) (e : Fin 4816) :
    wholeR x g t w (ix2 R e) = dotRow (normed (rowsK x) (weightK g) (tableK t) R) (fun d => w (ix2 d e)) := by
  have hR : R.val = (⟨R.val / 2304, by omega⟩ : Fin 16).val * 2304 + (⟨R.val % 2304, by omega⟩ : Fin 2304).val := by
    simp only []; omega
  rw [wholeR_at x g t w _ _ R hR e, normed_eq x g t _ _ R hR]

/-- The kernel's gate is the reference's. -/
theorem gate_eq (x : S16x2304x2048.Idx → EReal) (g : S2048.Idx → EReal) (t : S17x6x2048.Idx → EReal) (w : S2048x4816.Idx → EReal) :
    prodG (rowsK x) (weightK g) (tableK t) (wideK w) = part2R (wholeR x g t w) := by
  funext i
  obtain ⟨R, e, rfl⟩ : ∃ (R : Fin 36864) (e : Fin 2048), i = ix2 R e := ⟨i 0, i 1, eq_ix2 i⟩
  rw [part2R_at, whole_at]
  exact congrArg (dotRow _) (funext fun d => wideK_gate w d e _ rfl _ rfl)

/-- The columns of the other part that the first result takes. -/
def part0K (p : S36864x3072.Idx → EReal) : S36864x704.Idx → EReal :=
  extractStridedSlice S36864x704 ![0, 2048] p slices_S36864x3072_S36864x704_0_2048
/-- The columns of the other part that the second result takes. -/
def part1K (p : S36864x3072.Idx → EReal) : S36864x1024.Idx → EReal :=
  extractStridedSlice S36864x1024 ![0, 0] p slices_S36864x3072_S36864x1024_0_0
/-- The columns of the small projection that the fourth result takes. -/
def part3K (p : S36864x128.Idx → EReal) : S36864x16.Idx → EReal :=
  extractStridedSlice S36864x16 ![0, 0] p slices_S36864x128_S36864x16_0_0
/-- The columns of the other part that the last result takes. -/
def part4K (p : S36864x3072.Idx → EReal) : S36864x1024.Idx → EReal :=
  extractStridedSlice S36864x1024 ![0, 1024] p slices_S36864x3072_S36864x1024_0_1024

/-- Result 0, cut from the kernel's arrays, at one row and column. -/
theorem part0K_at (p : S36864x3072.Idx → EReal) (R : Fin 36864) (e : Fin 704) :
    part0K p (ix2 R e) = p (ix2 R ⟨2048 + e.val, by omega⟩) := by
  pointwise [part0K]
/-- Result 1, cut from the kernel's arrays, at one row and column. -/
theorem part1K_at (p : S36864x3072.Idx → EReal) (R : Fin 36864) (e : Fin 1024) :
    part1K p (ix2 R e) = p (ix2 R ⟨e.val, by omega⟩) := by
  pointwise [part1K]
/-- Result 3, cut from the kernel's arrays, at one row and column. -/
theorem part3K_at (p : S36864x128.Idx → EReal) (R : Fin 36864) (e : Fin 16) :
    part3K p (ix2 R e) = p (ix2 R ⟨e.val, by omega⟩) := by
  pointwise [part3K]
/-- Result 4, cut from the kernel's arrays, at one row and column. -/
theorem part4K_at (p : S36864x3072.Idx → EReal) (R : Fin 36864) (e : Fin 1024) :
    part4K p (ix2 R e) = p (ix2 R ⟨1024 + e.val, by omega⟩) := by
  pointwise [part4K]

/-- The first result is the reference's. -/
theorem part0_eq (x : S16x2304x2048.Idx → EReal) (g : S2048.Idx → EReal) (t : S17x6x2048.Idx → EReal) (w : S2048x4816.Idx → EReal) :
    part0K (prodA (rowsK x) (weightK g) (tableK t) (wideK w)) = part0R (wholeR x g t w) := by
  funext i
  obtain ⟨R, e, rfl⟩ : ∃ (R : Fin 36864) (e : Fin 704), i = ix2 R e := ⟨i 0, i 1, eq_ix2 i⟩
  rw [part0R_at, whole_at, part0K_at]
  exact congrArg (dotRow _) (funext fun d => (wideK_rest w d ⟨2048 + e.val, by omega⟩ _ rfl).trans (restK_2 w d e _ rfl _ rfl))

/-- The second result is the reference's. -/
theorem part1_eq (x : S16x2304x2048.Idx → EReal) (g : S2048.Idx → EReal) (t : S17x6x2048.Idx → EReal) (w : S2048x4816.Idx → EReal) :
    part1K (prodA (rowsK x) (weightK g) (tableK t) (wideK w)) = part1R (wholeR x g t w) := by
  funext i
  obtain ⟨R, e, rfl⟩ : ∃ (R : Fin 36864) (e : Fin 1024), i = ix2 R e := ⟨i 0, i 1, eq_ix2 i⟩
  rw [part1R_at, whole_at, part1K_at]
  exact congrArg (dotRow _) (funext fun d => (wideK_rest w d ⟨e.val, by omega⟩ _ rfl).trans (restK_0 w d e _ rfl _ rfl))

/-- The fourth result is the reference's. -/
theorem part3_eq (x : S16x2304x2048.Idx → EReal) (g : S2048.Idx → EReal) (t : S17x6x2048.Idx → EReal) (w : S2048x4816.Idx → EReal) :
    part3K (prodS (rowsK x) (weightK g) (tableK t) (smallK w)) = part3R (wholeR x g t w) := by
  funext i
  obtain ⟨R, e, rfl⟩ : ∃ (R : Fin 36864) (e : Fin 16), i = ix2 R e := ⟨i 0, i 1, eq_ix2 i⟩
  rw [part3R_at, whole_at, part3K_at]
  exact congrArg (dotRow _) (funext fun d => smallK_at w d e _ rfl _ rfl)

/-- The last result is the reference's. -/
theorem part4_eq (x : S16x2304x2048.Idx → EReal) (g : S2048.Idx → EReal) (t : S17x6x2048.Idx → EReal) (w : S2048x4816.Idx → EReal) :
    part4K (prodA (rowsK x) (weightK g) (tableK t) (wideK w)) = part4R (wholeR x g t w) := by
  funext i
  obtain ⟨R, e, rfl⟩ : ∃ (R : Fin 36864) (e : Fin 1024), i = ix2 R e := ⟨i 0, i 1, eq_ix2 i⟩
  rw [part4R_at, whole_at, part4K_at]
  exact congrArg (dotRow _) (funext fun d => (wideK_rest w d ⟨1024 + e.val, by omega⟩ _ rfl).trans (restK_1 w d e _ rfl _ rfl))

end Cert.Proj

end
-- ==== Proof.ProjEnd.lean ====
/- The run of the input projection call's program with its five results, each a part of the arrays its region leaves. -/
module

public import proofs.«01_k».proof.Proof.ProjHost

@[expose] public section

set_option maxRecDepth 16384

noncomputable section

namespace Cert.Proj

open Idealize.ShloMosaic Idealize.ShloMosaic.TcCoe Idealize.SL.Sem
open Cert.Kernel5Ideal Cert.Kernel5Ideal.Gen Cert.Kernel5Ideal.Proj

variable (m : (ℓ : Loc nD τ sig) → Buf (Elt Ideal) ℓ) (ρ : Dev nD → PrngReg)

/-- The eight windows' arrays are different buffers. -/
theorem arr_injective : Function.Injective (Pipeline.arrRef spec0) := launch0.win.arr_inj

/-- The first result after the run is columns of the other part. -/
theorem after_v18 (c : Dev nD) : Pipeline.afterTail₀ cfgs (dats m) 0 (V0 m) [hostOps1] c main_v18
    = part0K ((dats m 0 c).arrAt 6 (cfgs 0).N : S36864x3072.Idx → EReal) := by
  unfold Pipeline.afterTail₀
  simp only [List.flatten_cons, List.flatten_nil, List.append_nil, StableHlo.after_cons, StableHlo.after_nil]
  after_results_simp
  exact congrArg part0K (Pipeline.withArrays_arr spec0 arr_injective c (V0 m c) (fun w => (dats m 0 c).arrAt w (cfgs 0).N) 6)

/-- The second result after the run is columns of the other part. -/
theorem after_v19 (c : Dev nD) : Pipeline.afterTail₀ cfgs (dats m) 0 (V0 m) [hostOps1] c main_v19
    = part1K ((dats m 0 c).arrAt 6 (cfgs 0).N : S36864x3072.Idx → EReal) := by
  unfold Pipeline.afterTail₀
  simp only [List.flatten_cons, List.flatten_nil, List.append_nil, StableHlo.after_cons, StableHlo.after_nil]
  after_results_simp
  exact congrArg part1K (Pipeline.withArrays_arr spec0 arr_injective c (V0 m c) (fun w => (dats m 0 c).arrAt w (cfgs 0).N) 6)

/-- The fourth result after the run is columns of the small projection. -/
theorem after_v20 (c : Dev nD) : Pipeline.afterTail₀ cfgs (dats m) 0 (V0 m) [hostOps1] c main_v20
    = part3K ((dats m 0 c).arrAt 7 (cfgs 0).N : S36864x128.Idx → EReal) := by
  unfold Pipeline.afterTail₀
  simp only [List.flatten_cons, List.flatten_nil, List.append_nil, StableHlo.after_cons, StableHlo.after_nil]
  after_results_simp
  exact congrArg part3K (Pipeline.withArrays_arr spec0 arr_injective c (V0 m c) (fun w => (dats m 0 c).arrAt w (cfgs 0).N) 7)

/-- The last result after the run is columns of the other part. -/
theorem after_v21 (c : Dev nD) : Pipeline.afterTail₀ cfgs (dats m) 0 (V0 m) [hostOps1] c main_v21
    = part4K ((dats m 0 c).arrAt 6 (cfgs 0).N : S36864x3072.Idx → EReal) := by
  unfold Pipeline.afterTail₀
  simp only [List.flatten_cons, List.flatten_nil, List.append_nil, StableHlo.after_cons, StableHlo.after_nil]
  after_results_simp
  exact congrArg part4K (Pipeline.withArrays_arr spec0 arr_injective c (V0 m c) (fun w => (dats m 0 c).arrAt w (cfgs 0).N) 6)

/-- The reference's product before it is split, of the kernel's arguments. -/
def wholeK (c : Dev nD) : Cert.Reference5Ideal.S36864x4816.Idx → EReal :=
  wholeR (m ((c.tc : Thread nD τ).loc main_arg0) : S16x2304x2048.Idx → EReal) (m ((c.tc : Thread nD τ).loc main_arg1) : S2048.Idx → EReal)
    (m ((c.tc : Thread nD τ).loc main_arg2) : S17x6x2048.Idx → EReal) (m ((c.tc : Thread nD τ).loc main_arg3) : S2048x4816.Idx → EReal)

/-- The gate after the run is the reference's. -/
theorem end5 (c : Dev nD) : (dats m 0 c).arrAt 5 (cfgs 0).N = part2R (wholeK m c) := by
  rw [arr5_eq, V_x, V_g, V_t, V_w]
  exact gate_eq _ _ _ _

/-- The other part after the run. -/
theorem end6 (c : Dev nD) : (dats m 0 c).arrAt 6 (cfgs 0).N
    = prodA (rowsK (m ((c.tc : Thread nD τ).loc main_arg0) : S16x2304x2048.Idx → EReal))
        (weightK (m ((c.tc : Thread nD τ).loc main_arg1) : S2048.Idx → EReal))
        (tableK (m ((c.tc : Thread nD τ).loc main_arg2) : S17x6x2048.Idx → EReal))
        (wideK (m ((c.tc : Thread nD τ).loc main_arg3) : S2048x4816.Idx → EReal)) := by
  rw [arr6_eq, V_x, V_g, V_t, V_w]

/-- The small projection after the run. -/
theorem end7 (c : Dev nD) : (dats m 0 c).arrAt 7 (cfgs 0).N
    = prodS (rowsK (m ((c.tc : Thread nD τ).loc main_arg0) : S16x2304x2048.Idx → EReal))
        (weightK (m ((c.tc : Thread nD τ).loc main_arg1) : S2048.Idx → EReal))
        (tableK (m ((c.tc : Thread nD τ).loc main_arg2) : S17x6x2048.Idx → EReal))
        (smallK (m ((c.tc : Thread nD τ).loc main_arg3) : S2048x4816.Idx → EReal)) := by
  rw [arr7_eq, V_x, V_g, V_t, V_s]

/-- The program runs, ends with the parts of the reference's product as its results, and keeps its arguments. -/
theorem run_parts : θ_run defs (onTc (τ := τ) (main (F := Ideal))) ⟨m, fun _ => 0, ρ⟩ fun r => ∀ c : Dev nD,
      r.2.mem ((c.tc : Thread nD τ).loc main_v18) = part0R (wholeK m c)
      ∧ r.2.mem ((c.tc : Thread nD τ).loc main_v19) = part1R (wholeK m c)
      ∧ r.2.mem ((c.tc : Thread nD τ).loc main_v17_0) = part2R (wholeK m c)
      ∧ r.2.mem ((c.tc : Thread nD τ).loc main_v20) = part3R (wholeK m c)
      ∧ r.2.mem ((c.tc : Thread nD τ).loc main_v21) = part4R (wholeK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run_main (F := Ideal) m ρ)
  have e18 : r.2.mem ((c.tc : Thread nD τ).loc main_v18) = part0R (wholeK m c) :=
    (((h c).2 main_v18 (Pipeline.mem_restRefs_of main_v18 (by decide) (by decide))).trans (after_v18 m c)).trans
      ((congrArg part0K (end6 m c)).trans (part0_eq _ _ _ _))
  have e19 : r.2.mem ((c.tc : Thread nD τ).loc main_v19) = part1R (wholeK m c) :=
    (((h c).2 main_v19 (Pipeline.mem_restRefs_of main_v19 (by decide) (by decide))).trans (after_v19 m c)).trans
      ((congrArg part1K (end6 m c)).trans (part1_eq _ _ _ _))
  have e17 : r.2.mem ((c.tc : Thread nD τ).loc main_v17_0) = part2R (wholeK m c) := ((h c).1 5).trans (end5 m c)
  have e20 : r.2.mem ((c.tc : Thread nD τ).loc main_v20) = part3R (wholeK m c) :=
    (((h c).2 main_v20 (Pipeline.mem_restRefs_of main_v20 (by decide) (by decide))).trans (after_v20 m c)).trans
      ((congrArg part3K (end7 m c)).trans (part3_eq _ _ _ _))
  have e21 : r.2.mem ((c.tc : Thread nD τ).loc main_v21) = part4R (wholeK m c) :=
    (((h c).2 main_v21 (Pipeline.mem_restRefs_of main_v21 (by decide) (by decide))).trans (after_v21 m c)).trans
      ((congrArg part4K (end6 m c)).trans (part4_eq _ _ _ _))
  exact ⟨e18, e19, e17, e20, e21,
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩

end Cert.Proj

end
-- ==== Proof.GmmRun.lean ====
/- The experts' product's body, run in each of its four cases: at a row tile's first block of hidden columns it stores
   zeros; in a tile that holds rows it adds the block's product. -/
module

public import proofs.«01_k».proof.Proof.Gen.Kernel6Ideal.Launch
public import proofs.«01_k».proof.Proof.Gen.Kernel6Ideal.Skeleton
public import Idealize.ShloMosaic.Lib.Pipeline.Kit
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel6Ideal.Gmm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

/-- The assertions' model. -/
abbrev World (F : FTy → Type) := MT nD τ sig Unit (Elt F) ℕ (UR sig nD τ) ℕ

/-- The rows are fetched at each row tile's first point. -/
theorem fetch0_0 (a : (pcfg0 (F := F)).Adm) : ∀ t : Fin (cfg0 a).N, ((cfg0 a).win 0).fetch t = true ↔ t.val % 4 = 0 :=
  (fun t => Pipeline.Window.fetchOf_reads cc0_transform_0 reads0_0 hreads0_0 0 (by decide) (by decide) (Pipeline.Window.sep_of_coord cc0_transform_0 0 0 (fun _ => rfl) (by decide)) (P := 4) (by decide) t : ∀ t : Fin grid0.N, Pipeline.Window.fetchOf grid0 false cc0_transform_0 t = true ↔ t.val % 4 = 0)
/-- The result is written back after each row tile's last point. -/
theorem flush0_4 (a : (pcfg0 (F := F)).Adm) : ∀ t : Fin (cfg0 a).N, ((cfg0 a).win 4).flush t = true ↔ t.val % 4 = 3 :=
  (fun t => Pipeline.Window.flushOf_reads cc0_transform_4 reads0_4 hreads0_4 0 (by decide) (by decide) (Pipeline.Window.sep_of_coord cc0_transform_4 0 0 (fun _ => rfl) (by decide)) (P := 4) (m := 3) (by decide) rfl t : ∀ t : Fin grid0.N, Pipeline.Window.flushOf grid0 true cc0_transform_4 t = true ↔ t.val % 4 = 3)

/-- The body at a point, on the buffers the pipeline passes it. -/
abbrev bodyAt0 (a : (pcfg0 (F := F)).Adm) (t : Fin (cfg0 a).N) : Prog (TpuEff nD τ sig (Elt F) Λ₀ .tc) PUnit :=
  cc0_moe_gmm (grid0.coords t) (Memref.whole main_arg4) (Memref.isWhole_whole _) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

variable (m : (ℓ : Loc nD τ sig) → Buf (Elt F) ℓ) (ρ : Dev nD → PrngReg)

/-- The buffers when the region is entered: as launched, the program being the region alone. -/
abbrev V (c : Dev nD) (b : Ref sig .tc) : Buf (Elt F) ((c : Thread nD τ).loc b) := m ((c : Thread nD τ).loc b)

set_option maxHeartbeats 800000 in
/-- The program up to the region: nothing precedes it. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- Argument 0 is as launched. -/
theorem V_main_arg0 (c : Dev nD) : V m c main_arg0 = m ((c : Thread nD τ).loc main_arg0) := rfl
/-- Argument 1 is as launched. -/
theorem V_main_arg1 (c : Dev nD) : V m c main_arg1 = m ((c : Thread nD τ).loc main_arg1) := rfl
/-- Argument 2 is as launched. -/
theorem V_main_arg2 (c : Dev nD) : V m c main_arg2 = m ((c : Thread nD τ).loc main_arg2) := rfl
/-- Argument 3 is as launched. -/
theorem V_main_arg3 (c : Dev nD) : V m c main_arg3 = m ((c : Thread nD τ).loc main_arg3) := rfl
/-- Argument 4 is as launched. -/
theorem V_main_arg4 (c : Dev nD) : V m c main_arg4 = m ((c : Thread nD τ).loc main_arg4) := rfl
/-- Argument 5 is as launched. -/
theorem V_main_arg5 (c : Dev nD) : V m c main_arg5 = m ((c : Thread nD τ).loc main_arg5) := rfl

/-- The two tables' contents. -/
def tbl : pre0.Contents (Elt F) := fun j => V m (0 : Dev nD) (pre0.ref j)
/-- Every device holds those contents: there is one device. -/
theorem V_pre (c : Dev nD) (j : Fin 2) : V m c (pre0.ref j) = tbl m j := by
  obtain rfl : c = 0 := Subsingleton.elim _ _; rfl
/-- Every block the tables choose is inside its array. -/
abbrev Ok : Prop := ok0 (F := F) (tbl m)
/-- The tables' contents with that condition. -/
abbrev adm (hO : Ok m) : (pcfg0 (F := F)).Adm := ⟨tbl m, hO⟩
/-- The pipeline at those tables. -/
abbrev cfgM (hO : Ok m) : Pipeline.Cfg sig Λ₀ := cfg0 (adm m hO)

/-- The table of experts, as the body reads it. -/
abbrev tbM0_0 : Memref sig .tc .smem S152 .i32 := Memref.whole main_arg4
/-- It is a whole buffer. -/
abbrev htbM0_0 : tbM0_0.IsWhole := Memref.isWhole_whole _
/-- The table that says which tiles hold rows. -/
abbrev tbM0_1 : Memref sig .tc .smem S152 .i32 := Memref.whole main_arg5
/-- It is a whole buffer. -/
abbrev htbM0_1 : tbM0_1.IsWhole := Memref.isWhole_whole _

/-- A table's contents. -/
abbrev TbBuf0 (c : Dev nD) {S : Shape} {e : EltTy} (M : Memref sig .tc .smem S e) : Type := Buf (Elt F) (M.view.loc (c : Thread nD τ))
/-- A table held for reading. -/
abbrev tbPt0 (c : Dev nD) {S : Shape} {e : EltTy} (M : Memref sig .tc .smem S e) (f : TbBuf0 (F := F) c M) : sProp (World F) :=
  M.view.loc (c : Thread nD τ) ↦{fullShare.right} f

/-- What the region hands the body of the tables, table by table. -/
theorem PhiT0_eq (c : Dev nD) : (Pipeline.ΦT pre0 (tbl m) c : sProp (World F)) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- A window's block at a point, read in its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Operand 0's buffer holds the point's block of the operand at every point, fetched there or not. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Operand 1's buffer holds the point's block of the operand at every point, fetched there or not. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Operand 2's buffer holds the point's block of the operand at every point, fetched there or not. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Operand 3's buffer holds the point's block of the operand at every point, fetched there or not. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The arguments end unchanged, from a run that ends with every array at the proof data's contents. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

/-- The first branch is taken at a row tile's first block of hidden columns. -/
theorem hcond1 : ∀ t : Fin grid0.N, k0_cond1 (grid0.coords t) = 1#1 ↔ t.val % 4 = 0 :=
  (fun t => by
    have ht : t.val < 608 := Nat.lt_of_lt_of_eq t.isLt N_0
    have e1 : (grid0.coords t 1).val = t.val / 1 % 4 := Pipeline.Grid.coords_val t 1 (by decide) rfl
    simp only [k0_cond1, e1]
    word_cmp
   : ∀ t : Fin grid0.N, k0_cond1 (grid0.coords t) = 1#1 ↔ t.val % 4 = 0)

/-- One of the output's buffers, through which its contents are stated. -/
abbrev VO0_4 : View sig .tc .vmem S512x2048 .f32 := (Memref.whole cc0_stg4_0 : Memref sig .tc .vmem S512x2048 .f32).view
/-- Window 0's buffer at a point. -/
abbrev ms0_0 (hO : Ok m) (t : Fin (cfgM m hO).N) : Memref sig .tc .vmem S512x2048 .bf16 := spec0_0.stage ((cfgM m hO).slots t 0)
/-- It is whole. -/
abbrev hs0_0 (hO : Ok m) (t : Fin (cfgM m hO).N) : (ms0_0 m hO t).IsWhole := hstage0_0 (((cfgM m hO).slots t 0).cast nbuf0_0)
/-- Window 1's buffer at a point. -/
abbrev ms0_1 (hO : Ok m) (t : Fin (cfgM m hO).N) : Memref sig .tc .vmem S1x2048x1024 .bf16 := spec0_1.stage ((cfgM m hO).slots t 1)
/-- It is whole. -/
abbrev hs0_1 (hO : Ok m) (t : Fin (cfgM m hO).N) : (ms0_1 m hO t).IsWhole := hstage0_1 (((cfgM m hO).slots t 1).cast nbuf0_1)
/-- Window 2's buffer at a point. -/
abbrev ms0_2 (hO : Ok m) (t : Fin (cfgM m hO).N) : Memref sig .tc .vmem S1x2048x1024 .bf16 := spec0_2.stage ((cfgM m hO).slots t 2)
/-- It is whole. -/
abbrev hs0_2 (hO : Ok m) (t : Fin (cfgM m hO).N) : (ms0_2 m hO t).IsWhole := hstage0_2 (((cfgM m hO).slots t 2).cast nbuf0_2)
/-- Window 3's buffer at a point. -/
abbrev ms0_3 (hO : Ok m) (t : Fin (cfgM m hO).N) : Memref sig .tc .vmem S1x1024x2048 .bf16 := spec0_3.stage ((cfgM m hO).slots t 3)
/-- It is whole. -/
abbrev hs0_3 (hO : Ok m) (t : Fin (cfgM m hO).N) : (ms0_3 m hO t).IsWhole := hstage0_3 (((cfgM m hO).slots t 3).cast nbuf0_3)
/-- Window 4's buffer at a point. -/
abbrev ms0_4 (hO : Ok m) (t : Fin (cfgM m hO).N) : Memref sig .tc .vmem S512x2048 .f32 := spec0_4.stage ((cfgM m hO).slots t 4)
/-- It is whole. -/
abbrev hs0_4 (hO : Ok m) (t : Fin (cfgM m hO).N) : (ms0_4 m hO t).IsWhole := hstage0_4 (((cfgM m hO).slots t 4).cast nbuf0_4)

-- The run's proof term is large.
set_option maxHeartbeats 1000000 in
/-- First block, no rows: zeros are stored. -/
noncomputable def runZ (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S1x1024x2048 .bf16) (harg7 : arg7.IsWhole) (arg8 : Memref sig .tc .vmem S512x2048 .f32) (harg8 : arg8.IsWhole)  (x0 : Vec F S512x2048 .bf16) (x1 : Vec F S1x2048x1024 .bf16) (x2 : Vec F S1x2048x1024 .bf16) (x3 : Vec F S1x1024x2048 .bf16) (xt0 : TbBuf0 (F := F) c tbM0_0) (xt1 : TbBuf0 (F := F) c tbM0_1) (hc1 : k0_cond1 i = 1#1) (hc2 : ¬(k0_cond2 (View.readAt (Elt F) (tbM0_1).view (Rect.unit (s := S152) (k0_off1 i) S1.size (k0_off1_inb i)).toLoadRect xt1 (Shape.Idx.first (numel1_S1.symm ▸ Nat.one_pos))) = 1#1)) :
    { L4 : List (View.Piece (Elt F) S512x2048 .f32) //
      ∀ (E : Set ℕ) (K : PUnit → sProp (World F)),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ tbPt0 c tbM0_0 xt0 ∗ tbPt0 c tbM0_1 xt1) -∗ K ⟨⟩))
          ⊢ wp frame (wpE (defs₀ (F := F)) Variants.none c none) E (cc0_moe_gmm i tbM0_0 htbM0_0 tbM0_1 htbM0_1 arg4 harg4 arg5 harg5 arg6 harg6 arg7 harg7 arg8 harg8) K } := by
  refine ⟨?_, fun E K => ?run⟩
  case run =>
    simp only [cc0_moe_gmm_eq_skeleton]; unfold cc0_moe_gmm_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg4.eq_unread hf0; obtain rfl := harg5.eq_unread hf1; obtain rfl := harg6.eq_unread hf2; obtain rfl := harg7.eq_unread hf3
    sl_exec (disch := first | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HT0]; · iexact HT0
    iexact HT1

-- The run's proof term is large.
set_option maxHeartbeats 1000000 in
/-- First block, rows: zeros are stored and the product is added. -/
noncomputable def runA (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S1x1024x2048 .bf16) (harg7 : arg7.IsWhole) (arg8 : Memref sig .tc .vmem S512x2048 .f32) (harg8 : arg8.IsWhole)  (x0 : Vec F S512x2048 .bf16) (x1 : Vec F S1x2048x1024 .bf16) (x2 : Vec F S1x2048x1024 .bf16) (x3 : Vec F S1x1024x2048 .bf16) (xt0 : TbBuf0 (F := F) c tbM0_0) (xt1 : TbBuf0 (F := F) c tbM0_1) (hc1 : k0_cond1 i = 1#1) (hc2 : k0_cond2 (View.readAt (Elt F) (tbM0_1).view (Rect.unit (s := S152) (k0_off1 i) S1.size (k0_off1_inb i)).toLoadRect xt1 (Shape.Idx.first (numel1_S1.symm ▸ Nat.one_pos))) = 1#1) :
    { L4 : List (View.Piece (Elt F) S512x2048 .f32) //
      ∀ (E : Set ℕ) (K : PUnit → sProp (World F)),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ tbPt0 c tbM0_0 xt0 ∗ tbPt0 c tbM0_1 xt1) -∗ K ⟨⟩))
          ⊢ wp frame (wpE (defs₀ (F := F)) Variants.none c none) E (cc0_moe_gmm i tbM0_0 htbM0_0 tbM0_1 htbM0_1 arg4 harg4 arg5 harg5 arg6 harg6 arg7 harg7 arg8 harg8) K } := by
  refine ⟨?_, fun E K => ?run⟩
  case run =>
    simp only [cc0_moe_gmm_eq_skeleton]; unfold cc0_moe_gmm_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg4.eq_unread hf0; obtain rfl := harg5.eq_unread hf1; obtain rfl := harg6.eq_unread hf2; obtain rfl := harg7.eq_unread hf3
    sl_exec (disch := first | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HT0]; · iexact HT0
    iexact HT1

-- The run's proof term is large.
set_option maxHeartbeats 1000000 in
/-- A later block, rows: the product is added to what the buffer held. -/
noncomputable def runB (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S1x1024x2048 .bf16) (harg7 : arg7.IsWhole) (arg8 : Memref sig .tc .vmem S512x2048 .f32) (harg8 : arg8.IsWhole)  (x0 : Vec F S512x2048 .bf16) (x1 : Vec F S1x2048x1024 .bf16) (x2 : Vec F S1x2048x1024 .bf16) (x3 : Vec F S1x1024x2048 .bf16) (xt0 : TbBuf0 (F := F) c tbM0_0) (xt1 : TbBuf0 (F := F) c tbM0_1) (xo4 : Vec F S512x2048 .f32) (hc1 : ¬(k0_cond1 i = 1#1)) (hc2 : k0_cond2 (View.readAt (Elt F) (tbM0_1).view (Rect.unit (s := S152) (k0_off1 i) S1.size (k0_off1_inb i)).toLoadRect xt1 (Shape.Idx.first (numel1_S1.symm ▸ Nat.one_pos))) = 1#1) :
    { L4 : List (View.Piece (Elt F) S512x2048 .f32) //
      ∀ (E : Set ℕ) (K : PUnit → sProp (World F)),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xo4 ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ tbPt0 c tbM0_0 xt0 ∗ tbPt0 c tbM0_1 xt1) -∗ K ⟨⟩))
          ⊢ wp frame (wpE (defs₀ (F := F)) Variants.none c none) E (cc0_moe_gmm i tbM0_0 htbM0_0 tbM0_1 htbM0_1 arg4 harg4 arg5 harg5 arg6 harg6 arg7 harg7 arg8 harg8) K } := by
  refine ⟨?_, fun E K => ?run⟩
  case run =>
    simp only [cc0_moe_gmm_eq_skeleton]; unfold cc0_moe_gmm_skel
    unfold owns
    iintro ⟨⟨%f0, %hf0, H0⟩, ⟨%f1, %hf1, H1⟩, ⟨%f2, %hf2, H2⟩, ⟨%f3, %hf3, H3⟩, ⟨%f4, %hf4, H4⟩, HT0, HT1, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HT0]; · iexact HT0
    iexact HT1

set_option maxHeartbeats 1000000 in
/-- A later block, no rows: nothing is stored. -/
theorem runK (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S1x1024x2048 .bf16) (harg7 : arg7.IsWhole) (arg8 : Memref sig .tc .vmem S512x2048 .f32) (harg8 : arg8.IsWhole)  (x0 : Vec F S512x2048 .bf16) (x1 : Vec F S1x2048x1024 .bf16) (x2 : Vec F S1x2048x1024 .bf16) (x3 : Vec F S1x1024x2048 .bf16) (xt0 : TbBuf0 (F := F) c tbM0_0) (xt1 : TbBuf0 (F := F) c tbM0_1) (xo4 : Vec F S512x2048 .f32) (hc1 : ¬(k0_cond1 i = 1#1)) (hc2 : ¬(k0_cond2 (View.readAt (Elt F) (tbM0_1).view (Rect.unit (s := S152) (k0_off1 i) S1.size (k0_off1_inb i)).toLoadRect xt1 (Shape.Idx.first (numel1_S1.symm ▸ Nat.one_pos))) = 1#1)) :
    ∀ (E : Set ℕ) (K : PUnit → sProp (World F)),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xo4 ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xo4 ∗ tbPt0 c tbM0_0 xt0 ∗ tbPt0 c tbM0_1 xt1) -∗ K ⟨⟩))
          ⊢ wp frame (wpE (defs₀ (F := F)) Variants.none c none) E (cc0_moe_gmm i tbM0_0 htbM0_0 tbM0_1 htbM0_1 arg4 harg4 arg5 harg5 arg6 harg6 arg7 harg7 arg8 harg8) K := by
  intro E K
  case _ =>
    simp only [cc0_moe_gmm_eq_skeleton]; unfold cc0_moe_gmm_skel
    unfold owns
    iintro ⟨⟨%f0, %hf0, H0⟩, ⟨%f1, %hf1, H1⟩, ⟨%f2, %hf2, H2⟩, ⟨%f3, %hf3, H3⟩, ⟨%f4, %hf4, H4⟩, HT0, HT1, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [HT0]; · iexact HT0
    iexact HT1

end Cert.Kernel6Ideal.Gmm

end
-- ==== Proof.GmmOk.lean ====
/- The experts' product: with every tile's expert one of the eight, every block the table chooses is inside its array. -/
module

public import proofs.«01_k».proof.Pre_experts_in_range
public import proofs.«01_k».proof.Proof.GmmRun
public import proofs.«01_k».proof.Proof.GmmBitsRun

@[expose] public section

set_option maxRecDepth 16384

noncomputable section

namespace Cert.Gmm

open Idealize.ShloMosaic Idealize.ShloMosaic.TcCoe Idealize.SL.Sem

/-- The precondition's shapes broadcast as it states. -/
theorem pre_facts : Cert.Pre_experts_in_range.Facts := ⟨by decide⟩

/-- A word from zero to seven, read as signed, is below eight. -/
theorem lt_of_word (w : BitVec 32) (h : IntOp.andi (IntOp.cmpi .sge w 0#32) (IntOp.cmpi .slt w 8#32) = 1#1) : w.toNat < 8 := by
  have h1 : (0#32).sle w = true := by
    by_contra hn
    rw [Bool.not_eq_true] at hn
    simp [IntOp.andi, IntOp.cmpi, hn] at h
  have h2 : w.slt 8#32 = true := by
    by_contra hn
    rw [Bool.not_eq_true] at hn
    simp [IntOp.andi, IntOp.cmpi, hn] at h
  rw [BitVec.sle_iff_toInt_le] at h1
  rw [BitVec.slt_iff_toInt_lt] at h2
  rw [BitVec.toInt_eq_toNat_cond] at h1 h2
  have e0 : (0#32 : BitVec 32).toInt = 0 := rfl
  have e8 : (8#32 : BitVec 32).toInt = 8 := rfl
  have := w.isLt
  simp only [BitVec.toInt_eq_toNat_cond, BitVec.toNat_ofNat] at h1 h2
  split at h1 <;> omega

/-- So every tile's expert is below eight. -/
theorem experts_lt {F : FTy → Type} [FloatOps F] [Cert.Pre_experts_in_range.Facts] (a0 : FVec F Cert.Pre_experts_in_range.S77824x2048 .bf16)
    (a1 a2 : FVec F Cert.Pre_experts_in_range.S8x2048x4096 .bf16) (a3 : FVec F Cert.Pre_experts_in_range.S8x4096x2048 .bf16)
    (a4 a5 : IVec Cert.Pre_experts_in_range.S152 32)
    (hp : Cert.Pre_experts_in_range.fn (F := F) a0 a1 a2 a3 a4 a5 = fun _ => 1#1) (i : Cert.Pre_experts_in_range.S152.Idx) :
    (a4 i).toNat < 8 :=
  lt_of_word _ (congrFun hp i)

/-- A block of a first weight is inside it. -/
theorem up_in (w k : BitVec 32) (hw : w.toNat < 8) (hk : k.toNat < 4) :
    ∀ a : Fin 3, ((![w.toNat, (0#32).toNat, k.toNat] : Fin 3 → ℕ) a + 1) * Cert.Kernel6Ideal.S1x2048x1024.size a
      ≤ Cert.Kernel6Ideal.S8x2048x4096.size a
  | ⟨0, _⟩ => by show (w.toNat + 1) * 1 ≤ 8; omega
  | ⟨1, _⟩ => by show (0 + 1) * 2048 ≤ 2048; omega
  | ⟨2, _⟩ => by show (k.toNat + 1) * 1024 ≤ 4096; omega

/-- A block of the last weight is inside it. -/
theorem down_in (w k : BitVec 32) (hw : w.toNat < 8) (hk : k.toNat < 4) :
    ∀ a : Fin 3, ((![w.toNat, k.toNat, (0#32).toNat] : Fin 3 → ℕ) a + 1) * Cert.Kernel6Ideal.S1x1024x2048.size a
      ≤ Cert.Kernel6Ideal.S8x4096x2048.size a
  | ⟨0, _⟩ => by show (w.toNat + 1) * 1 ≤ 8; omega
  | ⟨1, _⟩ => by show (k.toNat + 1) * 1024 ≤ 4096; omega
  | ⟨2, _⟩ => by show (0 + 1) * 2048 ≤ 2048; omega

/-- A block column as a word is below four. -/
theorem col_lt (n : ℕ) (h : n < 4) : (BitVec.ofNat 32 n).toNat < 4 := by
  rw [BitVec.toNat_ofNat]; omega

/-- Every block the table chooses is inside its array. -/
theorem ok_ideal {F : FTy → Type} [FloatOps F] (m : (ℓ : Loc Cert.Kernel6Ideal.nD Cert.Kernel6Ideal.τ Cert.Kernel6Ideal.sig) → Buf (Elt F) ℓ)
    (hT : ∀ i : Cert.Kernel6Ideal.S152.Idx, (Cert.Kernel6Ideal.Gmm.tbl m 0 i : BitVec 32).toNat < 8) : Cert.Kernel6Ideal.Gmm.Ok m := by
  unfold Cert.Kernel6Ideal.Gmm.Ok Cert.Kernel6Ideal.ok0
  exact ⟨fun i => ⟨up_in _ _ (hT _) (col_lt _ (i 1).isLt), .inr (Affine.block_words_dvd (of_decide_eq_true rfl) (by decide))⟩,
    fun i => ⟨up_in _ _ (hT _) (col_lt _ (i 1).isLt), .inr (Affine.block_words_dvd (of_decide_eq_true rfl) (by decide))⟩,
    fun i => ⟨down_in _ _ (hT _) (col_lt _ (i 1).isLt), .inr (Affine.block_words_dvd (of_decide_eq_true rfl) (by decide))⟩⟩

/-- The same of the program on machine floats. -/
theorem ok_bits {F : FTy → Type} [FloatOps F] (m : (ℓ : Loc Cert.Kernel6.nD Cert.Kernel6.τ Cert.Kernel6.sig) → Buf (Elt F) ℓ)
    (hT : ∀ i : Cert.Kernel6.S152.Idx, (Cert.Kernel6.Gmm.tbl m 0 i : BitVec 32).toNat < 8) : Cert.Kernel6.Gmm.Ok m := by
  unfold Cert.Kernel6.Gmm.Ok Cert.Kernel6.ok0
  exact ⟨fun i => ⟨up_in _ _ (hT _) (col_lt _ (i 1).isLt), .inr (Affine.block_words_dvd (of_decide_eq_true rfl) (by decide))⟩,
    fun i => ⟨up_in _ _ (hT _) (col_lt _ (i 1).isLt), .inr (Affine.block_words_dvd (of_decide_eq_true rfl) (by decide))⟩,
    fun i => ⟨down_in _ _ (hT _) (col_lt _ (i 1).isLt), .inr (Affine.block_words_dvd (of_decide_eq_true rfl) (by decide))⟩⟩

end Cert.Gmm

end
-- ==== Proof.GmmRef.lean ====
/- The experts' product's reference at an index. -/
module

public import proofs.«01_k».proof.Proof.Gen.Reference6Ideal.Run
public import proofs.«01_k».proof.Proof.FfnRows
public import Idealize.ShloMosaic.Lib.Pointwise
public import Idealize.ShloMosaic.Lib.Claim
public import Idealize.ShloMosaic.Lib.Tactic.CleanTypes

@[expose] public section

set_option maxRecDepth 16384

noncomputable section

namespace Cert.Gmm

open Idealize.ShloMosaic Idealize.ShloMosaic.TcCoe Idealize.SL.Sem
open scoped BigOperators
open Cert.Reference6Ideal Cert.Reference6Ideal.Gen Cert.Reference6Ideal.Value

/-- Which rows are of which expert: the row's tile names the expert and holds rows. -/
def maskR (te tv : S152.Idx → BitVec 32) : S8x77824.Idx → BitVec 1 :=
  shapeCast S8x77824 (broadcastInDim S8x152x512 ![0, 1, 2] bcast_S8x152x1_S8x152x512_0_1_2 (broadcastInDim S8x152x1 ![0, 1] bcast_S8x152_S8x152x1_0_1
    (andi (cmpi .eq (broadcastInDim S8x152 ![0, 1] bcast_S1x152_S8x152_0_1 (broadcastInDim S1x152 ![1] bcast_S152_S1x152_1 te))
        (broadcastInDim S8x152 ![0, 1] bcast_S8x1_S8x152_0_1 (broadcastInDim S8x1 ![0] bcast_S8_S8x1_0 (iotaInDim S8 32 0))))
      (broadcastInDim S8x152 ![0, 1] bcast_S1x152_S8x152_0_1 (broadcastInDim S1x152 ![1] bcast_S152_S1x152_1
        (cmpi .eq tv (broadcastInDim S152 ![] bcast_S_S152 (constantI S_ 32 1#32)))))))) shapeCasts_S8x152x512_S8x77824

/-- A product of the rows with every expert's weight. -/
def dotR (x : S77824x2048.Idx → EReal) (w : S8x2048x4096.Idx → EReal) : S77824x8x4096.Idx → EReal :=
  Host.dotGeneral (F := Ideal) dot_S77824x2048_S8x2048x4096_S77824x8x4096_1_1_0_02_n_n none (φ₁ := .f32) (φ₂ := .f32)
    (extf (F := Ideal) (φ := .bf16) .f32 x bitsLt_bf16_f32) (extf (F := Ideal) (φ := .bf16) .f32 w bitsLt_bf16_f32)

/-- The silu of the first product times the second. -/
def gateR (a b : S77824x8x4096.Idx → EReal) : S77824x8x4096.Idx → EReal :=
  mulf (F := Ideal) (φ := .f32) (mulf (F := Ideal) (φ := .f32) a (Host.divf (F := Ideal) (φ := .f32)
    (broadcastInDim S77824x8x4096 ![] bcast_S_S77824x8x4096 (constant (F := Ideal) S_ .f32 0x3F800000#32))
    (addf (F := Ideal) (φ := .f32) (broadcastInDim S77824x8x4096 ![] bcast_S_S77824x8x4096 (constant (F := Ideal) S_ .f32 0x3F800000#32))
      (Host.exp (F := Ideal) (φ := .f32) (Host.negf (F := Ideal) (φ := .f32) a))))) b

/-- The gated product times every expert's last weight. -/
def lastR (g : S77824x8x4096.Idx → EReal) (w : S8x4096x2048.Idx → EReal) : S8x77824x2048.Idx → EReal :=
  Host.dotGeneral (F := Ideal) dot_S77824x8x4096_S8x4096x2048_S8x77824x2048_2_1_0_2_1_0 none (φ₁ := .f32) (φ₂ := .f32)
    g (extf (F := Ideal) (φ := .bf16) .f32 w bitsLt_bf16_f32)

/-- The products of each row's own expert, zero for a row of none. -/
def pickR (k : S8x77824.Idx → BitVec 1) (y : S8x77824x2048.Idx → EReal) : S77824x2048.Idx → EReal :=
  Host.reduceAdd (F := Ideal) (φ := .f32) (select (broadcastInDim S8x77824x2048 ![0, 1, 2] bcast_S8x77824x1_S8x77824x2048_0_1_2
      (broadcastInDim S8x77824x1 ![0, 1] bcast_S8x77824_S8x77824x1_0_1 k)) y
    (broadcastInDim S8x77824x2048 ![] bcast_S_S8x77824x2048 (id (constant (F := Ideal) S_ .f32 0x00000000#32))))
    (constant (F := Ideal) S_ .f32 0x00000000#32) reducesTo_S8x77824x2048_S77824x2048_d0 h_S_

/-- The reference's result, of its arguments. -/
def wholeR (x : S77824x2048.Idx → EReal) (w1 w3 : S8x2048x4096.Idx → EReal) (w2 : S8x4096x2048.Idx → EReal)
    (te tv : S152.Idx → BitVec 32) : S77824x2048.Idx → EReal :=
  pickR (maskR te tv) (lastR (gateR (dotR x w1) (dotR x w3)) w2)

set_option maxHeartbeats 1000000 in
/-- A row is of an expert where its tile names the expert and holds rows. -/
theorem maskR_at (te tv : S152.Idx → BitVec 32) (e : Fin 8) (i : Fin 152) (r : Fin 512) (R : Fin 77824) (hR : R.val = i.val * 512 + r.val) :
    maskR te tv (ix2 e R) = IntOp.andi (IntOp.cmpi .eq (te (ix1 i)) (BitVec.ofNat 32 e.val)) (IntOp.cmpi .eq (tv (ix1 i)) 1#32) := by
  have lt : i.val * 512 + r.val < 77824 := by omega
  rw [show R = ⟨i.val * 512 + r.val, lt⟩ from Fin.ext hR]
  pointwise [maskR]

/-- One element of a product with a weight. -/
theorem dotR_at (x : S77824x2048.Idx → EReal) (w : S8x2048x4096.Idx → EReal) (R : Fin 77824) (e : Fin 8) (k : Fin 4096) :
    dotR x w (ix3 R e k) = ∑ d : Fin 2048, x (ix2 R d) * w (ix3 e d k) := by
  pointwise [dotR]

/-- One element of the gated product. -/
theorem gateR_at (a b : S77824x8x4096.Idx → EReal) (R : Fin 77824) (e : Fin 8) (k : Fin 4096) :
    gateR a b (ix3 R e k) = a (ix3 R e k) * Ideal.logistic (a (ix3 R e k)) * b (ix3 R e k) := by
  pointwise [gateR]
  rfl

/-- One element of the last product. -/
theorem lastR_at (g : S77824x8x4096.Idx → EReal) (w : S8x4096x2048.Idx → EReal) (e : Fin 8) (R : Fin 77824) (d : Fin 2048) :
    lastR g w (ix3 e R d) = ∑ k : Fin 4096, g (ix3 R e k) * w (ix3 e k d) := by
  pointwise [lastR]

/-- One element of the result: the sum over the experts. -/
theorem pickR_at (k : S8x77824.Idx → BitVec 1) (y : S8x77824x2048.Idx → EReal) (R : Fin 77824) (d : Fin 2048) :
    pickR k y (ix2 R d) = ∑ e : Fin 8, if k (ix2 e R) = 1#1 then y (ix3 e R d) else 0 := by
  pointwise [pickR]
  refine Finset.sum_congr rfl fun e _ => ?_
  unfold Scalar.select
  rw [show (id (constant (F := Ideal) S_ .f32 0#32) ix0 : EReal) = 0 from Ideal.ofBits_zero_f32]
  rfl

/-- The hidden columns' products of a row with an expert's weights. -/
def rowDot (x : S77824x2048.Idx → EReal) (w1 w3 : S8x2048x4096.Idx → EReal) (w2 : S8x4096x2048.Idx → EReal) (e : Fin 8)
    (R : Fin 77824) (d : Fin 2048) (k : Fin 4096) : EReal :=
  Ffn.gated (fun j => x (ix2 R j)) (fun j => w1 (ix3 e j k)) (fun j => w3 (ix3 e j k)) * w2 (ix3 e k d)

/-- A word below eight is a number's word exactly where it is that number. -/
theorem word_eq_iff (w : BitVec 32) (e : Fin 8) : w = BitVec.ofNat 32 e.val ↔ w.toNat = e.val := by
  rw [← BitVec.toNat_inj, BitVec.toNat_ofNat, Nat.mod_eq_of_lt (by omega)]

/-- The mask of a row, as a condition. -/
theorem mask_iff (a b : BitVec 32) (e : Fin 8) :
    IntOp.andi (IntOp.cmpi .eq a (BitVec.ofNat 32 e.val)) (IntOp.cmpi .eq b 1#32) = 1#1 ↔ a.toNat = e.val ∧ b = 1#32 := by
  rw [← word_eq_iff]
  by_cases h1 : a = BitVec.ofNat 32 e.val
  · by_cases h2 : b = 1#32
    · rw [h1, h2]; simp [IntOp.andi, IntOp.cmpi]
    · have e2 : (b == 1#32) = false := beq_eq_false_iff_ne.mpr h2
      simp [IntOp.andi, IntOp.cmpi, e2, h2]
  · have e1 : (a == BitVec.ofNat 32 e.val) = false := beq_eq_false_iff_ne.mpr h1
    simp [IntOp.andi, IntOp.cmpi, e1, h1]

/-- One element of the reference's result: the products of the tile's expert, zero where the tile is empty. -/
theorem wholeR_at (x : S77824x2048.Idx → EReal) (w1 w3 : S8x2048x4096.Idx → EReal) (w2 : S8x4096x2048.Idx → EReal)
    (te tv : S152.Idx → BitVec 32) (i : Fin 152) (r : Fin 512) (R : Fin 77824) (hR : R.val = i.val * 512 + r.val) (d : Fin 2048)
    (E : Fin 8) (hE : (te (ix1 i)).toNat = E.val) :
    wholeR x w1 w3 w2 te tv (ix2 R d) = if tv (ix1 i) = 1#32 then ∑ k : Fin 4096, rowDot x w1 w3 w2 E R d k else 0 := by
  unfold wholeR
  rw [pickR_at]
  simp only [maskR_at te tv _ i r R hR, mask_iff, hE, lastR_at, gateR_at, dotR_at]
  by_cases h : tv (ix1 i) = 1#32
  · rw [if_pos h]
    refine (Finset.sum_eq_single E (fun e _ he => ?_) (fun h' => absurd (Finset.mem_univ _) h')).trans ?_
    · exact if_neg fun hh => he (Fin.ext hh.1.symm)
    · rw [if_pos ⟨rfl, h⟩]
      rfl
  · rw [if_neg h]
    exact Finset.sum_eq_zero fun e _ => if_neg fun hh => h hh.2

end Cert.Gmm
end
-- ==== Proof.GmmFrame.lean ====
/- The experts' product's frame: what the output's buffer holds after each point, the body at every point, the launch. -/
module

public import proofs.«01_k».proof.Proof.GmmRun

@[expose] public section

set_option maxRecDepth 16384

noncomputable section

namespace Cert.Kernel6Ideal.Gmm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

variable (m : (ℓ : Loc nD τ sig) → Buf (Elt F) ℓ) (ρ : Dev nD → PrngReg)

/-- The table's word for a point's row tile. -/
abbrev word (t : Fin grid0.N) : BitVec 32 :=
  View.readAt (Elt F) (tbM0_1).view (Rect.unit (s := S152) (k0_off1 (grid0.coords t)) S1.size (k0_off1_inb (grid0.coords t))).toLoadRect (tbl m 1) (Shape.Idx.first (numel1_S1.symm ▸ Nat.one_pos))

/-- The point's row tile holds rows. -/
abbrev Valid (t : Fin grid0.N) : Prop := k0_cond2 (word m t) = 1#1

/-- The word, as the table's entry. -/
theorem word_eq (t : Fin grid0.N) : word m t = (tbl m).atD 1 (k0_off1 (grid0.coords t)) := by
  have hb : ∀ a, k0_off1 (grid0.coords t) a + 1 ≤ (pre0.ref 1).ty.shape.size a := fun a => match a with
    | ⟨0, _⟩ => k0_off1_inb (grid0.coords t) 0
  refine Eq.symm (Eq.trans (dif_pos hb) (congrArg (tbl m 1) (funext fun a => Fin.ext ?_)))
  show k0_off1 (grid0.coords t) a = k0_off1 (grid0.coords t) a + 1 * 0
  omega

/-- Nothing is stored at a later block of a tile without rows. -/
theorem idle4 (hO : Ok m) (t : Fin (cfgM m hO).N) :
    (cfgM m hO).idle 4 ((cfgM m hO).grid.coords t) = (!decide (t.val % 4 = 0) && !decide (Valid m t)) := by
  show (!(k0_cond1 (grid0.coords t) == 1#1) && !(k0_cond2 ((tbl m).atD 1 (k0_off1 (grid0.coords t))) == 1#1)) = _
  rw [← word_eq]
  congr 2
  · rw [Bool.eq_iff_iff, beq_iff_eq, decide_eq_true_iff]
    exact hcond1 t

/-- The result is written back after a row tile's last block. -/
theorem flush4 (hO : Ok m) (t : Fin (cfgM m hO).N) : ((cfgM m hO).win 4).flush t = decide (t.val % 4 = 3) := by
  rw [Bool.eq_iff_iff, decide_eq_true_iff]
  exact flush0_4 (adm m hO) t

/-- A first block without rows: its stores cover the output's buffer. -/
theorem coverZ (hO : Ok m) (c : Dev nD) (t : Fin (cfgM m hO).N) (h : t.val % 4 = 0) (hv : ¬Valid m t)  (y : S512x2048.Idx) :
    ∃ pc ∈ (runZ c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) ((hcond1 t).mpr h) hv).1, y ∈ pc.1.set :=
  View.cover_of_tiledL (runZ c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) ((hcond1 t).mpr h) hv).1 S512x2048.size (by sl_kernel_rfl) y
/-- A first block without rows: what the output's buffer holds after it. -/
def oZ (hO : Ok m) (c : Dev nD) (t : Fin (cfgM m hO).N) (h : t.val % 4 = 0) (hv : ¬Valid m t)  : Vec F S512x2048 .f32 :=
  VO0_4.read (Elt F) (VO0_4.writes (Elt F) VO0_4.junk (runZ c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) ((hcond1 t).mpr h) hv).1)

/-- A first block with rows: its stores cover the output's buffer. -/
theorem coverA (hO : Ok m) (c : Dev nD) (t : Fin (cfgM m hO).N) (h : t.val % 4 = 0) (hv : Valid m t)  (y : S512x2048.Idx) :
    ∃ pc ∈ (runA c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) ((hcond1 t).mpr h) hv).1, y ∈ pc.1.set :=
  View.cover_of_tiledL (runA c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) ((hcond1 t).mpr h) hv).1 S512x2048.size (by sl_kernel_rfl) y
/-- A first block with rows: what the output's buffer holds after it. -/
def oA (hO : Ok m) (c : Dev nD) (t : Fin (cfgM m hO).N) (h : t.val % 4 = 0) (hv : Valid m t)  : Vec F S512x2048 .f32 :=
  VO0_4.read (Elt F) (VO0_4.writes (Elt F) VO0_4.junk (runA c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) ((hcond1 t).mpr h) hv).1)

/-- A later block with rows: its stores cover the output's buffer. -/
theorem coverB (hO : Ok m) (c : Dev nD) (t : Fin (cfgM m hO).N) (h : ¬t.val % 4 = 0) (hv : Valid m t) (xo : Vec F S512x2048 .f32) (y : S512x2048.Idx) :
    ∃ pc ∈ (runB c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) xo (fun e => h ((hcond1 t).mp e)) hv).1, y ∈ pc.1.set :=
  View.cover_of_tiledL (runB c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) xo (fun e => h ((hcond1 t).mp e)) hv).1 S512x2048.size (by sl_kernel_rfl) y
/-- A later block with rows: what the output's buffer holds after it. -/
def oB (hO : Ok m) (c : Dev nD) (t : Fin (cfgM m hO).N) (h : ¬t.val % 4 = 0) (hv : Valid m t) (xo : Vec F S512x2048 .f32) : Vec F S512x2048 .f32 :=
  VO0_4.read (Elt F) (VO0_4.writes (Elt F) VO0_4.junk (runB c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) xo (fun e => h ((hcond1 t).mp e)) hv).1)

/-- What a first block leaves. -/
def oF (hO : Ok m) (c : Dev nD) (t : Fin (cfgM m hO).N) (h : t.val % 4 = 0) : Vec F S512x2048 .f32 :=
  if hv : Valid m t then oA m hO c t h hv else oZ m hO c t h hv

/-- What a later block leaves, over what the buffer held. -/
def oL (hO : Ok m) (c : Dev nD) (t : Fin (cfgM m hO).N) (h : ¬t.val % 4 = 0) (xo : Vec F S512x2048 .f32) : Vec F S512x2048 .f32 :=
  if hv : Valid m t then oB m hO c t h hv xo else xo

/-- What the output's buffer holds after position `n`. -/
def outs (hO : Ok m) (c : Dev nD) : (n : ℕ) → n < (cfgM m hO).N → Vec F S512x2048 .f32
  | 0, hn => oF m hO c ⟨0, hn⟩ (Nat.zero_mod _)
  | n + 1, hn =>
    if h : (n + 1) % 4 = 0 then oF m hO c ⟨n + 1, hn⟩ h
    else oL m hO c ⟨n + 1, hn⟩ h (outs hO c n (Nat.lt_of_succ_lt hn))

/-- At a first block. -/
theorem outs_first (hO : Ok m) (c : Dev nD) (t : Fin (cfgM m hO).N) (h : t.val % 4 = 0) :
    outs m hO c t.val t.isLt = oF m hO c t h := by
  obtain ⟨n, hn⟩ := t
  cases n with
  | zero => exact rfl
  | succ n => exact dif_pos h

/-- At a later block. -/
theorem outs_later (hO : Ok m) (c : Dev nD) (t : Fin (cfgM m hO).N) (h : ¬t.val % 4 = 0) :
    outs m hO c t.val t.isLt = oL m hO c t h (outs m hO c (t.val - 1) (Nat.lt_of_le_of_lt (Nat.sub_le _ _) t.isLt)) := by
  obtain ⟨n, hn⟩ := t
  cases n with
  | zero => exact absurd (Nat.zero_mod _) h
  | succ n => exact dif_neg h

/-- At a later block without rows the buffer keeps what it held. -/
theorem outs_keep (hO : Ok m) (c : Dev nD) (t : Fin (cfgM m hO).N) (h : ¬t.val % 4 = 0) (hv : ¬Valid m t) :
    outs m hO c t.val t.isLt = outs m hO c (t.val - 1) (Nat.lt_of_le_of_lt (Nat.sub_le _ _) t.isLt) :=
  (outs_later m hO c t h).trans (dif_neg hv)

/-- The call's proof data: the arrays as the region finds them, each buffer's contents after each point, the region's
    invariant and the tables; nothing owed. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outs m hO c t.val t.isLt
  Φ _ := iprop(Pipeline.ΦA spec0 c ∗ Pipeline.ΦT pre0 (tbl m) c)
  q _ := fullShare
  owed _ := 0

/-- The array behind a window is as launched. -/
theorem A_eq (hO : Ok m) (c : Dev nD) (w : Fin (cfgM m hO).W) : (dats m hO 0 c).A w = V m c (Pipeline.arrRef spec0 w) := by
  dsimp only [dats]

/-- Operand 0's buffer after a point holds the block it held before. -/
theorem after0 (hO : Ok m) (c : Dev nD) (t : Fin (cfgM m hO).N) : (dats m hO 0 c).after 0 t = iblk m hO c 0 t := by dsimp only [dats]; try rfl
/-- Operand 0's buffer before a point holds the point's block of the operand. -/
theorem before0 (hO : Ok m) (c : Dev nD) (t : Fin (cfgM m hO).N) (d) : (dats m hO 0 c).before 0 t d = iblk m hO c 0 t :=
  before0_0_of m hO (dats m hO 0 c) (A_eq m hO c 0) (after0 m hO c) t d
/-- Operand 1's buffer after a point holds the block it held before. -/
theorem after1 (hO : Ok m) (c : Dev nD) (t : Fin (cfgM m hO).N) : (dats m hO 0 c).after 1 t = iblk m hO c 1 t := by dsimp only [dats]; try rfl
/-- Operand 1's buffer before a point holds the point's block of the operand. -/
theorem before1 (hO : Ok m) (c : Dev nD) (t : Fin (cfgM m hO).N) (d) : (dats m hO 0 c).before 1 t d = iblk m hO c 1 t :=
  before0_1_of m hO (dats m hO 0 c) (A_eq m hO c 1) (after1 m hO c) t d
/-- Operand 2's buffer after a point holds the block it held before. -/
theorem after2 (hO : Ok m) (c : Dev nD) (t : Fin (cfgM m hO).N) : (dats m hO 0 c).after 2 t = iblk m hO c 2 t := by dsimp only [dats]; try rfl
/-- Operand 2's buffer before a point holds the point's block of the operand. -/
theorem before2 (hO : Ok m) (c : Dev nD) (t : Fin (cfgM m hO).N) (d) : (dats m hO 0 c).before 2 t d = iblk m hO c 2 t :=
  before0_2_of m hO (dats m hO 0 c) (A_eq m hO c 2) (after2 m hO c) t d
/-- Operand 3's buffer after a point holds the block it held before. -/
theorem after3 (hO : Ok m) (c : Dev nD) (t : Fin (cfgM m hO).N) : (dats m hO 0 c).after 3 t = iblk m hO c 3 t := by dsimp only [dats]; try rfl
/-- Operand 3's buffer before a point holds the point's block of the operand. -/
theorem before3 (hO : Ok m) (c : Dev nD) (t : Fin (cfgM m hO).N) (d) : (dats m hO 0 c).before 3 t d = iblk m hO c 3 t :=
  before0_3_of m hO (dats m hO 0 c) (A_eq m hO c 3) (after3 m hO c) t d
/-- The output's buffer after a point. -/
theorem after4 (hO : Ok m) (c : Dev nD) (t : Fin (cfgM m hO).N) : (dats m hO 0 c).after 4 t = outs m hO c t.val t.isLt := by dsimp only [dats]; try rfl

/-- The output's buffer holds nothing yet exactly before a row tile's first block. -/
theorem fresh4 (hO : Ok m) : ∀ n, n ≤ (cfgM m hO).N → (cfgM m hO).fresh 4 n = decide (n % 4 = 0)
  | 0, _ => rfl
  | n + 1, h => by
    rw [Cfg.fresh_succ (cfgM m hO) 4 n h, flush4, idle4, fresh4 hO n (Nat.le_of_lt h)]
    by_cases h3 : n % 4 = 3
    · have h' : (n + 1) % 4 = 0 := by omega
      simp [h3, h']
    · have h' : ¬(n + 1) % 4 = 0 := by omega
      by_cases h0 : n % 4 = 0
      · simp [h0, h']
      · simp [h3, h0, h']

/-- At a later block the output's buffer holds what the point before left. -/
theorem before4 (hO : Ok m) (c : Dev nD) (t : Fin (cfgM m hO).N) (h : ¬t.val % 4 = 0) (d) :
    (dats m hO 0 c).before 4 t d = outs m hO c (t.val - 1) (Nat.lt_of_le_of_lt (Nat.sub_le _ _) t.isLt) := by
  rw [(dats m hO 0 c).before_out_traj 4 rfl (fun _ _ => rfl) (fun t ht hi hf => ?_) t.val t rfl d, fresh4 m hO t.val (Nat.le_of_lt t.isLt),
    decide_eq_false h, if_neg Bool.false_ne_true]
  · exact after4 m hO c ⟨t.val - 1, Nat.lt_of_le_of_lt (Nat.sub_le _ _) t.isLt⟩
  · rw [fresh4 m hO t.val (Nat.le_of_lt t.isLt)] at hf
    have hv : ¬Valid m t := by
      rw [idle4, Bool.and_eq_true] at hi
      exact of_decide_eq_false (by simpa using hi.2)
    exact (after4 m hO c t).trans ((outs_keep m hO c t (of_decide_eq_false hf) hv).trans
      (after4 m hO c ⟨t.val - 1, Nat.lt_of_le_of_lt (Nat.sub_le _ _) t.isLt⟩).symm)

/-- A point that stores into a buffer leaves the stated contents in it. -/
theorem leaves_live (hO : Ok m) (c : Dev nD) (w : Fin (cfgM m hO).W) (t : Fin (cfgM m hO).N) (h : (cfgM m hO).idle w ((cfgM m hO).grid.coords t) = false) :
    (dats m hO 0 c).leavesExact w t
      = owns (c : Thread nD τ) (((cfgM m hO).win w).stage ((cfgM m hO).slots t w)) fullShare ((dats m hO 0 c).after w t) := by
  unfold Dat.leavesExact; rw [h]

/-- So does a point that writes the buffer back without storing into it. -/
theorem leaves_flushed (hO : Ok m) (c : Dev nD) (w : Fin (cfgM m hO).W) (t : Fin (cfgM m hO).N) (h : (cfgM m hO).idle w ((cfgM m hO).grid.coords t) = true)
    (hf : ((cfgM m hO).win w).flush t = true) :
    (dats m hO 0 c).leavesExact w t
      = owns (c : Thread nD τ) (((cfgM m hO).win w).stage ((cfgM m hO).slots t w)) fullShare ((dats m hO 0 c).after w t) := by
  unfold Dat.leavesExact; rw [h, hf]

/-- What the body is called with at a point. -/
def bodyPre (hO : Ok m) (c : Dev nD) (t : Fin (cfgM m hO).N) : sProp (World F) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- What the body returns. -/
def bodyPost (hO : Ok m) (c : Dev nD) (t : Fin (cfgM m hO).N) : sProp (World F) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ (dats m hO 0 c).leavesExact 4 t)

set_option maxHeartbeats 1600000 in
/-- The body at any point, by its case. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0, before1, before2, before3]
  rw [show (dats m hO 0 c).Φ t.succ = (dats m hO 0 c).Φ t.castSucc from rfl,
    show (dats m hO 0 c).owesAt () t.succ = (dats m hO 0 c).owesAt () t.castSucc from rfl,
    after0, after1, after2, after3]
  rw [show (dats m hO 0 c).Φ t.castSucc = iprop(Pipeline.ΦA spec0 c ∗ Pipeline.ΦT pre0 (tbl m) c) from rfl, PhiT0_eq]
  by_cases h : t.val % 4 = 0
  · have i4 : (cfgM m hO).idle 4 ((cfgM m hO).grid.coords t) = false := by rw [idle4, decide_eq_true h]; rfl
    rw [leaves_live m hO c 4 t i4, after4, outs_first m hO c t h]
    unfold oF
    by_cases hv : Valid m t
    · rw [dif_pos hv]
      unfold oA
      iintro ⟨⟨HΦ, ⟨HT0, HT1⟩⟩, Ho, ⟨%d0, H0⟩, ⟨%d1, H1⟩, ⟨%d2, H2⟩, ⟨%d3, H3⟩, ⟨%d4, H4⟩⟩
      iapply ((runA c (grid0.coords t) _ _ _ _ _ _ _ _ _ _ (iblk m hO c 0 t) (iblk m hO c 1 t) (iblk m hO c 2 t) (iblk m hO c 3 t) (tbl m 0) (tbl m 1) ((hcond1 t).mpr h) hv).2 Set.univ _)
      isplitl [H0]; · iexact H0
      isplitl [H1]; · iexact H1
      isplitl [H2]; · iexact H2
      isplitl [H3]; · iexact H3
      isplitl [H4]; · iexists _; iexact H4
      isplitl [HT0]; · iexact HT0
      isplitl [HT1]; · iexact HT1
      iintro ⟨H0, H1, H2, H3, ⟨%e4, H4⟩, HT0, HT1⟩
      isplitl [HΦ HT0 HT1]
      · isplitl [HΦ]
        · iexact HΦ
        isplitl [HT0]; · iexact HT0
        iexact HT1
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverA m hO c t h hv)
    · rw [dif_neg hv]
      unfold oZ
      iintro ⟨⟨HΦ, ⟨HT0, HT1⟩⟩, Ho, ⟨%d0, H0⟩, ⟨%d1, H1⟩, ⟨%d2, H2⟩, ⟨%d3, H3⟩, ⟨%d4, H4⟩⟩
      iapply ((runZ c (grid0.coords t) _ _ _ _ _ _ _ _ _ _ (iblk m hO c 0 t) (iblk m hO c 1 t) (iblk m hO c 2 t) (iblk m hO c 3 t) (tbl m 0) (tbl m 1) ((hcond1 t).mpr h) hv).2 Set.univ _)
      isplitl [H0]; · iexact H0
      isplitl [H1]; · iexact H1
      isplitl [H2]; · iexact H2
      isplitl [H3]; · iexact H3
      isplitl [H4]; · iexists _; iexact H4
      isplitl [HT0]; · iexact HT0
      isplitl [HT1]; · iexact HT1
      iintro ⟨H0, H1, H2, H3, ⟨%e4, H4⟩, HT0, HT1⟩
      isplitl [HΦ HT0 HT1]
      · isplitl [HΦ]
        · iexact HΦ
        isplitl [HT0]; · iexact HT0
        iexact HT1
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverZ m hO c t h hv)
  · by_cases hv : Valid m t
    · have i4 : (cfgM m hO).idle 4 ((cfgM m hO).grid.coords t) = false := by
        rw [idle4, decide_eq_true hv]; simp
      rw [leaves_live m hO c 4 t i4, after4, outs_later m hO c t h]
      simp only [before4 m hO c t h]
      unfold oL
      rw [dif_pos hv]
      unfold oB
      iintro ⟨⟨HΦ, ⟨HT0, HT1⟩⟩, Ho, ⟨%d0, H0⟩, ⟨%d1, H1⟩, ⟨%d2, H2⟩, ⟨%d3, H3⟩, ⟨%d4, H4⟩⟩
      iapply ((runB c (grid0.coords t) _ _ _ _ _ _ _ _ _ _ (iblk m hO c 0 t) (iblk m hO c 1 t) (iblk m hO c 2 t) (iblk m hO c 3 t) (tbl m 0) (tbl m 1) _ (fun e => h ((hcond1 t).mp e)) hv).2 Set.univ _)
      isplitl [H0]; · iexact H0
      isplitl [H1]; · iexact H1
      isplitl [H2]; · iexact H2
      isplitl [H3]; · iexact H3
      isplitl [H4]; · iexact H4
      isplitl [HT0]; · iexact HT0
      isplitl [HT1]; · iexact HT1
      iintro ⟨H0, H1, H2, H3, ⟨%e4, H4⟩, HT0, HT1⟩
      isplitl [HΦ HT0 HT1]
      · isplitl [HΦ]
        · iexact HΦ
        isplitl [HT0]; · iexact HT0
        iexact HT1
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverB m hO c t h hv _)
    · have i4 : (cfgM m hO).idle 4 ((cfgM m hO).grid.coords t) = true := by
        rw [idle4, decide_eq_false hv, decide_eq_false h]; rfl
      by_cases h3 : t.val % 4 = 3
      · have f4 : ((cfgM m hO).win 4).flush t = true := by rw [flush4, decide_eq_true h3]
        rw [leaves_flushed m hO c 4 t i4 f4, after4, outs_keep m hO c t h hv]
        simp only [before4 m hO c t h]
        iintro ⟨⟨HΦ, ⟨HT0, HT1⟩⟩, Ho, ⟨%d0, H0⟩, ⟨%d1, H1⟩, ⟨%d2, H2⟩, ⟨%d3, H3⟩, ⟨%d4, H4⟩⟩
        iapply ((runK c (grid0.coords t) _ _ _ _ _ _ _ _ _ _ (iblk m hO c 0 t) (iblk m hO c 1 t) (iblk m hO c 2 t) (iblk m hO c 3 t) (tbl m 0) (tbl m 1) _ (fun e => h ((hcond1 t).mp e)) hv) Set.univ _)
        isplitl [H0]; · iexact H0
        isplitl [H1]; · iexact H1
        isplitl [H2]; · iexact H2
        isplitl [H3]; · iexact H3
        isplitl [H4]; · iexact H4
        isplitl [HT0]; · iexact HT0
        isplitl [HT1]; · iexact HT1
        iintro ⟨H0, H1, H2, H3, H4, HT0, HT1⟩
        isplitl [HΦ HT0 HT1]
        · isplitl [HΦ]
          · iexact HΦ
          isplitl [HT0]; · iexact HT0
          iexact HT1
        isplitl [Ho]; · iexact Ho
        isplitl [H0]; · iexact H0
        isplitl [H1]; · iexact H1
        isplitl [H2]; · iexact H2
        isplitl [H3]; · iexact H3
        iexact H4
      · have f4 : ((cfgM m hO).win 4).flush t = false := by rw [flush4, decide_eq_false h3]
        rw [(dats m hO 0 c).leavesExact_idle 4 t i4 f4]
        simp only [before4 m hO c t h]
        iintro ⟨⟨HΦ, ⟨HT0, HT1⟩⟩, Ho, ⟨%d0, H0⟩, ⟨%d1, H1⟩, ⟨%d2, H2⟩, ⟨%d3, H3⟩, ⟨%d4, H4⟩⟩
        iapply ((runK c (grid0.coords t) _ _ _ _ _ _ _ _ _ _ (iblk m hO c 0 t) (iblk m hO c 1 t) (iblk m hO c 2 t) (iblk m hO c 3 t) (tbl m 0) (tbl m 1) _ (fun e => h ((hcond1 t).mp e)) hv) Set.univ _)
        isplitl [H0]; · iexact H0
        isplitl [H1]; · iexact H1
        isplitl [H2]; · iexact H2
        isplitl [H3]; · iexact H3
        isplitl [H4]; · iexact H4
        isplitl [HT0]; · iexact HT0
        isplitl [HT1]; · iexact HT1
        iintro ⟨H0, H1, H2, H3, H4, HT0, HT1⟩
        isplitl [HΦ HT0 HT1]
        · isplitl [HΦ]
          · iexact HΦ
          isplitl [HT0]; · iexact HT0
          iexact HT1
        isplitl [Ho]; · iexact Ho
        isplitl [H0]; · iexact H0
        isplitl [H1]; · iexact H1
        isplitl [H2]; · iexact H2
        isplitl [H3]; · iexact H3
        iexists (VO0_4.read (Elt F) VO0_4.junk); iexact H4

/-- The body table's row at a point is the body. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body's obligation at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

set_option backward.isDefEq.respectTransparency.types false in
/-- The run of the whole program, and every semaphore counter at zero at its end. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The run of the whole program. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The frame: the arguments end unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ hO (dats m hO) (A_eq m hO) (run_main m ρ hO)) ((θ_run defs _ _).mono (fun _ h => h.2) (run_main_quiescent m ρ hO))

end Cert.Kernel6Ideal.Gmm

end
-- ==== Proof.GmmArray.lean ====
/- The experts' product: the body's stores at an index, and its blocks read in the arrays its region reads. -/
module

public import proofs.«01_k».proof.Proof.GmmFrame
public import proofs.«01_k».proof.Proof.FfnRows
public import Idealize.ShloMosaic.Lib.Pipeline.ValueKit

@[expose] public section

set_option maxRecDepth 16384

noncomputable section

namespace Cert.Gmm

open Idealize.ShloMosaic Idealize.ShloMosaic.TcCoe Idealize.SL.Sem
open scoped BigOperators
open Cert.Kernel6Ideal Cert.Kernel6Ideal.Gen Cert.Kernel6Ideal.Gmm

variable (m : (ℓ : Loc nD τ sig) → Buf (Elt Ideal) ℓ)

/-- The store of a tile's first block: zero. -/
theorem clear (r : Fin 512) (d : Fin 2048) : (k0_pay1 (F := Ideal)) (ix2 r d) = 0 := by
  pointwise [k0_pay1]

set_option maxHeartbeats 1000000 in
/-- The store of a block: what the buffer held, and the products of the block's hidden columns. -/
theorem tile (x : Vec Ideal S512x2048 .bf16) (a b : Vec Ideal S1x2048x1024 .bf16) (o : Vec Ideal S512x2048 .f32) (w : Vec Ideal S1x1024x2048 .bf16)
    (r : Fin 512) (d : Fin 2048) :
    k0_pay2 x a b o w (ix2 r d) = o (ix2 r d)
      + ∑ k : Fin 1024, Ffn.gated (fun j => x (ix2 r j)) (fun j => a (ix3 0 j k)) (fun j => b (ix3 0 j k)) * w (ix3 0 k d) := by
  pointwise [k0_pay2, Ffn.gated]

/-- A point's row tile and block. -/
theorem coords : ∀ t : Fin grid0.N, ((grid0.coords t) 0).val = t.val / 4 ∧ ((grid0.coords t) 1).val = t.val % 4 := by decide +kernel

/-- The tile as a table's index. -/
abbrev tileIx (t : Fin grid0.N) : S152.Idx := ix1 ⟨t.val / 4, by have h : t.val < 608 := t.isLt; omega⟩

/-- A table's word at the point's offset is the tile's. -/
theorem at_tile (T : S152.Idx → BitVec 32) (t : Fin grid0.N) (i : S152.Idx) (hi : (i 0).val = k0_off1 (grid0.coords t) 0) : T i = T (tileIx t) := by
  refine congrArg T (funext fun a => ?_)
  match a with
  | ⟨0, _⟩ =>
    refine Fin.ext (hi.trans ?_)
    rw [k0_off1_eq]
    exact (coords t).1

/-- The word that says whether a tile holds rows. -/
theorem word_tile (t : Fin grid0.N) : word m t = (tbl m 1 : S152.Idx → BitVec 32) (tileIx t) :=
  at_tile (tbl m 1 : S152.Idx → BitVec 32) t _ (by show k0_off1 (grid0.coords t) 0 + 1 * 0 = _; omega)

/-- The body's test of a word. -/
theorem cond_iff (w : BitVec 32) : k0_cond2 w = 1#1 ↔ w = 1#32 := by
  by_cases h : w = 1#32
  · subst h
    exact ⟨fun _ => rfl, fun _ => by decide⟩
  · have e : (w == 1#32) = false := beq_eq_false_iff_ne.mpr h
    have : k0_cond2 w = 0#1 := by
      unfold k0_cond2 Scalar.cmpi IntOp.cmpi
      simp only [e]
      decide
    rw [this]
    exact ⟨fun h' => absurd h' (by decide), fun h' => absurd h' h⟩

/-- A tile holds rows where its word is one. -/
theorem valid_iff (t : Fin grid0.N) : Valid m t ↔ (tbl m 1 : S152.Idx → BitVec 32) (tileIx t) = 1#32 := by
  show k0_cond2 (word m t) = 1#1 ↔ _
  rw [word_tile]
  exact cond_iff _

/-- A tile's expert. -/
abbrev expert (t : Fin grid0.N) : ℕ := ((tbl m 0 : S152.Idx → BitVec 32) (tileIx t)).toNat

/-- The block indices of the five windows at a point. -/
theorem idx0 (hO : Ok m) (t : Fin (cfgM m hO).N) : ((cfgM m hO).win 0).index t = ![t.val / 4, 0] := by
  obtain ⟨e0, e1⟩ := coords t
  have ht : t.val < 608 := t.isLt
  show cc0_transform_0 (grid0.coords t) = _
  unfold cc0_transform_0
  simp only [e0, BitVec.toNat_ofNat]
  rw [Nat.mod_eq_of_lt (by omega)]
/-- The result's. -/
theorem idx4 (hO : Ok m) (t : Fin (cfgM m hO).N) : ((cfgM m hO).win 4).index t = ![t.val / 4, 0] := idx0 m hO t
/-- The first weight's: the tile's expert and the block. -/
theorem idx1 (hO : Ok m) (t : Fin (cfgM m hO).N) : ((cfgM m hO).win 1).index t = ![expert m t, 0, t.val % 4] := by
  obtain ⟨e0, e1⟩ := coords t
  show cc0_transform_1 k0_off1_inb numel1_S1 (tbl m) (grid0.coords t) = _
  unfold cc0_transform_1
  simp only [e1, BitVec.toNat_ofNat]
  rw [Nat.mod_eq_of_lt (b := 2 ^ 32) (a := t.val % 4) (by omega)]
  exact congrArg (fun w : BitVec 32 => ![w.toNat, 0, t.val % 4])
    (at_tile (tbl m 0 : S152.Idx → BitVec 32) t _ (by show k0_off1 (grid0.coords t) 0 + 1 * 0 = _; omega))
/-- The second weight's, the same. -/
theorem idx2 (hO : Ok m) (t : Fin (cfgM m hO).N) : ((cfgM m hO).win 2).index t = ![expert m t, 0, t.val % 4] := idx1 m hO t
/-- The last weight's: the tile's expert and the block. -/
theorem idx3 (hO : Ok m) (t : Fin (cfgM m hO).N) : ((cfgM m hO).win 3).index t = ![expert m t, t.val % 4, 0] := by
  obtain ⟨e0, e1⟩ := coords t
  show cc0_transform_3 k0_off1_inb numel1_S1 (tbl m) (grid0.coords t) = _
  unfold cc0_transform_3
  simp only [e1, BitVec.toNat_ofNat]
  rw [Nat.mod_eq_of_lt (b := 2 ^ 32) (a := t.val % 4) (by omega)]
  exact congrArg (fun w : BitVec 32 => ![w.toNat, t.val % 4, 0])
    (at_tile (tbl m 0 : S152.Idx → BitVec 32) t _ (by show k0_off1 (grid0.coords t) 0 + 1 * 0 = _; omega))

/-- The rows' block at a point, read in the rows. -/
theorem read0_at (hO : Ok m) (c : Dev nD) (t : Fin (cfgM m hO).N) (X : Buf (Elt Ideal) ((c.tc : Thread nD τ).loc main_arg0))
    (r : Fin 512) (d : Fin 2048) (R : Fin 77824) (hR : R.val = t.val / 4 * 512 + r.val) :
    (((cfgM m hO).win 0).blk t).view.read (Elt Ideal) X (ix2 r d) = X (ix2 R d) := by
  have e := idx0 m hO t
  blk_ext [e]

/-- The first weight's block at a point, read in the weight. -/
theorem read1_at (hO : Ok m) (c : Dev nD) (t : Fin (cfgM m hO).N) (X : Buf (Elt Ideal) ((c.tc : Thread nD τ).loc main_arg1))
    (z : Fin 1) (d : Fin 2048) (k : Fin 1024) (E : Fin 8) (K : Fin 4096) (hE : E.val = expert m t) (hK : K.val = t.val % 4 * 1024 + k.val) :
    (((cfgM m hO).win 1).blk t).view.read (Elt Ideal) X (ix3 z d k) = X (ix3 E d K) := by
  have e := idx1 m hO t
  rw [← hE] at e
  blk_ext [e]

/-- The second weight's block at a point, read in the weight. -/
theorem read2_at (hO : Ok m) (c : Dev nD) (t : Fin (cfgM m hO).N) (X : Buf (Elt Ideal) ((c.tc : Thread nD τ).loc main_arg2))
    (z : Fin 1) (d : Fin 2048) (k : Fin 1024) (E : Fin 8) (K : Fin 4096) (hE : E.val = expert m t) (hK : K.val = t.val % 4 * 1024 + k.val) :
    (((cfgM m hO).win 2).blk t).view.read (Elt Ideal) X (ix3 z d k) = X (ix3 E d K) := by
  have e := idx2 m hO t
  rw [← hE] at e
  blk_ext [e]

/-- The last weight's block at a point, read in the weight. -/
theorem read3_at (hO : Ok m) (c : Dev nD) (t : Fin (cfgM m hO).N) (X : Buf (Elt Ideal) ((c.tc : Thread nD τ).loc main_arg3))
    (z : Fin 1) (k : Fin 1024) (d : Fin 2048) (E : Fin 8) (K : Fin 4096) (hE : E.val = expert m t) (hK : K.val = t.val % 4 * 1024 + k.val) :
    (((cfgM m hO).win 3).blk t).view.read (Elt Ideal) X (ix3 z k d) = X (ix3 E K d) := by
  have e := idx3 m hO t
  rw [← hE] at e
  blk_ext [e]

/-- The result's block at a point holds the tile's rows. -/
theorem mem4 (hO : Ok m) (t : Fin (cfgM m hO).N) (i : S77824x2048.Idx) (h : (i 0).val / 512 = t.val / 4) :
    i ∈ (((cfgM m hO).win 4).blk t).view.set := by
  have e := idx4 m hO t
  have h0 : (i 0).val < 77824 := (i 0).isLt
  have h1 : (i 1).val < 2048 := (i 1).isLt
  refine (((cfgM m hO).win 4).emb_mem_blk_iff t i).mpr fun a => ?_
  rw [e]
  match a with
  | ⟨0, _⟩ =>
    show t.val / 4 * 512 ≤ (i 0).val ∧ (i 0).val < t.val / 4 * 512 + 512
    omega
  | ⟨1, _⟩ =>
    show 0 * 2048 ≤ (i 1).val ∧ (i 1).val < 0 * 2048 + 2048
    omega

end Cert.Gmm

end
-- ==== Proof.GmmResult.lean ====
/- The experts' product's result array after the run: each row's products with its tile's expert. -/
module

public import proofs.«01_k».proof.Proof.GmmArray
public import proofs.«01_k».proof.Proof.GmmRef

@[expose] public section

set_option maxRecDepth 16384

noncomputable section

namespace Cert.Gmm

open Idealize.ShloMosaic Idealize.ShloMosaic.TcCoe Idealize.SL.Sem
open scoped BigOperators
open Cert.Kernel6Ideal Cert.Kernel6Ideal.Gen Cert.Kernel6Ideal.Gmm

variable (m : (ℓ : Loc nD τ sig) → Buf (Elt Ideal) ℓ)

/-- A block's tile depends on its operands only by their contents. -/
theorem block_congr {x x' : Vec Ideal S512x2048 .bf16} {a a' b b' : Vec Ideal S1x2048x1024 .bf16} {w w' : Vec Ideal S1x1024x2048 .bf16}
    {o : Vec Ideal S512x2048 .f32} (hx : x = x') (ha : a = a') (hb : b = b') (hw : w = w') :
    k0_pay2 x a b o w = k0_pay2 x' a' b' o w' := by
  subst hx ha hb hw
  rfl

/-- A first block without rows leaves zero. -/
theorem oZ_eq (hO : Ok m) (c : Dev nD) (t : Fin (cfgM m hO).N) (h : t.val % 4 = 0) (hv : ¬Valid m t) : oZ m hO c t h hv = k0_pay1 (F := Ideal) := by
  frame_out

/-- A first block with rows leaves its products over zero. -/
theorem oA_eq (hO : Ok m) (c : Dev nD) (t : Fin (cfgM m hO).N) (h : t.val % 4 = 0) (hv : Valid m t) :
    oA m hO c t h hv = k0_pay2 (iblk m hO c 0 t) (iblk m hO c 1 t) (iblk m hO c 2 t) (k0_pay1 (F := Ideal)) (iblk m hO c 3 t) := by
  frame_out
  exact block_congr ((hs0_0 m hO t).read_unread _) ((hs0_1 m hO t).read_unread _) ((hs0_2 m hO t).read_unread _) ((hs0_3 m hO t).read_unread _)

/-- A later block with rows leaves its products over what the buffer held. -/
theorem oB_eq (hO : Ok m) (c : Dev nD) (t : Fin (cfgM m hO).N) (h : ¬t.val % 4 = 0) (hv : Valid m t) (o : Vec Ideal S512x2048 .f32) :
    oB m hO c t h hv o = k0_pay2 (iblk m hO c 0 t) (iblk m hO c 1 t) (iblk m hO c 2 t) o (iblk m hO c 3 t) := by
  frame_out
  exact block_congr ((hs0_0 m hO t).read_unread _) ((hs0_1 m hO t).read_unread _) ((hs0_2 m hO t).read_unread _) ((hs0_3 m hO t).read_unread _)

/-- A hidden column's products, by its number. -/
def term (X : S77824x2048.Idx → EReal) (W1 W3 : S8x2048x4096.Idx → EReal) (W2 : S8x4096x2048.Idx → EReal) (E : Fin 8)
    (R : Fin 77824) (d : Fin 2048) (h : ℕ) : EReal :=
  if hh : h < 4096 then rowDot X W1 W3 W2 E R d ⟨h, hh⟩ else 0

/-- A block's products are those of its hidden columns. -/
theorem block_sum (X : S77824x2048.Idx → EReal) (W1 W3 : S8x2048x4096.Idx → EReal) (W2 : S8x4096x2048.Idx → EReal)
    (x : S512x2048.Idx → EReal) (a b : S1x2048x1024.Idx → EReal) (w : S1x1024x2048.Idx → EReal)
    (E : Fin 8) (r : Fin 512) (R : Fin 77824) (d : Fin 2048) (f : ℕ) (hf : f < 4)
    (hx : ∀ j : Fin 2048, x (ix2 r j) = X (ix2 R j))
    (ha : ∀ (j : Fin 2048) (k : Fin 1024) (K : Fin 4096), K.val = f * 1024 + k.val → a (ix3 0 j k) = W1 (ix3 E j K))
    (hb : ∀ (j : Fin 2048) (k : Fin 1024) (K : Fin 4096), K.val = f * 1024 + k.val → b (ix3 0 j k) = W3 (ix3 E j K))
    (hw : ∀ (k : Fin 1024) (K : Fin 4096), K.val = f * 1024 + k.val → w (ix3 0 k d) = W2 (ix3 E K d)) :
    ∑ k : Fin 1024, Ffn.gated (fun j => x (ix2 r j)) (fun j => a (ix3 0 j k)) (fun j => b (ix3 0 j k)) * w (ix3 0 k d)
      = ∑ k ∈ Finset.range 1024, term X W1 W3 W2 E R d (f * 1024 + k) := by
  rw [Finset.sum_range (fun k => term X W1 W3 W2 E R d (f * 1024 + k))]
  refine Finset.sum_congr rfl fun k _ => ?_
  have lt : f * 1024 + k.val < 4096 := by omega
  unfold term
  rw [dif_pos lt]
  unfold rowDot
  simp only [hx, ha _ k ⟨f * 1024 + k.val, lt⟩ rfl, hb _ k ⟨f * 1024 + k.val, lt⟩ rfl, hw k ⟨f * 1024 + k.val, lt⟩ rfl]

/-- A later block's tile is that of the block before. -/
theorem tile_prev (t : Fin grid0.N) (h : ¬t.val % 4 = 0) :
    tileIx ⟨t.val - 1, Nat.lt_of_le_of_lt (Nat.sub_le _ _) t.isLt⟩ = tileIx t := by
  unfold tileIx
  congr 1
  exact Fin.ext (show (t.val - 1) / 4 = t.val / 4 by omega)

/-- A block's products with the tile's expert, at a point. -/
theorem block_at (hO : Ok m) (c : Dev nD) (t : Fin (cfgM m hO).N) (E : Fin 8) (hE : E.val = expert m t) (r : Fin 512) (R : Fin 77824)
    (hR : R.val = t.val / 4 * 512 + r.val) (d : Fin 2048) (o : Vec Ideal S512x2048 .f32) :
    k0_pay2 (iblk m hO c 0 t) (iblk m hO c 1 t) (iblk m hO c 2 t) o (iblk m hO c 3 t) (ix2 r d)
      = o (ix2 r d) + ∑ k ∈ Finset.range 1024, term (V m c main_arg0) (V m c main_arg1) (V m c main_arg2) (V m c main_arg3) E R d (t.val % 4 * 1024 + k) :=
  (tile _ _ _ _ _ r d).trans (congrArg (o (ix2 r d) + ·) (block_sum _ _ _ _ _ _ _ _ E r R d (t.val % 4) (Nat.mod_lt _ (by omega))
    (fun j => read0_at m hO c t (V m c main_arg0) r j R hR)
    (fun j k K hK => read1_at m hO c t (V m c main_arg1) 0 j k E K hE hK)
    (fun j k K hK => read2_at m hO c t (V m c main_arg2) 0 j k E K hE hK)
    (fun k K hK => read3_at m hO c t (V m c main_arg3) 0 k d E K hE hK)))

/-- In a tile with rows the buffer holds, after a block, the products of the hidden columns so far. -/
theorem outs_at (hO : Ok m) (c : Dev nD) (n : ℕ) : ∀ (t : Fin (cfgM m hO).N) (_ : t.val = n) (_ : Valid m t) (E : Fin 8) (_ : E.val = expert m t)
    (r : Fin 512) (R : Fin 77824) (_ : R.val = t.val / 4 * 512 + r.val) (d : Fin 2048),
    outs m hO c t.val t.isLt (ix2 r d)
      = ∑ k ∈ Finset.range (t.val % 4 * 1024 + 1024), term (V m c main_arg0) (V m c main_arg1) (V m c main_arg2) (V m c main_arg3) E R d k := by
  have first : ∀ (t : Fin (cfgM m hO).N) (_ : t.val % 4 = 0) (_ : Valid m t) (E : Fin 8) (_ : E.val = expert m t)
      (r : Fin 512) (R : Fin 77824) (_ : R.val = t.val / 4 * 512 + r.val) (d : Fin 2048),
      outs m hO c t.val t.isLt (ix2 r d)
        = ∑ k ∈ Finset.range (t.val % 4 * 1024 + 1024), term (V m c main_arg0) (V m c main_arg1) (V m c main_arg2) (V m c main_arg3) E R d k := by
    intro t h hv E hE r R hR d
    rw [outs_first m hO c t h, show oF m hO c t h = oA m hO c t h hv from dif_pos hv, oA_eq]
    refine (block_at m hO c t E hE r R hR d _).trans ?_
    rw [clear, zero_add, h, Nat.zero_mul, Nat.zero_add]
    exact Finset.sum_congr rfl fun k _ => congrArg _ (Nat.zero_add k)
  induction n with
  | zero => exact fun t hn => first t (by omega)
  | succ n ih =>
    intro t hn hv E hE r R hR d
    by_cases h : t.val % 4 = 0
    · exact first t h hv E hE r R hR d
    · have tp := tile_prev t h
      rw [outs_later m hO c t h, show oL m hO c t h (outs m hO c (t.val - 1) (Nat.lt_of_le_of_lt (Nat.sub_le _ _) t.isLt))
        = oB m hO c t h hv (outs m hO c (t.val - 1) (Nat.lt_of_le_of_lt (Nat.sub_le _ _) t.isLt)) from dif_pos hv, oB_eq]
      refine (block_at m hO c t E hE r R hR d _).trans ?_
      have hp := ih ⟨t.val - 1, Nat.lt_of_le_of_lt (Nat.sub_le _ _) t.isLt⟩ (show t.val - 1 = n by omega)
        ((valid_iff m _).mpr ((congrArg (tbl m 1 : S152.Idx → BitVec 32) tp).trans ((valid_iff m t).mp hv))) E
        (hE.trans (congrArg (fun i => ((tbl m 0 : S152.Idx → BitVec 32) i).toNat) tp.symm)) r R
        (show R.val = (t.val - 1) / 4 * 512 + r.val by rw [hR, show (t.val - 1) / 4 = t.val / 4 by omega]) d
      refine (congrArg (· + _) hp).trans ?_
      rw [show (t.val - 1) % 4 * 1024 + 1024 = t.val % 4 * 1024 by omega]
      exact (Finset.sum_range_add _ _ _).symm

/-- In a tile without rows the buffer holds zero. -/
theorem outs_empty (hO : Ok m) (c : Dev nD) (n : ℕ) : ∀ (t : Fin (cfgM m hO).N) (_ : t.val = n) (_ : ¬Valid m t) (r : Fin 512) (d : Fin 2048),
    outs m hO c t.val t.isLt (ix2 r d) = 0 := by
  have first : ∀ (t : Fin (cfgM m hO).N) (_ : t.val % 4 = 0) (_ : ¬Valid m t) (r : Fin 512) (d : Fin 2048),
      outs m hO c t.val t.isLt (ix2 r d) = 0 := by
    intro t h hv r d
    rw [outs_first m hO c t h, show oF m hO c t h = oZ m hO c t h hv from dif_neg hv, oZ_eq]
    exact clear r d
  induction n with
  | zero => exact fun t hn => first t (by omega)
  | succ n ih =>
    intro t hn hv r d
    by_cases h : t.val % 4 = 0
    · exact first t h hv r d
    · have tp := tile_prev t h
      rw [outs_keep m hO c t h hv]
      exact ih ⟨t.val - 1, Nat.lt_of_le_of_lt (Nat.sub_le _ _) t.isLt⟩ (show t.val - 1 = n by omega)
        (fun hp => hv ((valid_iff m t).mpr ((congrArg (tbl m 1 : S152.Idx → BitVec 32) tp).symm.trans ((valid_iff m _).mp hp)))) r d

/-- All the hidden columns' products. -/
theorem term_sum (X : S77824x2048.Idx → EReal) (W1 W3 : S8x2048x4096.Idx → EReal) (W2 : S8x4096x2048.Idx → EReal) (E : Fin 8)
    (R : Fin 77824) (d : Fin 2048) :
    ∑ k ∈ Finset.range 4096, term X W1 W3 W2 E R d k = ∑ k : Fin 4096, rowDot X W1 W3 W2 E R d k := by
  rw [Finset.sum_range]
  exact Finset.sum_congr rfl fun k _ => dif_pos k.isLt

/-- The result's block at a point, read in the result. -/
theorem read4_at (hO : Ok m) (c : Dev nD) (t : Fin (cfgM m hO).N) (X : Buf (Elt Ideal) ((c.tc : Thread nD τ).loc main_v0))
    (r : Fin 512) (d : Fin 2048) (R : Fin 77824) (hR : R.val = t.val / 4 * 512 + r.val) :
    (((cfgM m hO).win 4).blk t).view.read (Elt Ideal) X (ix2 r d) = X (ix2 R d) := by
  have e := idx4 m hO t
  blk_ext [e]

/-- At a tile's last block the buffer holds the reference's values. -/
theorem outs_whole (hO : Ok m) (c : Dev nD) (hT : ∀ i : S152.Idx, ((tbl m 0 : S152.Idx → BitVec 32) i).toNat < 8)
    (t : Fin (cfgM m hO).N) (h3 : t.val % 4 = 3) (r : Fin 512) (d : Fin 2048) (R : Fin 77824) (hR : R.val = t.val / 4 * 512 + r.val) :
    outs m hO c t.val t.isLt (ix2 r d)
      = wholeR (V m c main_arg0) (V m c main_arg1) (V m c main_arg2) (V m c main_arg3) (tbl m 0) (tbl m 1) (ix2 R d) := by
  have ht : t.val < 608 := t.isLt
  refine Eq.trans ?_ (wholeR_at _ _ _ _ (tbl m 0) (tbl m 1) ⟨t.val / 4, by omega⟩ r R hR d ⟨expert m t, hT _⟩ rfl).symm
  by_cases hv : Valid m t
  · refine (outs_at m hO c t.val t rfl hv ⟨expert m t, hT _⟩ rfl r R hR d).trans ?_
    rw [h3]
    exact (term_sum _ _ _ _ _ _ _).trans (if_pos ((valid_iff m t).mp hv)).symm
  · exact (outs_empty m hO c t.val t rfl hv r d).trans (if_neg fun h => hv ((valid_iff m t).mpr h)).symm

/-- The result after the run is the reference's, of the arguments. -/
theorem arr_eq (hO : Ok m) (c : Dev nD) (hT : ∀ i : S152.Idx, ((tbl m 0 : S152.Idx → BitVec 32) i).toNat < 8) :
    (dats m hO 0 c).arrAt 4 (cfgM m hO).N
      = wholeR (V m c main_arg0) (V m c main_arg1) (V m c main_arg2) (V m c main_arg3) (tbl m 0) (tbl m 1) := by
  refine (dats m hO 0 c).arrAt_eq_of_emb 4 _ (fun t hf y => ?_) (fun i => ?_)
  · have h3 : t.val % 4 = 3 := of_decide_eq_true ((flush4 m hO t).symm.trans hf)
    have ht : t.val < 608 := t.isLt
    obtain ⟨r, d, rfl⟩ : ∃ (r : Fin 512) (d : Fin 2048), y = ix2 r d :=
      ⟨(show S512x2048.Idx from y) 0, (show S512x2048.Idx from y) 1, eq_ix2 (show S512x2048.Idx from y)⟩
    have w := outs_whole m hO c hT t h3 r d ⟨t.val / 4 * 512 + r.val, by omega⟩ rfl
    have q := read4_at m hO c t
      (wholeR (V m c main_arg0) (V m c main_arg1) (V m c main_arg2) (V m c main_arg3) (tbl m 0) (tbl m 1)) r d
      ⟨t.val / 4 * 512 + r.val, by omega⟩ rfl
    have p := w.trans q.symm
    rw [after4]
    exact p
  · have h0 : ((show S77824x2048.Idx from i) 0).val < 77824 := ((show S77824x2048.Idx from i) 0).isLt
    refine ⟨⟨((show S77824x2048.Idx from i) 0).val / 512 * 4 + 3, ?_⟩, ?_, ?_⟩
    · show _ < 608
      omega
    · rw [flush4]
      exact decide_eq_true (show (((show S77824x2048.Idx from i) 0).val / 512 * 4 + 3) % 4 = 3 by omega)
    · exact mem4 m hO _ i (show ((show S77824x2048.Idx from i) 0).val / 512
        = (((show S77824x2048.Idx from i) 0).val / 512 * 4 + 3) / 4 by omega)

/-- The call runs, ends with the reference's values of its arguments and keeps the arguments. -/
theorem run_whole (ρ : Dev nD → PrngReg) (hO : Ok m) (hT : ∀ i : S152.Idx, ((tbl m 0 : S152.Idx → BitVec 32) i).toNat < 8) :
    θ_run defs (onTc (τ := τ) (main (F := Ideal))) ⟨m, fun _ => 0, ρ⟩ (fun r => ∀ c : Dev nD,
      r.2.mem ((c.tc : Thread nD τ).loc main_v0)
        = wholeR (V m c main_arg0) (V m c main_arg1) (V m c main_arg2) (V m c main_arg3) (tbl m 0) (tbl m 1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 4).trans (arr_eq m hO c hT),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).1 2).trans (((dats m hO 0 c).arrAt_in 2 rfl _).trans ((A_eq m hO c 2).trans (V_main_arg2 m c))),
      ((h c).1 3).trans (((dats m hO 0 c).arrAt_in 3 rfl _).trans ((A_eq m hO c 3).trans (V_main_arg3 m c))),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) (run_main m ρ hO)

end Cert.Gmm

end
-- ==== Proof.lean ====
module

public import proofs.«01_k».proof.Defs
public import proofs.«01_k».proof.Proof.Gen.KernelIdeal.Value
public import proofs.«01_k».proof.Proof.Gen.ReferenceIdeal.Run
public import proofs.«01_k».proof.Proof.KernelResult
public import proofs.«01_k».proof.Proof.Packed
public import proofs.«01_k».proof.Proof.Attend
public import proofs.«01_k».proof.Proof.Finite
public import proofs.«01_k».proof.Proof.FfnHost
public import proofs.«01_k».proof.Proof.DownHost
public import proofs.«01_k».proof.Proof.OutHost
public import proofs.«01_k».proof.Proof.ProjEnd
public import proofs.«01_k».proof.Proof.ProjBitsFrame
public import proofs.«01_k».proof.Proof.GmmOk
public import proofs.«01_k».proof.Proof.GmmRef
public import proofs.«01_k».proof.Proof.GmmFrame
public import proofs.«01_k».proof.Proof.GmmBitsFrame
public import proofs.«01_k».proof.Proof.GmmResult
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Reference6Ideal
public import proofs.«01_k».proof.Proof.Gen.Reference6Ideal.Run
public import Idealize.ShloMosaic.Adequacy
public import Idealize.ShloMosaic.Init

@[expose] public section

noncomputable section

namespace Cert.Proof

open Idealize.ShloMosaic Idealize.SL.Sem Cert.Kernel

/-- With finite queries and keys both programs run, keep their arguments and end with one result. -/
theorem value [Cert.Pre_finite_scores.Facts] :
    @Cert.algebraic_KernelIdeal_ReferenceIdeal_pre_finite_scores Cert.KernelIdeal.Gen.facts Cert.ReferenceIdeal.Gen.facts _ := by
  intro m g m' g' hpre hagree
  refine ⟨fun c => (Cert.KernelIdeal.Gen.dats m 0 c).arrAt 3 (Cert.KernelIdeal.cfgs 0).N,
    Cert.KernelIdeal.Value.run_blocks m g, ?_⟩
  refine (θ_run _ _ _).mono (fun r h c => ⟨(h c).1.trans ?_, (h c).2⟩) (Cert.ReferenceIdeal.Value.run (F := Ideal) m' g')
  obtain ⟨e0, e1, e2, e3, e4⟩ := hagree c
  have hp := congrFun (hpre c)
  refine (Cert.Attend.res_eq m' c).trans ?_
  rw [e0, e1, e2, e3, e4]
  refine Eq.trans ?_ (Cert.Attend.arr_eq m c).symm
  rw [Cert.Attend.V_q, Cert.Attend.V_k, Cert.Attend.V_v]
  exact (Cert.Attend.result_eq_joined _ _ _ _ _ (Cert.Attend.pre0 _ _ _ _ _ hp) (Cert.Attend.pre1 _ _ _ _ _ hp)
    (Cert.Attend.pre2 _ _ _ _ _ hp) (Cert.Attend.pre3 _ _ _ _ _ hp)).symm

/-- The reference runs, keeps its arguments and leaves every counter at zero. -/
theorem frame_reference : @Cert.quiescent_ReferenceIdeal Cert.ReferenceIdeal.Gen.facts := fun m ρ _ =>
  (θ_run _ _ _).mono (fun r h => ⟨fun c => (h c).2, sem_eq_zero_of_no_sems (by decide) r.2⟩)
    (Cert.ReferenceIdeal.Value.run (F := Ideal) m ρ)

/-- The normalised SwiGLU call and its reference run, keep their arguments and end with one result. -/
theorem value2 : @Cert.algebraic_Kernel2Ideal_Reference2Ideal Cert.Kernel2Ideal.Gen.facts Cert.Reference2Ideal.Gen.facts := by
  intro m g m' g' _ hagree
  refine ⟨fun c => (Cert.Kernel2Ideal.Gen.dats m 0 c).arrAt 5 (Cert.Kernel2Ideal.cfgs 0).N,
    Cert.Kernel2Ideal.Value.run_blocks m g, ?_⟩
  refine (θ_run _ _ _).mono (fun r h c => ⟨(h c).1.trans ?_, (h c).2⟩) (Cert.Reference2Ideal.Value.run (F := Ideal) m' g')
  obtain ⟨e0, e1, e2, e3, e4⟩ := hagree c
  refine (Cert.Ffn.res_eq m' c).trans ?_
  rw [e0, e1, e2, e3, e4]
  refine Eq.trans ?_ (Cert.Ffn.arr_eq m c).symm
  rw [Cert.Ffn.V_x, Cert.Ffn.V_g, Cert.Ffn.V_t, Cert.Ffn.V_w1, Cert.Ffn.V_w3]
  exact (Cert.Ffn.product_eq_whole _ _ _ _ _).symm

/-- The normalised SwiGLU reference runs, keeps its arguments and leaves every counter at zero. -/
theorem frame_reference2 : @Cert.quiescent_Reference2Ideal Cert.Reference2Ideal.Gen.facts := fun m ρ _ =>
  (θ_run _ _ _).mono (fun r h => ⟨fun c => (h c).2, sem_eq_zero_of_no_sems (by decide) r.2⟩)
    (Cert.Reference2Ideal.Value.run (F := Ideal) m ρ)

/-- The gated last product and its reference run, keep their arguments and end with one result. -/
theorem value3 : @Cert.algebraic_Kernel3Ideal_Reference3Ideal Cert.Kernel3Ideal.Gen.facts Cert.Reference3Ideal.Gen.facts := by
  intro m g m' g' _ hagree
  refine ⟨fun c => (Cert.Kernel3Ideal.Gen.dats m 0 c).arrAt 4 (Cert.Kernel3Ideal.cfgs 0).N,
    Cert.Kernel3Ideal.Value.run_blocks m g, ?_⟩
  refine (θ_run _ _ _).mono (fun r h c => ⟨(h c).1.trans ?_, (h c).2⟩) (Cert.Reference3Ideal.Value.run (F := Ideal) m' g')
  obtain ⟨e0, e1, e2, e3⟩ := hagree c
  rw [e0, e1, e2, e3]
  refine Eq.trans ?_ (Cert.Down.arr_eq m c).symm
  rw [Cert.Down.V_a, Cert.Down.V_w, Cert.Down.V_x, Cert.Down.V_t]
  exact (Cert.Down.product_eq_whole _ _ _ _).symm

/-- The gated last product's reference runs, keeps its arguments and leaves every counter at zero. -/
theorem frame_reference3 : @Cert.quiescent_Reference3Ideal Cert.Reference3Ideal.Gen.facts := fun m ρ _ =>
  (θ_run _ _ _).mono (fun r h => ⟨fun c => (h c).2, sem_eq_zero_of_no_sems (by decide) r.2⟩)
    (Cert.Reference3Ideal.Value.run (F := Ideal) m ρ)

/-- The output projection and its reference run, keep their arguments and end with one result. -/
theorem value4 : @Cert.algebraic_Kernel4Ideal_Reference4Ideal Cert.Kernel4Ideal.Gen.facts Cert.Reference4Ideal.Gen.facts := by
  intro m g m' g' _ hagree
  refine ⟨fun c => (Cert.Kernel4Ideal.Gen.dats m 0 c).arrAt 7 (Cert.Kernel4Ideal.cfgs 0).N,
    Cert.Kernel4Ideal.Value.run_blocks m g, ?_⟩
  refine (θ_run _ _ _).mono (fun r h c => ⟨(h c).1.trans ?_, (h c).2⟩) (Cert.Reference4Ideal.Value.run (F := Ideal) m' g')
  obtain ⟨e0, e1, e2, e3, e4, e5, e6⟩ := hagree c
  rw [e0, e1, e2, e3, e4, e5, e6]
  refine Eq.trans ?_ (Cert.Out.arr_eq m c).symm
  rw [Cert.Out.V_a, Cert.Out.V_b, Cert.Out.V_c, Cert.Out.V_d, Cert.Out.V_w, Cert.Out.V_x, Cert.Out.V_t]
  exact (Cert.Out.product_eq_whole _ _ _ _ _ _ _).symm

/-- The output projection's reference runs, keeps its arguments and leaves every counter at zero. -/
theorem frame_reference4 : @Cert.quiescent_Reference4Ideal Cert.Reference4Ideal.Gen.facts := fun m ρ _ =>
  (θ_run _ _ _).mono (fun r h => ⟨fun c => (h c).2, sem_eq_zero_of_no_sems (by decide) r.2⟩)
    (Cert.Reference4Ideal.Value.run (F := Ideal) m ρ)

/-- The input projection and its reference run, keep their arguments and end with the same five results. -/
theorem value5 : @Cert.algebraic_Kernel5Ideal_Reference5Ideal Cert.Kernel5Ideal.Gen.facts Cert.Reference5Ideal.Gen.facts := by
  intro m g m' g' _ hagree
  refine ⟨fun c => Cert.Proj.part0R (Cert.Proj.wholeK m c), fun c => Cert.Proj.part1R (Cert.Proj.wholeK m c),
    fun c => Cert.Proj.part2R (Cert.Proj.wholeK m c), fun c => Cert.Proj.part3R (Cert.Proj.wholeK m c),
    fun c => Cert.Proj.part4R (Cert.Proj.wholeK m c), Cert.Proj.run_parts m g, ?_⟩
  refine (θ_run _ _ _).mono (fun r h c => ?_) (Cert.Reference5Ideal.Value.run (F := Ideal) m' g')
  obtain ⟨e0, e1, e2, e3⟩ := hagree c
  obtain ⟨h0, h1, h2, h3, h4, k⟩ := h c
  rw [e0, e1, e2, e3] at h0 h1 h2 h3 h4
  exact ⟨h0, h1, h2, h3, h4, k⟩

/-- The input projection's reference runs, keeps its arguments and leaves every counter at zero. -/
theorem frame_reference5 : @Cert.quiescent_Reference5Ideal Cert.Reference5Ideal.Gen.facts := fun m ρ _ =>
  (θ_run _ _ _).mono (fun r h => ⟨fun c => (h c).2.2.2.2.2, sem_eq_zero_of_no_sems (by decide) r.2⟩)
    (Cert.Reference5Ideal.Value.run (F := Ideal) m ρ)

/-- Every tile's expert is one of the eight. -/
theorem experts6 [Cert.Pre_experts_in_range.Facts] (m : (ℓ : Loc Cert.Kernel6.nD Cert.Kernel6.τ Cert.Kernel6.sig) → Buf (Elt Bits) ℓ)
    (h : Cert.Pre_Kernel6 m) (i : Cert.Kernel6.S152.Idx) : (Cert.Kernel6.Gmm.tbl m 0 i : BitVec 32).toNat < 8 :=
  Cert.Gmm.experts_lt _ _ _ _ _ _ (h 0) i

/-- The same of the idealized program. -/
theorem experts6_ideal [Cert.Pre_experts_in_range.Facts] (m : (ℓ : Loc Cert.Kernel6Ideal.nD Cert.Kernel6Ideal.τ Cert.Kernel6Ideal.sig) → Buf (Elt Ideal) ℓ)
    (h : Cert.Pre_Kernel6Ideal m) (i : Cert.Kernel6Ideal.S152.Idx) : (Cert.Kernel6Ideal.Gmm.tbl m 0 i : BitVec 32).toNat < 8 :=
  Cert.Gmm.experts_lt _ _ _ _ _ _ (h 0) i

/-- With every tile's expert in range the experts' product runs, keeps its arguments and leaves every counter at zero. -/
theorem frame6 [Cert.Pre_experts_in_range.Facts] : @Cert.quiescent_Kernel6 Cert.Kernel6.Gen.facts _ := fun m ρ h =>
  Cert.Kernel6.Gmm.frame m ρ (Cert.Gmm.ok_bits m (experts6 m h))

/-- The same of the idealized program. -/
theorem frame6_ideal [Cert.Pre_experts_in_range.Facts] : @Cert.quiescent_Kernel6Ideal Cert.Kernel6Ideal.Gen.facts _ := fun m ρ h =>
  Cert.Kernel6Ideal.Gmm.frame m ρ (Cert.Gmm.ok_ideal m (experts6_ideal m h))

/-- The experts' product and its reference run, keep their arguments and end with one result. -/
theorem value6 [Cert.Pre_experts_in_range.Facts] :
    @Cert.algebraic_Kernel6Ideal_Reference6Ideal Cert.Kernel6Ideal.Gen.facts Cert.Reference6Ideal.Gen.facts _ := by
  intro m g m' g' hpre hagree
  have hT := experts6_ideal m hpre
  refine ⟨fun c => Cert.Gmm.wholeR (Cert.Kernel6Ideal.Gmm.V m c Cert.Kernel6Ideal.main_arg0) (Cert.Kernel6Ideal.Gmm.V m c Cert.Kernel6Ideal.main_arg1)
    (Cert.Kernel6Ideal.Gmm.V m c Cert.Kernel6Ideal.main_arg2) (Cert.Kernel6Ideal.Gmm.V m c Cert.Kernel6Ideal.main_arg3)
    (Cert.Kernel6Ideal.Gmm.tbl m 0) (Cert.Kernel6Ideal.Gmm.tbl m 1), Cert.Gmm.run_whole m g (Cert.Gmm.ok_ideal m hT) hT, ?_⟩
  refine (θ_run _ _ _).mono (fun r h c => ⟨(h c).1.trans ?_, (h c).2⟩) (Cert.Reference6Ideal.Value.run (F := Ideal) m' g')
  obtain ⟨e0, e1, e2, e3, e4, e5⟩ := hagree c
  obtain rfl : c = 0 := Subsingleton.elim _ _
  rw [e0, e1, e2, e3, e4, e5]
  rfl

/-- The experts' product's reference runs, keeps its arguments and leaves every counter at zero. -/
theorem frame_reference6 : @Cert.quiescent_Reference6Ideal Cert.Reference6Ideal.Gen.facts := fun m ρ _ =>
  (θ_run _ _ _).mono (fun r h => ⟨fun c => (h c).2, sem_eq_zero_of_no_sems (by decide) r.2⟩)
    (Cert.Reference6Ideal.Value.run (F := Ideal) m ρ)

/-- All the claims together. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Attend.pre_facts, Cert.Gmm.pre_facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Proj.frame m ρ, fun m ρ _ => Cert.Kernel5Ideal.Proj.frame m ρ, frame_reference5,
  @frame6 Cert.Gmm.pre_facts, @frame6_ideal Cert.Gmm.pre_facts, frame_reference6, fun m ρ _ => frame_reference6 m ρ trivial,
  trivial, @value Cert.Attend.pre_facts, trivial, value2, trivial, value3, trivial, value4, trivial, value5, trivial, @value6 Cert.Gmm.pre_facts⟩

end Cert.Proof

end
